-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_inputs_finite [hPre_inputs_finite : Cert.Pre_inputs_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_inputs_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_inputs_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_inputs_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_inputs_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_inputs_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_inputs_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_inputs_finite [hPre_inputs_finite : Cert.Pre_inputs_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_inputs_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_inputs_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_inputs_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_inputs_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_inputs_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_inputs_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_inputs_finite [hKernel4Ideal : Cert.Kernel4Ideal.Facts] [hPre_inputs_finite : Cert.Pre_inputs_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_inputs_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_inputs_finite [hReference4Ideal : Cert.Reference4Ideal.Facts] [hPre_inputs_finite : Cert.Pre_inputs_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_inputs_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_inputs_finite [hKernel4Ideal : Cert.Kernel4Ideal.Facts] [hReference4Ideal : Cert.Reference4Ideal.Facts] [hPre_inputs_finite : Cert.Pre_inputs_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_inputs_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v73)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v73) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v129) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v16_0)) (v1 : (c : Dev Cert.Kernel6Ideal.nD) → Buf (Elt Ideal) ((c.tc : Thread Cert.Kernel6Ideal.nD Cert.Kernel6Ideal.τ).loc Cert.Kernel6Ideal.main_v16_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16_0) = v0 c
          ∧ r.2.mem ((c.tc : Thread Cert.Kernel6Ideal.nD Cert.Kernel6Ideal.τ).loc Cert.Kernel6Ideal.main_v16_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_inputs_finite (hKernel4Ideal := hKernel4Ideal) (hPre_inputs_finite := hPre_inputs_finite)
    ∧ quiescent_Reference4Ideal (hReference4Ideal := hReference4Ideal)
    ∧ quiescent_Reference4Ideal_pre_inputs_finite (hReference4Ideal := hReference4Ideal) (hPre_inputs_finite := hPre_inputs_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_inputs_finite (hKernel4Ideal := hKernel4Ideal) (hReference4Ideal := hReference4Ideal) (hPre_inputs_finite := hPre_inputs_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_inputs_finite.lean ====
abbrev S8192x6144 : Shape := ⟨2, ![8192, 6144]⟩
abbrev S32x16 : Shape := ⟨2, ![32, 16]⟩
abbrev S2x8x128 : Shape := ⟨3, ![2, 8, 128]⟩
abbrev S2x64 : Shape := ⟨2, ![2, 64]⟩
abbrev S_ : Shape := ⟨0, ![]⟩

class Facts : Prop where
  bcast_S_S8192x6144 : S_.BroadcastsInDim S8192x6144 (![] : Fin 0 → Fin S8192x6144.rank)
  bcast_S_S32x16 : S_.BroadcastsInDim S32x16 (![] : Fin 0 → Fin S32x16.rank)
  bcast_S_S2x64 : S_.BroadcastsInDim S2x64 (![] : Fin 0 → Fin S2x64.rank)

variable [Facts]

def fn {F : FTy → Type} [FloatOps F] (main_arg0 : FVec F S8192x6144 .bf16) (main_arg1 : FVec F S32x16 .f32) (main_arg2 : FVec F S2x8x128 .f32) (main_arg3 : FVec F S2x64 .f32) (main_arg4 : FVec F S2x64 .f32) (main_arg5 : FVec F S2x64 .f32) (main_arg6 : FVec F S2x64 .f32) : IVec S8192x6144 1 × IVec S32x16 1 × IVec S2x64 1 × IVec S2x64 1 × IVec S2x64 1 × IVec S2x64 1 :=
  let main_v0 : FVec F S8192x6144 .bf16 := Host.absf main_arg0
  let main_cst : FVec F S_ .bf16 := constant S_ .bf16 0x7F80#16
  let main_v1 : FVec F S8192x6144 .bf16 := broadcastInDim S8192x6144 ![] bcast_S_S8192x6144 main_cst
  let main_v2 : IVec S8192x6144 1 := cmpf .olt main_v0 main_v1
  let main_v3 : FVec F S32x16 .f32 := Host.absf main_arg1
  let main_cst_0 : FVec F S_ .f32 := constant S_ .f32 0x7F800000#32
  let main_v4 : FVec F S32x16 .f32 := broadcastInDim S32x16 ![] bcast_S_S32x16 main_cst_0
  let main_v5 : IVec S32x16 1 := cmpf .olt main_v3 main_v4
  let main_v6 : FVec F S2x64 .f32 := Host.absf main_arg3
  let main_cst_1 : FVec F S_ .f32 := constant S_ .f32 0x7F800000#32
  let main_v7 : FVec F S2x64 .f32 := broadcastInDim S2x64 ![] bcast_S_S2x64 main_cst_1
  let main_v8 : IVec S2x64 1 := cmpf .olt main_v6 main_v7
  let main_v9 : FVec F S2x64 .f32 := Host.absf main_arg4
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_v12 : FVec F S2x64 .f32 := Host.absf main_arg5
  let main_cst_3 : FVec F S_ .f32 := constant S_ .f32 0x7F800000#32
  let main_v13 : FVec F S2x64 .f32 := broadcastInDim S2x64 ![] bcast_S_S2x64 main_cst_3
  let main_v14 : IVec S2x64 1 := cmpf .olt main_v12 main_v13
  let main_v15 : FVec F S2x64 .f32 := Host.absf main_arg6
  let main_cst_4 : FVec F S_ .f32 := constant S_ .f32 0x7F800000#32
  let main_v16 : FVec F S2x64 .f32 := broadcastInDim S2x64 ![] bcast_S_S2x64 main_cst_4
  let main_v17 : IVec S2x64 1 := cmpf .olt main_v15 main_v16
  (main_v2, main_v5, main_v8, main_v11, main_v14, main_v17)
-- ==== Kernel.lean ====
abbrev S8192x6144 : Shape := ⟨2, ![8192, 6144]⟩
abbrev S32x16 : Shape := ⟨2, ![32, 16]⟩
abbrev S2x8x128 : Shape := ⟨3, ![2, 8, 128]⟩
abbrev S2x64 : Shape := ⟨2, ![2, 64]⟩
abbrev S1x64 : Shape := ⟨2, ![1, 64]⟩
abbrev S64 : Shape := ⟨1, ![64]⟩
abbrev S_ : Shape := ⟨0, ![]⟩
abbrev S1x8x128 : Shape := ⟨3, ![1, 8, 128]⟩
abbrev S8x128 : Shape := ⟨2, ![8, 128]⟩
abbrev S5 : Shape := ⟨1, ![5]⟩
abbrev S5x1x1 : Shape := ⟨3, ![5, 1, 1]⟩
abbrev S256 : Shape := ⟨1, ![256]⟩
abbrev S1x1x256 : Shape := ⟨3, ![1, 1, 256]⟩
abbrev S5x1x256 : Shape := ⟨3, ![5, 1, 256]⟩
abbrev S1x256x1 : Shape := ⟨3, ![1, 256, 1]⟩
abbrev S5x256x256 : Shape := ⟨3, ![5, 256, 256]⟩
abbrev S327680 : Shape := ⟨1, ![327680]⟩
abbrev S1x327680 : Shape := ⟨2, ![1, 327680]⟩
abbrev S32 : Shape := ⟨1, ![32]⟩
abbrev S32x1 : Shape := ⟨2, ![32, 1]⟩
abbrev S32x327680 : Shape := ⟨2, ![32, 327680]⟩
abbrev S16x32 : Shape := ⟨2, ![16, 32]⟩
abbrev S16x327680 : Shape := ⟨2, ![16, 327680]⟩
abbrev S16x5x256x256 : Shape := ⟨4, ![16, 5, 256, 256]⟩
abbrev S8x5x256x256 : Shape := ⟨4, ![8, 5, 256, 256]⟩
abbrev S1 : Shape := ⟨1, ![1]⟩
abbrev S8x1x128 : Shape := ⟨3, ![8, 1, 128]⟩
abbrev S8192x1024 : Shape := ⟨2, ![8192, 1024]⟩
abbrev S1024x128 : Shape := ⟨2, ![1024, 128]⟩
abbrev S4096x128 : Shape := ⟨2, ![4096, 128]⟩
abbrev S1x5x256x256 : Shape := ⟨4, ![1, 5, 256, 256]⟩
abbrev S1x1x128 : Shape := ⟨3, ![1, 1, 128]⟩
abbrev S2x256x4096 : Shape := ⟨3, ![2, 256, 4096]⟩
abbrev S4096x256 : Shape := ⟨2, ![4096, 256]⟩
abbrev S256x128 : Shape := ⟨2, ![256, 128]⟩
abbrev S256x256 : Shape := ⟨2, ![256, 256]⟩
abbrev S1x1x256x256 : Shape := ⟨4, ![1, 1, 256, 256]⟩
abbrev S1x256x256 : Shape := ⟨3, ![1, 256, 256]⟩
abbrev S256x1 : Shape := ⟨2, ![256, 1]⟩
abbrev S1x256x4096 : Shape := ⟨3, ![1, 256, 4096]⟩
abbrev S256x4096 : Shape := ⟨2, ![256, 4096]⟩
abbrev S1x128 : Shape := ⟨2, ![1, 128]⟩

abbrev nBuf : Space → Nat
  | .hbm => 98
  | .vmem => 15
  | .smem => 1
  | _ => 0

abbrev bufTy : (tb : Table) → Fin (tcTables nBuf tb) → BufTy
  | .hbm, ⟨0, _⟩ => ⟨S8192x6144, .bf16⟩
  | .hbm, ⟨1, _⟩ => ⟨S32x16, .f32⟩
  | .hbm, ⟨2, _⟩ => ⟨S2x8x128, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x8x128, .f32⟩
  | .hbm, ⟨27, _⟩ => ⟨S8x128, .f32⟩
  | .hbm, ⟨28, _⟩ => ⟨S5, .i32⟩
  | .hbm, ⟨29, _⟩ => ⟨S5x1x1, .i32⟩
  | .hbm, ⟨30, _⟩ => ⟨S_, .i32⟩
  | .hbm, ⟨31, _⟩ => ⟨S5x1x1, .i32⟩
  | .hbm, ⟨32, _⟩ => ⟨S5x1x1, .i32⟩
  | .hbm, ⟨33, _⟩ => ⟨S_, .i32⟩
  | .hbm, ⟨34, _⟩ => ⟨S5x1x1, .i32⟩
  | .hbm, ⟨35, _⟩ => ⟨S5x1x1, .i32⟩
  | .hbm, ⟨36, _⟩ => ⟨S256, .i32⟩
  | .hbm, ⟨37, _⟩ => ⟨S1x1x256, .i32⟩
  | .hbm, ⟨38, _⟩ => ⟨S5x1x256, .i32⟩
  | .hbm, ⟨39, _⟩ => ⟨S5x1x256, .i32⟩
  | .hbm, ⟨40, _⟩ => ⟨S5x1x256, .i32⟩
  | .hbm, ⟨41, _⟩ => ⟨S256, .i32⟩
  | .hbm, ⟨42, _⟩ => ⟨S1x256x1, .i32⟩
  | .hbm, ⟨43, _⟩ => ⟨S5x256x256, .i32⟩
  | .hbm, ⟨44, _⟩ => ⟨S5x256x256, .i32⟩
  | .hbm, ⟨45, _⟩ => ⟨S5x256x256, .i32⟩
  | .hbm, ⟨46, _⟩ => ⟨S5x256x256, .i32⟩
  | .hbm, ⟨47, _⟩ => ⟨S_, .i32⟩
  | .hbm, ⟨48, _⟩ => ⟨S5x256x256, .i32⟩
  | .hbm, ⟨49, _⟩ => ⟨S5x256x256, .i1⟩
  | .hbm, ⟨50, _⟩ => ⟨S_, .i32⟩
  | .hbm, ⟨51, _⟩ => ⟨S_, .i32⟩
  | .hbm, ⟨52, _⟩ => ⟨S5x256x256, .i32⟩
  | .hbm, ⟨53, _⟩ => ⟨S5x256x256, .i32⟩
  | .hbm, ⟨54, _⟩ => ⟨S5x256x256, .i32⟩
  | .hbm, ⟨55, _⟩ => ⟨S5x256x256, .i32⟩
  | .hbm, ⟨56, _⟩ => ⟨S_, .i32⟩
  | .hbm, ⟨57, _⟩ => ⟨S5x256x256, .i32⟩
  | .hbm, ⟨58, _⟩ => ⟨S5x256x256, .i32⟩
  | .hbm, ⟨59, _⟩ => ⟨S5x256x256, .f32⟩
  | .hbm, ⟨60, _⟩ => ⟨S_, .f32⟩
  | .hbm, ⟨61, _⟩ => ⟨S5x256x256, .f32⟩
  | .hbm, ⟨62, _⟩ => ⟨S5x256x256, .f32⟩
  | .hbm, ⟨63, _⟩ => ⟨S5x256x256, .f32⟩
  | .hbm, ⟨64, _⟩ => ⟨S_, .f32⟩
  | .hbm, ⟨65, _⟩ => ⟨S5x256x256, .f32⟩
  | .hbm, ⟨66, _⟩ => ⟨S5x256x256, .f32⟩
  | .hbm, ⟨67, _⟩ => ⟨S_, .f32⟩
  | .hbm, ⟨68, _⟩ => ⟨S5x256x256, .f32⟩
  | .hbm, ⟨69, _⟩ => ⟨S5x256x256, .f32⟩
  | .hbm, ⟨70, _⟩ => ⟨S5x256x256, .i32⟩
  | .hbm, ⟨71, _⟩ => ⟨S_, .i32⟩
  | .hbm, ⟨72, _⟩ => ⟨S5x256x256, .i32⟩
  | .hbm, ⟨73, _⟩ => ⟨S5x256x256, .i32⟩
  | .hbm, ⟨74, _⟩ => ⟨S_, .i32⟩
  | .hbm, ⟨75, _⟩ => ⟨S5x256x256, .i32⟩
  | .hbm, ⟨76, _⟩ => ⟨S5x256x256, .i32⟩
  | .hbm, ⟨77, _⟩ => ⟨S_, .i32⟩
  | .hbm, ⟨78, _⟩ => ⟨S5x256x256, .i32⟩
  | .hbm, ⟨79, _⟩ => ⟨S5x256x256, .i1⟩
  | .hbm, ⟨80, _⟩ => ⟨S5x256x256, .i32⟩
  | .hbm, ⟨81, _⟩ => ⟨S5x256x256, .i32⟩
  | .hbm, ⟨82, _⟩ => ⟨S5x256x256, .i32⟩
  | .hbm, ⟨83, _⟩ => ⟨S327680, .i32⟩
  | .hbm, ⟨84, _⟩ => ⟨S1x327680, .i32⟩
  | .hbm, ⟨85, _⟩ => ⟨S32, .i32⟩
  | .hbm, ⟨86, _⟩ => ⟨S32x1, .i32⟩
  | .hbm, ⟨87, _⟩ => ⟨S32x327680, .i32⟩
  | .hbm, ⟨88, _⟩ => ⟨S32x327680, .i32⟩
  | .hbm, ⟨89, _⟩ => ⟨S32x327680, .i1⟩
  | .hbm, ⟨90, _⟩ => ⟨S32x327680, .f32⟩
  | .hbm, ⟨91, _⟩ => ⟨S16x32, .f32⟩
  | .hbm, ⟨92, _⟩ => ⟨S16x327680, .f32⟩
  | .hbm, ⟨93, _⟩ => ⟨S16x5x256x256, .f32⟩
  | .hbm, ⟨94, _⟩ => ⟨S8x5x256x256, .f32⟩
  | .hbm, ⟨95, _⟩ => ⟨S1, .f32⟩
  | .hbm, ⟨96, _⟩ => ⟨S8x1x128, .f32⟩
  | .hbm, ⟨97, _⟩ => ⟨S8192x1024, .bf16⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x5x256x256, .f32⟩
  | .local _ .vmem, ⟨7, _⟩ => ⟨S1x5x256x256, .f32⟩
  | .local _ .vmem, ⟨8, _⟩ => ⟨S1x1x128, .f32⟩
  | .local _ .vmem, ⟨9, _⟩ => ⟨S1x1x128, .f32⟩
  | .local _ .vmem, ⟨10, _⟩ => ⟨S1024x128, .bf16⟩
  | .local _ .vmem, ⟨11, _⟩ => ⟨S1024x128, .bf16⟩
  | .local _ .vmem, ⟨12, _⟩ => ⟨S2x256x4096, .f32⟩
  | .local _ .vmem, ⟨13, _⟩ => ⟨S2x256x4096, .bf16⟩
  | .local _ .vmem, ⟨14, _⟩ => ⟨S4096x256, .bf16⟩
  | .local _ .smem, ⟨0, _⟩ => ⟨S1, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_c_5 : Ref sig .tc := ⟨.hbm, 51, rfl⟩
abbrev main_call0_v0 : Ref sig .tc := ⟨.hbm, 52, rfl⟩
abbrev main_call0_v1 : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 8, 4], ![false, false, false]⟩

def k0_off1 (i : grid0.Coords) (c0_i32_6 : BitVec 32) (c0_i32_5 : BitVec 32) : Fin 4 → Nat :=
  let c0_11 : Index := 0#32
  let c2_i32 : BitVec 32 := 2#32
  let c_m2_i32 : BitVec 32 := 4294967294#32
  let arg2 : BitVec 32 := BitVec.ofNat 32 (i 2).val
  let c4_i32 : BitVec 32 := 4#32
  let v15 : BitVec 32 := Scalar.muli arg2 c4_i32
  let v16 : BitVec 32 := Scalar.addi v15 c0_i32_5
  let v17 : BitVec 32 := Scalar.subi c0_i32_6 v16
  let v18 : BitVec 32 := Scalar.maxsi c_m2_i32 v17
  let v19 : BitVec 32 := Scalar.minsi c2_i32 v18
  let c2_i32_7 : BitVec 32 := 2#32
  let v20 : BitVec 32 := Scalar.addi v19 c2_i32_7
  let v24 : Index := Scalar.indexCast v20
  let c0_12 : Index := 0#32
  let c0_13 : Index := 0#32
  ![0, v24.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x5x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8192x6144 : Shape := ⟨2, ![8192, 6144]⟩
abbrev S32x16 : Shape := ⟨2, ![32, 16]⟩
abbrev S2x8x128 : Shape := ⟨3, ![2, 8, 128]⟩
abbrev S2x64 : Shape := ⟨2, ![2, 64]⟩
abbrev S2x4096x6144 : Shape := ⟨3, ![2, 4096, 6144]⟩
abbrev S2x4096x1024 : Shape := ⟨3, ![2, 4096, 1024]⟩
abbrev S2x4096x8x2x64 : Shape := ⟨5, ![2, 4096, 8, 2, 64]⟩
abbrev S2x4096x8x128 : Shape := ⟨4, ![2, 4096, 8, 128]⟩
abbrev S1x64 : Shape := ⟨2, ![1, 64]⟩
abbrev S64 : Shape := ⟨1, ![64]⟩
abbrev S_ : Shape := ⟨0, ![]⟩
abbrev S4096 : Shape := ⟨1, ![4096]⟩
abbrev S32x8 : Shape := ⟨2, ![32, 8]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S2x4096x8x1x64 : Shape := ⟨5, ![2, 4096, 8, 1, 64]⟩
abbrev S2x4096x8x64 : Shape := ⟨4, ![2, 4096, 8, 64]⟩
abbrev S2x8x4096x4096 : Shape := ⟨4, ![2, 8, 4096, 4096]⟩
abbrev S1x8x4096x4096 : Shape := ⟨4, ![1, 8, 4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S1x8x128 : Shape := ⟨3, ![1, 8, 128]⟩
abbrev S8x128 : Shape := ⟨2, ![8, 128]⟩
abbrev S2x4096x8 : Shape := ⟨3, ![2, 4096, 8]⟩
abbrev S2x4096x8x1 : Shape := ⟨4, ![2, 4096, 8, 1]⟩
abbrev S1x1x8x128 : Shape := ⟨4, ![1, 1, 8, 128]⟩
abbrev S8192x1024 : Shape := ⟨2, ![8192, 1024]⟩

abbrev nBuf : Space → Nat
  | .hbm => 166
  | .vmem => 0
  | .smem => 0
  | _ => 0

abbrev hbmTy0_0 (i : Nat) : BufTy := match i % 128 with
  | 0 => ⟨S8192x6144, .bf16⟩
  | 1 => ⟨S32x16, .f32⟩
  | 2 => ⟨S2x8x128, .f32⟩
  | 3 => ⟨S2x64, .f32⟩
  | 4 => ⟨S2x64, .f32⟩
  | 5 => ⟨S2x64, .f32⟩
  | 6 => ⟨S2x64, .f32⟩
  | 7 => ⟨S8192x6144, .f32⟩
  | 8 => ⟨S2x4096x6144, .f32⟩
  | 9 => ⟨S2x4096x1024, .f32⟩
  | 10 => ⟨S2x4096x1024, .f32⟩
  | 11 => ⟨S2x4096x1024, .f32⟩
  | 12 => ⟨S2x4096x8x2x64, .f32⟩
  | 13 => ⟨S2x4096x8x2x64, .f32⟩
  | 14 => ⟨S2x4096x8x128, .f32⟩
  | 15 => ⟨S1x64, .f32⟩
  | 16 => ⟨S64, .f32⟩
  | 17 => ⟨S1x64, .f32⟩
  | 18 => ⟨S64, .f32⟩
  | 19 => ⟨S64, .f32⟩
  | 20 => ⟨S_, .f32⟩
  | 21 => ⟨S_, .f32⟩
  | 22 => ⟨S_, .f32⟩
  | 23 => ⟨S1x64, .f32⟩
  | 24 => ⟨S64, .f32⟩
  | 25 => ⟨S1x64, .f32⟩
  | 26 => ⟨S64, .f32⟩
  | 27 => ⟨S64, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S4096, .i32⟩
  | 35 => ⟨S32x8, .f32⟩
  | 36 => ⟨S1x4096, .i32⟩
  | 37 => ⟨S4096x1, .i32⟩
  | 38 => ⟨S4096x4096, .i32⟩
  | 39 => ⟨S4096x4096, .i32⟩
  | 40 => ⟨S4096x4096, .i32⟩
  | 41 => ⟨S4096x4096, .i32⟩
  | 42 => ⟨S_, .i32⟩
  | 43 => ⟨S4096x4096, .i32⟩
  | 44 => ⟨S4096x4096, .i1⟩
  | 45 => ⟨S_, .i32⟩
  | 46 => ⟨S_, .i32⟩
  | 47 => ⟨S4096x4096, .i32⟩
  | 48 => ⟨S4096x4096, .i32⟩
  | 49 => ⟨S4096x4096, .i32⟩
  | 50 => ⟨S4096x4096, .i32⟩
  | 51 => ⟨S_, .i32⟩
  | 52 => ⟨S4096x4096, .i32⟩
  | 53 => ⟨S4096x4096, .i32⟩
  | 54 => ⟨S4096x4096, .f32⟩
  | 55 => ⟨S_, .f32⟩
  | 56 => ⟨S4096x4096, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S_, .f32⟩
  | 63 => ⟨S4096x4096, .f32⟩
  | 64 => ⟨S4096x4096, .f32⟩
  | 65 => ⟨S4096x4096, .i32⟩
  | 66 => ⟨S_, .i32⟩
  | 67 => ⟨S4096x4096, .i32⟩
  | 68 => ⟨S4096x4096, .i32⟩
  | 69 => ⟨S_, .i32⟩
  | 70 => ⟨S4096x4096, .i32⟩
  | 71 => ⟨S4096x4096, .i32⟩
  | 72 => ⟨S_, .i32⟩
  | 73 => ⟨S4096x4096, .i32⟩
  | 74 => ⟨S4096x4096, .i1⟩
  | 75 => ⟨S4096x4096, .i32⟩
  | 76 => ⟨S4096x4096, .i32⟩
  | 77 => ⟨S4096x4096, .i32⟩
  | 78 => ⟨S_, .i32⟩
  | 79 => ⟨S4096x4096, .i32⟩
  | 80 => ⟨S4096x4096, .i1⟩
  | 81 => ⟨S_, .i32⟩
  | 82 => ⟨S4096x4096, .i32⟩
  | 83 => ⟨S4096x4096, .i32⟩
  | 84 => ⟨S4096x4096, .i32⟩
  | 85 => ⟨S4096x4096x1, .i32⟩
  | 86 => ⟨S4096x4096x8, .f32⟩
  | 87 => ⟨S8x4096x4096, .f32⟩
  | 88 => ⟨S2x4096x8x1x64, .f32⟩
  | 89 => ⟨S2x4096x8x64, .f32⟩
  | 90 => ⟨S2x4096x8x1x64, .f32⟩
  | 91 => ⟨S2x4096x8x64, .f32⟩
  | 92 => ⟨S2x8x4096x4096, .f32⟩
  | 93 => ⟨S_, .f32⟩
  | 94 => ⟨S2x8x4096x4096, .f32⟩
  | 95 => ⟨S2x8x4096x4096, .f32⟩
  | 96 => ⟨S1x8x4096x4096, .f32⟩
  | 97 => ⟨S2x8x4096x4096, .f32⟩
  | 98 => ⟨S2x8x4096x4096, .f32⟩
  | 99 => ⟨S2x4096x8x1x64, .f32⟩
  | 100 => ⟨S2x4096x8x64, .f32⟩
  | 101 => ⟨S2x4096x8x1x64, .f32⟩
  | 102 => ⟨S2x4096x8x64, .f32⟩
  | 103 => ⟨S2x8x4096x4096, .f32⟩
  | 104 => ⟨S_, .f32⟩
  | 105 => ⟨S2x8x4096x4096, .f32⟩
  | 106 => ⟨S2x8x4096x4096, .f32⟩
  | 107 => ⟨S1x8x4096x4096, .f32⟩
  | 108 => ⟨S2x8x4096x4096, .f32⟩
  | 109 => ⟨S2x8x4096x4096, .f32⟩
  | 110 => ⟨S_, .f32⟩
  | 111 => ⟨S2x8x4096, .f32⟩
  | 112 => ⟨S_, .f32⟩
  | 113 => ⟨S2x8x4096, .f32⟩
  | 114 => ⟨S2x8x4096, .f32⟩
  | 115 => ⟨S2x8x4096x1, .f32⟩
  | 116 => ⟨S2x8x4096x4096, .f32⟩
  | 117 => ⟨S2x8x4096x4096, .f32⟩
  | 118 => ⟨S2x8x4096x4096, .f32⟩
  | 119 => ⟨S_, .f32⟩
  | 120 => ⟨S2x8x4096, .f32⟩
  | 121 => ⟨S2x8x4096x1, .f32⟩
  | 122 => ⟨S2x8x4096x4096, .f32⟩
  | 123 => ⟨S2x8x4096x4096, .f32⟩
  | 124 => ⟨S_, .f32⟩
  | 125 => ⟨S2x8x4096, .f32⟩
  | 126 => ⟨S_, .f32⟩
  | 127 => ⟨S2x8x4096, .f32⟩
  | _ => ⟨S8192x6144, .bf16⟩

abbrev hbmTy0_1 (i : Nat) : BufTy := match i % 128 with
  | 0 => ⟨S2x8x4096, .f32⟩
  | 1 => ⟨S2x8x4096x1, .f32⟩
  | 2 => ⟨S2x8x4096x4096, .f32⟩
  | 3 => ⟨S2x8x4096x4096, .f32⟩
  | 4 => ⟨S2x8x4096x4096, .f32⟩
  | 5 => ⟨S_, .f32⟩
  | 6 => ⟨S2x8x4096, .f32⟩
  | 7 => ⟨S2x8x4096x1, .f32⟩
  | 8 => ⟨S2x8x4096x4096, .f32⟩
  | 9 => ⟨S2x8x4096x4096, .f32⟩
  | 10 => ⟨S2x8x4096x4096, .f32⟩
  | 11 => ⟨S2x8x4096x4096, .f32⟩
  | 12 => ⟨S2x8x4096x4096, .f32⟩
  | 13 => ⟨S2x8x128x4096, .f32⟩
  | 14 => ⟨S2x4096x8x128, .f32⟩
  | 15 => ⟨S1x8x128, .f32⟩
  | 16 => ⟨S8x128, .f32⟩
  | 17 => ⟨S2x4096x8x128, .f32⟩
  | 18 => ⟨S_, .f32⟩
  | 19 => ⟨S2x4096x8, .f32⟩
  | 20 => ⟨S2x4096x8x1, .f32⟩
  | 21 => ⟨S_, .f32⟩
  | 22 => ⟨S2x4096x8x1, .f32⟩
  | 23 => ⟨S2x4096x8x1, .f32⟩
  | 24 => ⟨S_, .f32⟩
  | 25 => ⟨S2x4096x8x1, .f32⟩
  | 26 => ⟨S2x4096x8x1, .f32⟩
  | 27 => ⟨S2x4096x8x1, .f32⟩
  | 28 => ⟨S2x4096x8x128, .f32⟩
  | 29 => ⟨S2x4096x8x128, .f32⟩
  | 30 => ⟨S1x1x8x128, .f32⟩
  | 31 => ⟨S2x4096x8x128, .f32⟩
  | 32 => ⟨S2x4096x8x128, .f32⟩
  | 33 => ⟨S_, .f32⟩
  | 34 => ⟨S2x4096x8x128, .f32⟩
  | 35 => ⟨S2x4096x8x128, .f32⟩
  | 36 => ⟨S8192x1024, .f32⟩
  | 37 => ⟨S8192x1024, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_c_3 : Ref sig .tc := ⟨.hbm, 46, rfl⟩
abbrev main_call0_v0 : Ref sig .tc := ⟨.hbm, 47, rfl⟩
abbrev main_call0_v1 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_18 : Ref sig .tc := ⟨.hbm, 124, rfl⟩
abbrev main_v95 : Ref sig .tc := ⟨.hbm, 125, rfl⟩
abbrev main_cst_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_20 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_21 : Ref sig .tc := ⟨.hbm, 146, rfl⟩
abbrev main_v114 : Ref sig .tc := ⟨.hbm, 147, rfl⟩
abbrev main_v115 : Ref sig .tc := ⟨.hbm, 148, rfl⟩
abbrev main_cst_22 : Ref sig .tc := ⟨.hbm, 149, rfl⟩
abbrev main_v116 : Ref sig .tc := ⟨.hbm, 150, rfl⟩
abbrev main_v117 : Ref sig .tc := ⟨.hbm, 151, rfl⟩
abbrev main_cst_23 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_24 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩

abbrev nD : Nat := 1
abbrev τ : Topo := Topo.v7x

variable {F : FTy → Type} [FloatOps F]
-- ==== Kernel2.lean ====
abbrev S2x4096x2048 : Shape := ⟨3, ![2, 4096, 2048]⟩
abbrev S2x2048 : Shape := ⟨2, ![2, 2048]⟩
abbrev S2x2048x6144 : Shape := ⟨3, ![2, 2048, 6144]⟩
abbrev S8192x2048 : Shape := ⟨2, ![8192, 2048]⟩
abbrev S1x2048 : Shape := ⟨2, ![1, 2048]⟩
abbrev S2048 : Shape := ⟨1, ![2048]⟩
abbrev S1x2048x6144 : Shape := ⟨3, ![1, 2048, 6144]⟩
abbrev S2048x6144 : Shape := ⟨2, ![2048, 6144]⟩
abbrev S8192x6144 : Shape := ⟨2, ![8192, 6144]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S2x2048x6144, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S1x2048x6144, .f32⟩
  | .hbm, ⟨7, _⟩ => ⟨S2048x6144, .f32⟩
  | .hbm, ⟨8, _⟩ => ⟨S2048x6144, .bf16⟩
  | .hbm, ⟨9, _⟩ => ⟨S1x2048, .f32⟩
  | .hbm, ⟨10, _⟩ => ⟨S8192x6144, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x4096x2048 : Shape := ⟨3, ![2, 4096, 2048]⟩
abbrev S2x2048 : Shape := ⟨2, ![2, 2048]⟩
abbrev S2x2048x6144 : Shape := ⟨3, ![2, 2048, 6144]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x6144 : Shape := ⟨3, ![1, 2048, 6144]⟩
abbrev S2048x6144 : Shape := ⟨2, ![2048, 6144]⟩
abbrev S2x4096x6144 : Shape := ⟨3, ![2, 4096, 6144]⟩
abbrev S8192x6144 : Shape := ⟨2, ![8192, 6144]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S2x2048x6144, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S1x2048x6144, .f32⟩
  | .hbm, ⟨22, _⟩ => ⟨S2048x6144, .f32⟩
  | .hbm, ⟨23, _⟩ => ⟨S2x4096x6144, .f32⟩
  | .hbm, ⟨24, _⟩ => ⟨S8192x6144, .f32⟩
  | .hbm, ⟨25, _⟩ => ⟨S8192x6144, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel3.lean ====
abbrev S8192x2048 : Shape := ⟨2, ![8192, 2048]⟩
abbrev S8192x128 : Shape := ⟨2, ![8192, 128]⟩
abbrev S17408x2048 : Shape := ⟨2, ![17408, 2048]⟩
abbrev S2048 : Shape := ⟨1, ![2048]⟩
abbrev S1x2048 : Shape := ⟨2, ![1, 2048]⟩
abbrev S512x2048 : Shape := ⟨2, ![512, 2048]⟩
abbrev S512x128 : Shape := ⟨2, ![512, 128]⟩
abbrev S512x1 : Shape := ⟨2, ![512, 1]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S17408x2048, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x128, .f32⟩
  | .local _ .vmem, ⟨3, _⟩ => ⟨S512x128, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c17_i32 : BitVec 32 := 17#32
  let v0 : BitVec 32 := Scalar.addi c17_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x2048 : Shape := ⟨2, ![8192, 2048]⟩
abbrev S8192x128 : Shape := ⟨2, ![8192, 128]⟩
abbrev S17408x2048 : Shape := ⟨2, ![17408, 2048]⟩
abbrev S2048 : Shape := ⟨1, ![2048]⟩
abbrev S8192x1 : Shape := ⟨2, ![8192, 1]⟩
abbrev S_ : Shape := ⟨0, ![]⟩
abbrev S8192 : Shape := ⟨1, ![8192]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S17408x2048, .f32⟩
  | .hbm, ⟨3, _⟩ => ⟨S2048, .f32⟩
  | .hbm, ⟨4, _⟩ => ⟨S8192x1, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel4.lean ====
abbrev S8192x6144 : Shape := ⟨2, ![8192, 6144]⟩
abbrev S32x16 : Shape := ⟨2, ![32, 16]⟩
abbrev S2x8x128 : Shape := ⟨3, ![2, 8, 128]⟩
abbrev S2x64 : Shape := ⟨2, ![2, 64]⟩
abbrev S1x64 : Shape := ⟨2, ![1, 64]⟩
abbrev S64 : Shape := ⟨1, ![64]⟩
abbrev S_ : Shape := ⟨0, ![]⟩
abbrev S1x8x128 : Shape := ⟨3, ![1, 8, 128]⟩
abbrev S8x128 : Shape := ⟨2, ![8, 128]⟩
abbrev S5 : Shape := ⟨1, ![5]⟩
abbrev S5x1x1 : Shape := ⟨3, ![5, 1, 1]⟩
abbrev S256 : Shape := ⟨1, ![256]⟩
abbrev S1x1x256 : Shape := ⟨3, ![1, 1, 256]⟩
abbrev S5x1x256 : Shape := ⟨3, ![5, 1, 256]⟩
abbrev S1x256x1 : Shape := ⟨3, ![1, 256, 1]⟩
abbrev S5x256x256 : Shape := ⟨3, ![5, 256, 256]⟩
abbrev S327680 : Shape := ⟨1, ![327680]⟩
abbrev S1x327680 : Shape := ⟨2, ![1, 327680]⟩
abbrev S32 : Shape := ⟨1, ![32]⟩
abbrev S32x1 : Shape := ⟨2, ![32, 1]⟩
abbrev S32x327680 : Shape := ⟨2, ![32, 327680]⟩
abbrev S16x32 : Shape := ⟨2, ![16, 32]⟩
abbrev S16x327680 : Shape := ⟨2, ![16, 327680]⟩
abbrev S16x5x256x256 : Shape := ⟨4, ![16, 5, 256, 256]⟩
abbrev S8x5x256x256 : Shape := ⟨4, ![8, 5, 256, 256]⟩
abbrev S1 : Shape := ⟨1, ![1]⟩
abbrev S8x1x128 : Shape := ⟨3, ![8, 1, 128]⟩
abbrev S8192x1024 : Shape := ⟨2, ![8192, 1024]⟩
abbrev S1024x128 : Shape := ⟨2, ![1024, 128]⟩
abbrev S4096x128 : Shape := ⟨2, ![4096, 128]⟩
abbrev S1x5x256x256 : Shape := ⟨4, ![1, 5, 256, 256]⟩
abbrev S1x1x128 : Shape := ⟨3, ![1, 1, 128]⟩
abbrev S2x256x4096 : Shape := ⟨3, ![2, 256, 4096]⟩
abbrev S4096x256 : Shape := ⟨2, ![4096, 256]⟩
abbrev S256x128 : Shape := ⟨2, ![256, 128]⟩
abbrev S256x256 : Shape := ⟨2, ![256, 256]⟩
abbrev S1x1x256x256 : Shape := ⟨4, ![1, 1, 256, 256]⟩
abbrev S1x256x256 : Shape := ⟨3, ![1, 256, 256]⟩
abbrev S256x1 : Shape := ⟨2, ![256, 1]⟩
abbrev S1x256x4096 : Shape := ⟨3, ![1, 256, 4096]⟩
abbrev S256x4096 : Shape := ⟨2, ![256, 4096]⟩
abbrev S1x128 : Shape := ⟨2, ![1, 128]⟩

abbrev nBuf : Space → Nat
  | .hbm => 98
  | .vmem => 15
  | .smem => 1
  | _ => 0

abbrev bufTy : (tb : Table) → Fin (tcTables nBuf tb) → BufTy
  | .hbm, ⟨0, _⟩ => ⟨S8192x6144, .bf16⟩
  | .hbm, ⟨1, _⟩ => ⟨S32x16, .f32⟩
  | .hbm, ⟨2, _⟩ => ⟨S2x8x128, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x8x128, .f32⟩
  | .hbm, ⟨27, _⟩ => ⟨S8x128, .f32⟩
  | .hbm, ⟨28, _⟩ => ⟨S5, .i32⟩
  | .hbm, ⟨29, _⟩ => ⟨S5x1x1, .i32⟩
  | .hbm, ⟨30, _⟩ => ⟨S_, .i32⟩
  | .hbm, ⟨31, _⟩ => ⟨S5x1x1, .i32⟩
  | .hbm, ⟨32, _⟩ => ⟨S5x1x1, .i32⟩
  | .hbm, ⟨33, _⟩ => ⟨S_, .i32⟩
  | .hbm, ⟨34, _⟩ => ⟨S5x1x1, .i32⟩
  | .hbm, ⟨35, _⟩ => ⟨S5x1x1, .i32⟩
  | .hbm, ⟨36, _⟩ => ⟨S256, .i32⟩
  | .hbm, ⟨37, _⟩ => ⟨S1x1x256, .i32⟩
  | .hbm, ⟨38, _⟩ => ⟨S5x1x256, .i32⟩
  | .hbm, ⟨39, _⟩ => ⟨S5x1x256, .i32⟩
  | .hbm, ⟨40, _⟩ => ⟨S5x1x256, .i32⟩
  | .hbm, ⟨41, _⟩ => ⟨S256, .i32⟩
  | .hbm, ⟨42, _⟩ => ⟨S1x256x1, .i32⟩
  | .hbm, ⟨43, _⟩ => ⟨S5x256x256, .i32⟩
  | .hbm, ⟨44, _⟩ => ⟨S5x256x256, .i32⟩
  | .hbm, ⟨45, _⟩ => ⟨S5x256x256, .i32⟩
  | .hbm, ⟨46, _⟩ => ⟨S5x256x256, .i32⟩
  | .hbm, ⟨47, _⟩ => ⟨S_, .i32⟩
  | .hbm, ⟨48, _⟩ => ⟨S5x256x256, .i32⟩
  | .hbm, ⟨49, _⟩ => ⟨S5x256x256, .i1⟩
  | .hbm, ⟨50, _⟩ => ⟨S_, .i32⟩
  | .hbm, ⟨51, _⟩ => ⟨S_, .i32⟩
  | .hbm, ⟨52, _⟩ => ⟨S5x256x256, .i32⟩
  | .hbm, ⟨53, _⟩ => ⟨S5x256x256, .i32⟩
  | .hbm, ⟨54, _⟩ => ⟨S5x256x256, .i32⟩
  | .hbm, ⟨55, _⟩ => ⟨S5x256x256, .i32⟩
  | .hbm, ⟨56, _⟩ => ⟨S_, .i32⟩
  | .hbm, ⟨57, _⟩ => ⟨S5x256x256, .i32⟩
  | .hbm, ⟨58, _⟩ => ⟨S5x256x256, .i32⟩
  | .hbm, ⟨59, _⟩ => ⟨S5x256x256, .f32⟩
  | .hbm, ⟨60, _⟩ => ⟨S_, .f32⟩
  | .hbm, ⟨61, _⟩ => ⟨S5x256x256, .f32⟩
  | .hbm, ⟨62, _⟩ => ⟨S5x256x256, .f32⟩
  | .hbm, ⟨63, _⟩ => ⟨S5x256x256, .f32⟩
  | .hbm, ⟨64, _⟩ => ⟨S_, .f32⟩
  | .hbm, ⟨65, _⟩ => ⟨S5x256x256, .f32⟩
  | .hbm, ⟨66, _⟩ => ⟨S5x256x256, .f32⟩
  | .hbm, ⟨67, _⟩ => ⟨S_, .f32⟩
  | .hbm, ⟨68, _⟩ => ⟨S5x256x256, .f32⟩
  | .hbm, ⟨69, _⟩ => ⟨S5x256x256, .f32⟩
  | .hbm, ⟨70, _⟩ => ⟨S5x256x256, .i32⟩
  | .hbm, ⟨71, _⟩ => ⟨S_, .i32⟩
  | .hbm, ⟨72, _⟩ => ⟨S5x256x256, .i32⟩
  | .hbm, ⟨73, _⟩ => ⟨S5x256x256, .i32⟩
  | .hbm, ⟨74, _⟩ => ⟨S_, .i32⟩
  | .hbm, ⟨75, _⟩ => ⟨S5x256x256, .i32⟩
  | .hbm, ⟨76, _⟩ => ⟨S5x256x256, .i32⟩
  | .hbm, ⟨77, _⟩ => ⟨S_, .i32⟩
  | .hbm, ⟨78, _⟩ => ⟨S5x256x256, .i32⟩
  | .hbm, ⟨79, _⟩ => ⟨S5x256x256, .i1⟩
  | .hbm, ⟨80, _⟩ => ⟨S5x256x256, .i32⟩
  | .hbm, ⟨81, _⟩ => ⟨S5x256x256, .i32⟩
  | .hbm, ⟨82, _⟩ => ⟨S5x256x256, .i32⟩
  | .hbm, ⟨83, _⟩ => ⟨S327680, .i32⟩
  | .hbm, ⟨84, _⟩ => ⟨S1x327680, .i32⟩
  | .hbm, ⟨85, _⟩ => ⟨S32, .i32⟩
  | .hbm, ⟨86, _⟩ => ⟨S32x1, .i32⟩
  | .hbm, ⟨87, _⟩ => ⟨S32x327680, .i32⟩
  | .hbm, ⟨88, _⟩ => ⟨S32x327680, .i32⟩
  | .hbm, ⟨89, _⟩ => ⟨S32x327680, .i1⟩
  | .hbm, ⟨90, _⟩ => ⟨S32x327680, .f32⟩
  | .hbm, ⟨91, _⟩ => ⟨S16x32, .f32⟩
  | .hbm, ⟨92, _⟩ => ⟨S16x327680, .f32⟩
  | .hbm, ⟨93, _⟩ => ⟨S16x5x256x256, .f32⟩
  | .hbm, ⟨94, _⟩ => ⟨S8x5x256x256, .f32⟩
  | .hbm, ⟨95, _⟩ => ⟨S1, .f32⟩
  | .hbm, ⟨96, _⟩ => ⟨S8x1x128, .f32⟩
  | .hbm, ⟨97, _⟩ => ⟨S8192x1024, .bf16⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x5x256x256, .f32⟩
  | .local _ .vmem, ⟨7, _⟩ => ⟨S1x5x256x256, .f32⟩
  | .local _ .vmem, ⟨8, _⟩ => ⟨S1x1x128, .f32⟩
  | .local _ .vmem, ⟨9, _⟩ => ⟨S1x1x128, .f32⟩
  | .local _ .vmem, ⟨10, _⟩ => ⟨S1024x128, .bf16⟩
  | .local _ .vmem, ⟨11, _⟩ => ⟨S1024x128, .bf16⟩
  | .local _ .vmem, ⟨12, _⟩ => ⟨S2x256x4096, .f32⟩
  | .local _ .vmem, ⟨13, _⟩ => ⟨S2x256x4096, .bf16⟩
  | .local _ .vmem, ⟨14, _⟩ => ⟨S4096x256, .bf16⟩
  | .local _ .smem, ⟨0, _⟩ => ⟨S1, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_c_5 : Ref sig .tc := ⟨.hbm, 51, rfl⟩
abbrev main_call0_v0 : Ref sig .tc := ⟨.hbm, 52, rfl⟩
abbrev main_call0_v1 : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 8, 4], ![false, false, false]⟩

def k0_off1 (i : grid0.Coords) (c0_i32_6 : BitVec 32) (c0_i32_5 : BitVec 32) : Fin 4 → Nat :=
  let c0_11 : Index := 0#32
  let c2_i32 : BitVec 32 := 2#32
  let c_m2_i32 : BitVec 32 := 4294967294#32
  let arg2 : BitVec 32 := BitVec.ofNat 32 (i 2).val
  let c4_i32 : BitVec 32 := 4#32
  let v15 : BitVec 32 := Scalar.muli arg2 c4_i32
  let v16 : BitVec 32 := Scalar.addi v15 c0_i32_5
  let v17 : BitVec 32 := Scalar.subi c0_i32_6 v16
  let v18 : BitVec 32 := Scalar.maxsi c_m2_i32 v17
  let v19 : BitVec 32 := Scalar.minsi c2_i32 v18
  let c2_i32_7 : BitVec 32 := 2#32
  let v20 : BitVec 32 := Scalar.addi v19 c2_i32_7
  let v24 : Index := Scalar.indexCast v20
  let c0_12 : Index := 0#32
  let c0_13 : Index := 0#32
  ![0, v24.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x5x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference4Ideal.lean ====
abbrev S8192x6144 : Shape := ⟨2, ![8192, 6144]⟩
abbrev S32x16 : Shape := ⟨2, ![32, 16]⟩
abbrev S2x8x128 : Shape := ⟨3, ![2, 8, 128]⟩
abbrev S2x64 : Shape := ⟨2, ![2, 64]⟩
abbrev S2x4096x6144 : Shape := ⟨3, ![2, 4096, 6144]⟩
abbrev S2x4096x1024 : Shape := ⟨3, ![2, 4096, 1024]⟩
abbrev S2x4096x8x2x64 : Shape := ⟨5, ![2, 4096, 8, 2, 64]⟩
abbrev S2x4096x8x128 : Shape := ⟨4, ![2, 4096, 8, 128]⟩
abbrev S1x64 : Shape := ⟨2, ![1, 64]⟩
abbrev S64 : Shape := ⟨1, ![64]⟩
abbrev S_ : Shape := ⟨0, ![]⟩
abbrev S4096 : Shape := ⟨1, ![4096]⟩
abbrev S32x8 : Shape := ⟨2, ![32, 8]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S2x4096x8x1x64 : Shape := ⟨5, ![2, 4096, 8, 1, 64]⟩
abbrev S2x4096x8x64 : Shape := ⟨4, ![2, 4096, 8, 64]⟩
abbrev S2x8x4096x4096 : Shape := ⟨4, ![2, 8, 4096, 4096]⟩
abbrev S1x8x4096x4096 : Shape := ⟨4, ![1, 8, 4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S1x8x128 : Shape := ⟨3, ![1, 8, 128]⟩
abbrev S8x128 : Shape := ⟨2, ![8, 128]⟩
abbrev S2x4096x8 : Shape := ⟨3, ![2, 4096, 8]⟩
abbrev S2x4096x8x1 : Shape := ⟨4, ![2, 4096, 8, 1]⟩
abbrev S1x1x8x128 : Shape := ⟨4, ![1, 1, 8, 128]⟩
abbrev S8192x1024 : Shape := ⟨2, ![8192, 1024]⟩

abbrev nBuf : Space → Nat
  | .hbm => 166
  | .vmem => 0
  | .smem => 0
  | _ => 0

abbrev hbmTy0_0 (i : Nat) : BufTy := match i % 128 with
  | 0 => ⟨S8192x6144, .bf16⟩
  | 1 => ⟨S32x16, .f32⟩
  | 2 => ⟨S2x8x128, .f32⟩
  | 3 => ⟨S2x64, .f32⟩
  | 4 => ⟨S2x64, .f32⟩
  | 5 => ⟨S2x64, .f32⟩
  | 6 => ⟨S2x64, .f32⟩
  | 7 => ⟨S8192x6144, .f32⟩
  | 8 => ⟨S2x4096x6144, .f32⟩
  | 9 => ⟨S2x4096x1024, .f32⟩
  | 10 => ⟨S2x4096x1024, .f32⟩
  | 11 => ⟨S2x4096x1024, .f32⟩
  | 12 => ⟨S2x4096x8x2x64, .f32⟩
  | 13 => ⟨S2x4096x8x2x64, .f32⟩
  | 14 => ⟨S2x4096x8x128, .f32⟩
  | 15 => ⟨S1x64, .f32⟩
  | 16 => ⟨S64, .f32⟩
  | 17 => ⟨S1x64, .f32⟩
  | 18 => ⟨S64, .f32⟩
  | 19 => ⟨S64, .f32⟩
  | 20 => ⟨S_, .f32⟩
  | 21 => ⟨S_, .f32⟩
  | 22 => ⟨S_, .f32⟩
  | 23 => ⟨S1x64, .f32⟩
  | 24 => ⟨S64, .f32⟩
  | 25 => ⟨S1x64, .f32⟩
  | 26 => ⟨S64, .f32⟩
  | 27 => ⟨S64, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S4096, .i32⟩
  | 35 => ⟨S32x8, .f32⟩
  | 36 => ⟨S1x4096, .i32⟩
  | 37 => ⟨S4096x1, .i32⟩
  | 38 => ⟨S4096x4096, .i32⟩
  | 39 => ⟨S4096x4096, .i32⟩
  | 40 => ⟨S4096x4096, .i32⟩
  | 41 => ⟨S4096x4096, .i32⟩
  | 42 => ⟨S_, .i32⟩
  | 43 => ⟨S4096x4096, .i32⟩
  | 44 => ⟨S4096x4096, .i1⟩
  | 45 => ⟨S_, .i32⟩
  | 46 => ⟨S_, .i32⟩
  | 47 => ⟨S4096x4096, .i32⟩
  | 48 => ⟨S4096x4096, .i32⟩
  | 49 => ⟨S4096x4096, .i32⟩
  | 50 => ⟨S4096x4096, .i32⟩
  | 51 => ⟨S_, .i32⟩
  | 52 => ⟨S4096x4096, .i32⟩
  | 53 => ⟨S4096x4096, .i32⟩
  | 54 => ⟨S4096x4096, .f32⟩
  | 55 => ⟨S_, .f32⟩
  | 56 => ⟨S4096x4096, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S_, .f32⟩
  | 63 => ⟨S4096x4096, .f32⟩
  | 64 => ⟨S4096x4096, .f32⟩
  | 65 => ⟨S4096x4096, .i32⟩
  | 66 => ⟨S_, .i32⟩
  | 67 => ⟨S4096x4096, .i32⟩
  | 68 => ⟨S4096x4096, .i32⟩
  | 69 => ⟨S_, .i32⟩
  | 70 => ⟨S4096x4096, .i32⟩
  | 71 => ⟨S4096x4096, .i32⟩
  | 72 => ⟨S_, .i32⟩
  | 73 => ⟨S4096x4096, .i32⟩
  | 74 => ⟨S4096x4096, .i1⟩
  | 75 => ⟨S4096x4096, .i32⟩
  | 76 => ⟨S4096x4096, .i32⟩
  | 77 => ⟨S4096x4096, .i32⟩
  | 78 => ⟨S_, .i32⟩
  | 79 => ⟨S4096x4096, .i32⟩
  | 80 => ⟨S4096x4096, .i1⟩
  | 81 => ⟨S_, .i32⟩
  | 82 => ⟨S4096x4096, .i32⟩
  | 83 => ⟨S4096x4096, .i32⟩
  | 84 => ⟨S4096x4096, .i32⟩
  | 85 => ⟨S4096x4096x1, .i32⟩
  | 86 => ⟨S4096x4096x8, .f32⟩
  | 87 => ⟨S8x4096x4096, .f32⟩
  | 88 => ⟨S2x4096x8x1x64, .f32⟩
  | 89 => ⟨S2x4096x8x64, .f32⟩
  | 90 => ⟨S2x4096x8x1x64, .f32⟩
  | 91 => ⟨S2x4096x8x64, .f32⟩
  | 92 => ⟨S2x8x4096x4096, .f32⟩
  | 93 => ⟨S_, .f32⟩
  | 94 => ⟨S2x8x4096x4096, .f32⟩
  | 95 => ⟨S2x8x4096x4096, .f32⟩
  | 96 => ⟨S1x8x4096x4096, .f32⟩
  | 97 => ⟨S2x8x4096x4096, .f32⟩
  | 98 => ⟨S2x8x4096x4096, .f32⟩
  | 99 => ⟨S2x4096x8x1x64, .f32⟩
  | 100 => ⟨S2x4096x8x64, .f32⟩
  | 101 => ⟨S2x4096x8x1x64, .f32⟩
  | 102 => ⟨S2x4096x8x64, .f32⟩
  | 103 => ⟨S2x8x4096x4096, .f32⟩
  | 104 => ⟨S_, .f32⟩
  | 105 => ⟨S2x8x4096x4096, .f32⟩
  | 106 => ⟨S2x8x4096x4096, .f32⟩
  | 107 => ⟨S1x8x4096x4096, .f32⟩
  | 108 => ⟨S2x8x4096x4096, .f32⟩
  | 109 => ⟨S2x8x4096x4096, .f32⟩
  | 110 => ⟨S_, .f32⟩
  | 111 => ⟨S2x8x4096, .f32⟩
  | 112 => ⟨S_, .f32⟩
  | 113 => ⟨S2x8x4096, .f32⟩
  | 114 => ⟨S2x8x4096, .f32⟩
  | 115 => ⟨S2x8x4096x1, .f32⟩
  | 116 => ⟨S2x8x4096x4096, .f32⟩
  | 117 => ⟨S2x8x4096x4096, .f32⟩
  | 118 => ⟨S2x8x4096x4096, .f32⟩
  | 119 => ⟨S_, .f32⟩
  | 120 => ⟨S2x8x4096, .f32⟩
  | 121 => ⟨S2x8x4096x1, .f32⟩
  | 122 => ⟨S2x8x4096x4096, .f32⟩
  | 123 => ⟨S2x8x4096x4096, .f32⟩
  | 124 => ⟨S_, .f32⟩
  | 125 => ⟨S2x8x4096, .f32⟩
  | 126 => ⟨S_, .f32⟩
  | 127 => ⟨S2x8x4096, .f32⟩
  | _ => ⟨S8192x6144, .bf16⟩

abbrev hbmTy0_1 (i : Nat) : BufTy := match i % 128 with
  | 0 => ⟨S2x8x4096, .f32⟩
  | 1 => ⟨S2x8x4096x1, .f32⟩
  | 2 => ⟨S2x8x4096x4096, .f32⟩
  | 3 => ⟨S2x8x4096x4096, .f32⟩
  | 4 => ⟨S2x8x4096x4096, .f32⟩
  | 5 => ⟨S_, .f32⟩
  | 6 => ⟨S2x8x4096, .f32⟩
  | 7 => ⟨S2x8x4096x1, .f32⟩
  | 8 => ⟨S2x8x4096x4096, .f32⟩
  | 9 => ⟨S2x8x4096x4096, .f32⟩
  | 10 => ⟨S2x8x4096x4096, .f32⟩
  | 11 => ⟨S2x8x4096x4096, .f32⟩
  | 12 => ⟨S2x8x4096x4096, .f32⟩
  | 13 => ⟨S2x8x128x4096, .f32⟩
  | 14 => ⟨S2x4096x8x128, .f32⟩
  | 15 => ⟨S1x8x128, .f32⟩
  | 16 => ⟨S8x128, .f32⟩
  | 17 => ⟨S2x4096x8x128, .f32⟩
  | 18 => ⟨S_, .f32⟩
  | 19 => ⟨S2x4096x8, .f32⟩
  | 20 => ⟨S2x4096x8x1, .f32⟩
  | 21 => ⟨S_, .f32⟩
  | 22 => ⟨S2x4096x8x1, .f32⟩
  | 23 => ⟨S2x4096x8x1, .f32⟩
  | 24 => ⟨S_, .f32⟩
  | 25 => ⟨S2x4096x8x1, .f32⟩
  | 26 => ⟨S2x4096x8x1, .f32⟩
  | 27 => ⟨S2x4096x8x1, .f32⟩
  | 28 => ⟨S2x4096x8x128, .f32⟩
  | 29 => ⟨S2x4096x8x128, .f32⟩
  | 30 => ⟨S1x1x8x128, .f32⟩
  | 31 => ⟨S2x4096x8x128, .f32⟩
  | 32 => ⟨S2x4096x8x128, .f32⟩
  | 33 => ⟨S_, .f32⟩
  | 34 => ⟨S2x4096x8x128, .f32⟩
  | 35 => ⟨S2x4096x8x128, .f32⟩
  | 36 => ⟨S8192x1024, .f32⟩
  | 37 => ⟨S8192x1024, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_c_3 : Ref sig .tc := ⟨.hbm, 46, rfl⟩
abbrev main_call0_v0 : Ref sig .tc := ⟨.hbm, 47, rfl⟩
abbrev main_call0_v1 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_18 : Ref sig .tc := ⟨.hbm, 124, rfl⟩
abbrev main_v95 : Ref sig .tc := ⟨.hbm, 125, rfl⟩
abbrev main_cst_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_20 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_21 : Ref sig .tc := ⟨.hbm, 146, rfl⟩
abbrev main_v114 : Ref sig .tc := ⟨.hbm, 147, rfl⟩
abbrev main_v115 : Ref sig .tc := ⟨.hbm, 148, rfl⟩
abbrev main_cst_22 : Ref sig .tc := ⟨.hbm, 149, rfl⟩
abbrev main_v116 : Ref sig .tc := ⟨.hbm, 150, rfl⟩
abbrev main_v117 : Ref sig .tc := ⟨.hbm, 151, rfl⟩
abbrev main_cst_23 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_24 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩

abbrev nD : Nat := 1
abbrev τ : Topo := Topo.v7x

variable {F : FTy → Type} [FloatOps F]
-- ==== Kernel5.lean ====
abbrev S8192x1024 : Shape := ⟨2, ![8192, 1024]⟩
abbrev S8192x2048 : Shape := ⟨2, ![8192, 2048]⟩
abbrev S2x2048x2048 : Shape := ⟨3, ![2, 2048, 2048]⟩
abbrev S2x2048 : Shape := ⟨2, ![2, 2048]⟩
abbrev S2x2048x4 : Shape := ⟨3, ![2, 2048, 4]⟩
abbrev S2x4x2048x8 : Shape := ⟨4, ![2, 4, 2048, 8]⟩
abbrev S1x2048x4 : Shape := ⟨3, ![1, 2048, 4]⟩
abbrev S2048x4 : Shape := ⟨2, ![2048, 4]⟩
abbrev S1x4x2048x8 : Shape := ⟨4, ![1, 4, 2048, 8]⟩
abbrev S4x2048x8 : Shape := ⟨3, ![4, 2048, 8]⟩
abbrev S2048x4x8 : Shape := ⟨3, ![2048, 4, 8]⟩
abbrev S2048x32 : Shape := ⟨2, ![2048, 32]⟩
abbrev S2048x36 : Shape := ⟨2, ![2048, 36]⟩
abbrev S_ : Shape := ⟨0, ![]⟩
abbrev S2048x128 : Shape := ⟨2, ![2048, 128]⟩
abbrev S1x2048 : Shape := ⟨2, ![1, 2048]⟩
abbrev S2048 : Shape := ⟨1, ![2048]⟩
abbrev S8192x128 : Shape := ⟨2, ![8192, 128]⟩
abbrev S1x128 : Shape := ⟨2, ![1, 128]⟩
abbrev S512x1024 : Shape := ⟨2, ![512, 1024]⟩
abbrev S512x2048 : Shape := ⟨2, ![512, 2048]⟩
abbrev S1x2048x2048 : Shape := ⟨3, ![1, 2048, 2048]⟩
abbrev S512x128 : Shape := ⟨2, ![512, 128]⟩
abbrev S256x128 : Shape := ⟨2, ![256, 128]⟩
abbrev S256x1024 : Shape := ⟨2, ![256, 1024]⟩
abbrev S1x1024x2048 : Shape := ⟨3, ![1, 1024, 2048]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S128 : Shape := ⟨1, ![128]⟩

abbrev nBuf : Space → Nat
  | .hbm => 29
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .f32⟩
  | .hbm, ⟨3, _⟩ => ⟨S2x2048x2048, .f32⟩
  | .hbm, ⟨4, _⟩ => ⟨S2x2048, .f32⟩
  | .hbm, ⟨5, _⟩ => ⟨S2x2048x4, .f32⟩
  | .hbm, ⟨6, _⟩ => ⟨S2x4x2048x8, .f32⟩
  | .hbm, ⟨7, _⟩ => ⟨S2x2048x2048, .bf16⟩
  | .hbm, ⟨8, _⟩ => ⟨S1x2048x4, .f32⟩
  | .hbm, ⟨9, _⟩ => ⟨S2048x4, .f32⟩
  | .hbm, ⟨10, _⟩ => ⟨S1x4x2048x8, .f32⟩
  | .hbm, ⟨11, _⟩ => ⟨S4x2048x8, .f32⟩
  | .hbm, ⟨12, _⟩ => ⟨S2048x4x8, .f32⟩
  | .hbm, ⟨13, _⟩ => ⟨S2048x32, .f32⟩
  | .hbm, ⟨14, _⟩ => ⟨S2048x36, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S2048x128, .f32⟩
  | .hbm, ⟨20, _⟩ => ⟨S2048x128, .f32⟩
  | .hbm, ⟨21, _⟩ => ⟨S2048x128, .bf16⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x128, .f32⟩
  | .hbm, ⟨28, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x2048x2048, .bf16⟩
  | .local _ .vmem, ⟨7, _⟩ => ⟨S1x2048, .f32⟩
  | .local _ .vmem, ⟨8, _⟩ => ⟨S2048x128, .bf16⟩
  | .local _ .vmem, ⟨9, _⟩ => ⟨S2048x128, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x128, .f32⟩
  | .local _ .vmem, ⟨15, _⟩ => ⟨S512x128, .f32⟩
  | .local _ .vmem, ⟨16, _⟩ => ⟨S1x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S8192x1024 : Shape := ⟨2, ![8192, 1024]⟩
abbrev S8192x2048 : Shape := ⟨2, ![8192, 2048]⟩
abbrev S2x2048x2048 : Shape := ⟨3, ![2, 2048, 2048]⟩
abbrev S2x2048 : Shape := ⟨2, ![2, 2048]⟩
abbrev S2x2048x4 : Shape := ⟨3, ![2, 2048, 4]⟩
abbrev S2x4x2048x8 : Shape := ⟨4, ![2, 4, 2048, 8]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .f32⟩
  | .hbm, ⟨3, _⟩ => ⟨S2x2048x2048, .f32⟩
  | .hbm, ⟨4, _⟩ => ⟨S2x2048, .f32⟩
  | .hbm, ⟨5, _⟩ => ⟨S2x2048x4, .f32⟩
  | .hbm, ⟨6, _⟩ => ⟨S2x4x2048x8, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S1x2048x2048, .f32⟩
  | .hbm, ⟨11, _⟩ => ⟨S2048x2048, .f32⟩
  | .hbm, ⟨12, _⟩ => ⟨S8192x2048, .f32⟩
  | .hbm, ⟨13, _⟩ => ⟨S8192x2048, .f32⟩
  | .hbm, ⟨14, _⟩ => ⟨S1x2048, .f32⟩
  | .hbm, ⟨15, _⟩ => ⟨S2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel6.lean ====
abbrev S8192x1024 : Shape := ⟨2, ![8192, 1024]⟩
abbrev S8192x2048 : Shape := ⟨2, ![8192, 2048]⟩
abbrev S2x2048x2048 : Shape := ⟨3, ![2, 2048, 2048]⟩
abbrev S2x2048 : Shape := ⟨2, ![2, 2048]⟩
abbrev S2x2048x4 : Shape := ⟨3, ![2, 2048, 4]⟩
abbrev S2x4x2048x8 : Shape := ⟨4, ![2, 4, 2048, 8]⟩
abbrev S1x2048x4 : Shape := ⟨3, ![1, 2048, 4]⟩
abbrev S2048x4 : Shape := ⟨2, ![2048, 4]⟩
abbrev S1x4x2048x8 : Shape := ⟨4, ![1, 4, 2048, 8]⟩
abbrev S4x2048x8 : Shape := ⟨3, ![4, 2048, 8]⟩
abbrev S2048x4x8 : Shape := ⟨3, ![2048, 4, 8]⟩
abbrev S2048x32 : Shape := ⟨2, ![2048, 32]⟩
abbrev S2048x36 : Shape := ⟨2, ![2048, 36]⟩
abbrev S_ : Shape := ⟨0, ![]⟩
abbrev S2048x128 : Shape := ⟨2, ![2048, 128]⟩
abbrev S1x2048 : Shape := ⟨2, ![1, 2048]⟩
abbrev S2048 : Shape := ⟨1, ![2048]⟩
abbrev S8192x128 : Shape := ⟨2, ![8192, 128]⟩
abbrev S1x128 : Shape := ⟨2, ![1, 128]⟩
abbrev S512x1024 : Shape := ⟨2, ![512, 1024]⟩
abbrev S512x2048 : Shape := ⟨2, ![512, 2048]⟩
abbrev S1x2048x2048 : Shape := ⟨3, ![1, 2048, 2048]⟩
abbrev S512x128 : Shape := ⟨2, ![512, 128]⟩
abbrev S256x128 : Shape := ⟨2, ![256, 128]⟩
abbrev S256x1024 : Shape := ⟨2, ![256, 1024]⟩
abbrev S1x1024x2048 : Shape := ⟨3, ![1, 1024, 2048]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S128 : Shape := ⟨1, ![128]⟩

abbrev nBuf : Space → Nat
  | .hbm => 29
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .f32⟩
  | .hbm, ⟨3, _⟩ => ⟨S2x2048x2048, .f32⟩
  | .hbm, ⟨4, _⟩ => ⟨S2x2048, .f32⟩
  | .hbm, ⟨5, _⟩ => ⟨S2x2048x4, .f32⟩
  | .hbm, ⟨6, _⟩ => ⟨S2x4x2048x8, .f32⟩
  | .hbm, ⟨7, _⟩ => ⟨S2x2048x2048, .bf16⟩
  | .hbm, ⟨8, _⟩ => ⟨S1x2048x4, .f32⟩
  | .hbm, ⟨9, _⟩ => ⟨S2048x4, .f32⟩
  | .hbm, ⟨10, _⟩ => ⟨S1x4x2048x8, .f32⟩
  | .hbm, ⟨11, _⟩ => ⟨S4x2048x8, .f32⟩
  | .hbm, ⟨12, _⟩ => ⟨S2048x4x8, .f32⟩
  | .hbm, ⟨13, _⟩ => ⟨S2048x32, .f32⟩
  | .hbm, ⟨14, _⟩ => ⟨S2048x36, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S2048x128, .f32⟩
  | .hbm, ⟨20, _⟩ => ⟨S2048x128, .f32⟩
  | .hbm, ⟨21, _⟩ => ⟨S2048x128, .bf16⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x128, .f32⟩
  | .hbm, ⟨28, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x2048x2048, .bf16⟩
  | .local _ .vmem, ⟨7, _⟩ => ⟨S1x2048, .f32⟩
  | .local _ .vmem, ⟨8, _⟩ => ⟨S2048x128, .bf16⟩
  | .local _ .vmem, ⟨9, _⟩ => ⟨S2048x128, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x128, .f32⟩
  | .local _ .vmem, ⟨15, _⟩ => ⟨S512x128, .f32⟩
  | .local _ .vmem, ⟨16, _⟩ => ⟨S1x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S8192x1024 : Shape := ⟨2, ![8192, 1024]⟩
abbrev S8192x2048 : Shape := ⟨2, ![8192, 2048]⟩
abbrev S2x2048x2048 : Shape := ⟨3, ![2, 2048, 2048]⟩
abbrev S2x2048 : Shape := ⟨2, ![2, 2048]⟩
abbrev S2x2048x4 : Shape := ⟨3, ![2, 2048, 4]⟩
abbrev S2x4x2048x8 : Shape := ⟨4, ![2, 4, 2048, 8]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .f32⟩
  | .hbm, ⟨3, _⟩ => ⟨S2x2048x2048, .f32⟩
  | .hbm, ⟨4, _⟩ => ⟨S2x2048, .f32⟩
  | .hbm, ⟨5, _⟩ => ⟨S2x2048x4, .f32⟩
  | .hbm, ⟨6, _⟩ => ⟨S2x4x2048x8, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S1x2048x2048, .f32⟩
  | .hbm, ⟨11, _⟩ => ⟨S2048x2048, .f32⟩
  | .hbm, ⟨12, _⟩ => ⟨S8192x2048, .f32⟩
  | .hbm, ⟨13, _⟩ => ⟨S8192x2048, .f32⟩
  | .hbm, ⟨14, _⟩ => ⟨S1x2048, .f32⟩
  | .hbm, ⟨15, _⟩ => ⟨S2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel7.lean ====
abbrev S8192x2048 : Shape := ⟨2, ![8192, 2048]⟩
abbrev S8192x128 : Shape := ⟨2, ![8192, 128]⟩
abbrev S2x8448x2048 : Shape := ⟨3, ![2, 8448, 2048]⟩
abbrev S2x2048 : Shape := ⟨2, ![2, 2048]⟩
abbrev S2x2048x6144 : Shape := ⟨3, ![2, 2048, 6144]⟩
abbrev S1x2048 : Shape := ⟨2, ![1, 2048]⟩
abbrev S2048 : Shape := ⟨1, ![2048]⟩
abbrev S1x2048x6144 : Shape := ⟨3, ![1, 2048, 6144]⟩
abbrev S2048x6144 : Shape := ⟨2, ![2048, 6144]⟩
abbrev S8192x6144 : Shape := ⟨2, ![8192, 6144]⟩
abbrev S512x2048 : Shape := ⟨2, ![512, 2048]⟩
abbrev S512x128 : Shape := ⟨2, ![512, 128]⟩
abbrev S1x512x2048 : Shape := ⟨3, ![1, 512, 2048]⟩
abbrev S2048x1024 : Shape := ⟨2, ![2048, 1024]⟩
abbrev S512x1024 : Shape := ⟨2, ![512, 1024]⟩
abbrev S512x1 : Shape := ⟨2, ![512, 1]⟩
abbrev S512 : Shape := ⟨1, ![512]⟩

abbrev nBuf : Space → Nat
  | .hbm => 13
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S2x8448x2048, .f32⟩
  | .hbm, ⟨3, _⟩ => ⟨S2x2048, .f32⟩
  | .hbm, ⟨4, _⟩ => ⟨S2x2048x6144, .f32⟩
  | .hbm, ⟨5, _⟩ => ⟨S1x2048, .f32⟩
  | .hbm, ⟨6, _⟩ => ⟨S2048, .f32⟩
  | .hbm, ⟨7, _⟩ => ⟨S1x2048x6144, .f32⟩
  | .hbm, ⟨8, _⟩ => ⟨S2048x6144, .f32⟩
  | .hbm, ⟨9, _⟩ => ⟨S2048x6144, .bf16⟩
  | .hbm, ⟨10, _⟩ => ⟨S1x2048, .f32⟩
  | .hbm, ⟨11, _⟩ => ⟨S8192x6144, .bf16⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x128, .f32⟩
  | .local _ .vmem, ⟨3, _⟩ => ⟨S512x128, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x2048, .f32⟩
  | .local _ .vmem, ⟨9, _⟩ => ⟨S2048x1024, .bf16⟩
  | .local _ .vmem, ⟨10, _⟩ => ⟨S2048x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference7Ideal.lean ====
abbrev S8192x2048 : Shape := ⟨2, ![8192, 2048]⟩
abbrev S8192x128 : Shape := ⟨2, ![8192, 128]⟩
abbrev S2x8448x2048 : Shape := ⟨3, ![2, 8448, 2048]⟩
abbrev S2x2048 : Shape := ⟨2, ![2, 2048]⟩
abbrev S2x2048x6144 : Shape := ⟨3, ![2, 2048, 6144]⟩
abbrev S8192x1 : Shape := ⟨2, ![8192, 1]⟩
abbrev S1x8192x2048 : Shape := ⟨3, ![1, 8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S2x8448x2048, .f32⟩
  | .hbm, ⟨3, _⟩ => ⟨S2x2048, .f32⟩
  | .hbm, ⟨4, _⟩ => ⟨S2x2048x6144, .f32⟩
  | .hbm, ⟨5, _⟩ => ⟨S8192x1, .f32⟩
  | .hbm, ⟨6, _⟩ => ⟨S1x8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x1, .f32⟩
  | .hbm, ⟨11, _⟩ => ⟨S1x8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S1x2048x6144, .f32⟩
  | .hbm, ⟨36, _⟩ => ⟨S2048x6144, .f32⟩
  | .hbm, ⟨37, _⟩ => ⟨S8192x6144, .f32⟩
  | .hbm, ⟨38, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Proof.Math.lean ====
/- Softmax on the reals: a quotient of weighted sums does not depend on the shift of its exponents, and the
   difference of two softmaxes applied to values is the difference of their quotients. -/
module

public import Idealize.ShloMosaic.Lib.ValueIdx
public import Idealize.ShloMosaic.Lib.IdealHost
public import Mathlib.Algebra.BigOperators.Fin
public import Mathlib.Analysis.SpecialFunctions.Exp
public import Mathlib.Analysis.SpecialFunctions.Log.Basic
public import Mathlib.Algebra.BigOperators.Field
public import Mathlib.Tactic.FieldSimp
public import Mathlib.Tactic.Ring
public import Mathlib.Tactic.Linarith
public import Mathlib.Tactic.NormNum

@[expose] public section

noncomputable section

namespace Cert.DiffAttn

open Idealize.ShloMosaic

/-- A value that is a real number. -/
def IsReal (x : EReal) : Prop := ∃ y : ℝ, x = y

theorem isReal_coe (y : ℝ) : IsReal (y : EReal) := ⟨y, rfl⟩

theorem isReal_max {x y : EReal} (hx : IsReal x ∨ x = ⊥) (hy : IsReal y) : IsReal (max x y) := by
  obtain ⟨b, rfl⟩ := hy
  rcases hx with ⟨a, rfl⟩ | rfl
  · rcases le_total (a : EReal) b with h | h
    · exact ⟨b, max_eq_right h⟩
    · exact ⟨a, max_eq_left h⟩
  · exact ⟨b, by simp⟩

theorem isReal_max' {x y : EReal} (hx : IsReal x) (hy : IsReal y ∨ y = ⊥) : IsReal (max x y) := by
  rw [max_comm]; exact isReal_max hy hx

theorem isReal_fold {ι : Type} [DecidableEq ι] (f : ι → EReal) (hf : ∀ i, IsReal (f i)) (s : Finset ι) (hs : s.Nonempty) :
    IsReal (s.fold max ⊥ f) := by
  induction s using Finset.induction_on with
  | empty => exact absurd hs (by simp)
  | insert a s ha ih =>
    rw [Finset.fold_insert ha]
    rcases s.eq_empty_or_nonempty with rfl | h
    · exact isReal_max' (hf a) (.inr (by simp))
    · exact isReal_max' (hf a) (.inl (ih h))

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem isReal_sum {ι : Type} (s : Finset ι) (f : ι → EReal) (hf : ∀ i, IsReal (f i)) : IsReal (∑ i ∈ s, f i) := by
  choose g hg using hf
  exact ⟨∑ i ∈ s, g i, by rw [← coe_sum]; exact Finset.sum_congr rfl fun i _ => hg i⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_exp {x : EReal} (hx : IsReal x) : IsReal (Ideal.exp x) := by
  obtain ⟨a, rfl⟩ := hx; exact ⟨_, Ideal.exp_coe a⟩

/-- The softmax-weighted mean of the values `v` under the scores `s`. -/
def mean {n : ℕ} (s v : Fin n → ℝ) : ℝ := (∑ k, Real.exp (s k) * v k) / ∑ k, Real.exp (s k)

theorem div_coe_coe (a b : ℝ) (h : b ≠ 0) : Ideal.div a b = ((a / b : ℝ) : EReal) := by
  rw [Ideal.div_coe h, ← EReal.coe_mul]
  congr 1
  field_simp

theorem exp_sum_pos {n : ℕ} (s : Fin (n + 1) → ℝ) : 0 < ∑ k, Real.exp (s k) :=
  Finset.sum_pos (fun k _ => Real.exp_pos _) ⟨0, Finset.mem_univ _⟩

theorem exp_shift {n : ℕ} (s : Fin n → ℝ) (v : Fin n → ℝ) (m : ℝ) :
    ∑ k, Real.exp (s k - m) * v k = Real.exp (-m) * ∑ k, Real.exp (s k) * v k := by
  rw [Finset.mul_sum]
  refine Finset.sum_congr rfl fun k _ => ?_
  rw [sub_eq_add_neg, Real.exp_add]; ring

theorem exp_shift_one {n : ℕ} (s : Fin n → ℝ) (m : ℝ) :
    ∑ k, Real.exp (s k - m) = Real.exp (-m) * ∑ k, Real.exp (s k) := by
  have h := exp_shift s (fun _ => 1) m
  simpa using h

/-- The quotient of the weighted values by the sum of the weights is the softmax mean, whatever the shift. -/
theorem quotient_eq_mean {n : ℕ} (s v : Fin (n + 1) → ℝ) (m : EReal) (hm : IsReal m) :
    Ideal.div (∑ k, Ideal.exp ((s k : EReal) - m) * (v k : EReal)) (∑ k, Ideal.exp ((s k : EReal) - m) * 1) = (mean s v : ℝ) := by
  obtain ⟨m, rfl⟩ := hm
  simp only [← EReal.coe_sub, Ideal.exp_coe, mul_one, ← EReal.coe_mul]
  rw [coe_sum, coe_sum, div_coe_coe _ _ (exp_sum_pos fun k => s k - m).ne', exp_shift, exp_shift_one, mean]
  congr 1
  have := (exp_sum_pos s).ne'
  have := (Real.exp_pos (-m)).ne'
  field_simp

theorem weight_sum {n : ℕ} (s v : Fin (n + 1) → ℝ) (m : ℝ) :
    ∑ k, v k * (Real.exp (s k - m) / ∑ k, Real.exp (s k - m)) = mean s v := by
  have : ∀ k, v k * (Real.exp (s k - m) / ∑ k, Real.exp (s k - m)) = (Real.exp (s k - m) * v k) / ∑ k, Real.exp (s k - m) := by
    intro k; ring
  simp only [this]
  rw [← Finset.sum_div, exp_shift, exp_shift_one, mean]
  have := (exp_sum_pos s).ne'
  have := (Real.exp_pos (-m)).ne'
  field_simp

/-- The values weighted by the difference of two softmaxes give the difference of the two softmax means. -/
theorem diff_eq_mean {n : ℕ} (s1 s2 v : Fin (n + 1) → ℝ) (m1 m2 lam : EReal) (h1 : IsReal m1) (h2 : IsReal m2) (hl : IsReal lam) :
    ∑ k, (v k : EReal) * (Ideal.div (Ideal.exp ((s1 k : EReal) - m1)) (∑ k, Ideal.exp ((s1 k : EReal) - m1))
      - lam * Ideal.div (Ideal.exp ((s2 k : EReal) - m2)) (∑ k, Ideal.exp ((s2 k : EReal) - m2)))
      = (mean s1 v : ℝ) - lam * (mean s2 v : ℝ) := by
  obtain ⟨m1, rfl⟩ := h1
  obtain ⟨m2, rfl⟩ := h2
  obtain ⟨l, rfl⟩ := hl
  simp only [← EReal.coe_sub, Ideal.exp_coe]
  rw [coe_sum, coe_sum]
  simp only [div_coe_coe _ _ (exp_sum_pos fun k => s1 k - m1).ne', div_coe_coe _ _ (exp_sum_pos fun k => s2 k - m2).ne',
    ← EReal.coe_mul, ← EReal.coe_sub]
  rw [coe_sum, ← weight_sum s1 v m1, ← weight_sum s2 v m2]
  congr 1
  rw [Finset.mul_sum, ← Finset.sum_sub_distrib]
  exact Finset.sum_congr rfl fun k _ => by ring

/-- A dot of 128 lanes that keeps the first 64 is the dot of those 64. -/
theorem sum_low (f : Fin 128 → EReal) (g : Fin 128 → EReal) :
    ∑ d : Fin 128, (if d.val < 64 then f d else 0) * g d = ∑ e : Fin 64, f (Fin.castAdd 64 e) * g (Fin.castAdd 64 e) := by
  rw [Fin.sum_univ_add (a := 64) (b := 64)]
  have h : ∑ e : Fin 64, (if (Fin.natAdd 64 e).val < 64 then f (Fin.natAdd 64 e) else 0) * g (Fin.natAdd 64 e) = 0 :=
    Finset.sum_eq_zero fun e _ => by rw [if_neg (by simp), zero_mul]
  rw [h, add_zero]
  exact Finset.sum_congr rfl fun e _ => by rw [if_pos (by simp)]

/-- A dot of 128 lanes that keeps the last 64 is the dot of those 64. -/
theorem sum_high (f : Fin 128 → EReal) (g : Fin 128 → EReal) :
    ∑ d : Fin 128, (if d.val < 64 then 0 else f d) * g d = ∑ e : Fin 64, f (Fin.natAdd 64 e) * g (Fin.natAdd 64 e) := by
  rw [Fin.sum_univ_add (a := 64) (b := 64)]
  have h : ∑ e : Fin 64, (if (Fin.castAdd 64 e).val < 64 then 0 else f (Fin.castAdd 64 e)) * g (Fin.castAdd 64 e) = 0 :=
    Finset.sum_eq_zero fun e _ => by rw [if_pos (by simp), zero_mul]
  rw [h, zero_add]
  exact Finset.sum_congr rfl fun e _ => by rw [if_neg (by simp)]

/-- The scale of the queries comes out of a dot of reals. -/
theorem sum_scaled {n : ℕ} (q k : Fin n → ℝ) (c : ℝ) :
    ∑ e, (q e : EReal) * (c : EReal) * (k e : EReal) = (∑ e, (q e : EReal) * (k e : EReal)) * (c : EReal) := by
  simp only [← EReal.coe_mul]
  rw [coe_sum, coe_sum, ← EReal.coe_mul, Finset.sum_mul]
  congr 1
  exact Finset.sum_congr rfl fun e _ => by ring

end Cert.DiffAttn

end
-- ==== Proof.Finite.lean ====
/- What the precondition says: the projection, the bias table and the lambda vectors hold real numbers. -/
module

public import proofs.«01_k».proof.Defs
public import proofs.«01_k».proof.Proof.Math
public import Idealize.ShloMosaic.Lib.Pointwise

@[expose] public section

noncomputable section

namespace Cert.DiffAttn

open Idealize.ShloMosaic Cert.Pre_inputs_finite

/-- A value whose size is below infinity is real. -/
theorem isReal_of_abs (x : EReal) (h : FloatOps.cmpf (F := Ideal) (φ := .f32) .olt (FloatOps.hostAbsf (F := Ideal) (φ := .f32) x) (⊤ : EReal) = 1#1) : IsReal x := by
  induction x using EReal.rec with
  | bot => exact absurd h (by simp [FloatOps.cmpf, FloatOps.hostAbsf, Ideal.cmp])
  | top => exact absurd h (by simp [FloatOps.cmpf, FloatOps.hostAbsf, Ideal.cmp])
  | coe y => exact ⟨y, rfl⟩

theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

/-- An f32 array whose every value's size is below infinity is real everywhere. -/
theorem real_f32 {s : Shape} (x : FVec Ideal s .f32) (hb : S_.BroadcastsInDim s (![] : Fin 0 → Fin s.rank))
    (h : cmpf .olt (Host.absf x) (broadcastInDim s ![] hb (constant S_ .f32 0x7F800000#32 : FVec Ideal S_ .f32)) = fun _ => 1#1) (i : s.Idx) :
    IsReal (x i) :=
  isReal_of_abs _ (by rw [← top_f32]; exact congrFun h i)

/-- The same for a bf16 array. -/
theorem real_bf16 {s : Shape} (x : FVec Ideal s .bf16) (hb : S_.BroadcastsInDim s (![] : Fin 0 → Fin s.rank))
    (h : cmpf .olt (Host.absf x) (broadcastInDim s ![] hb (constant S_ .bf16 0x7F80#16 : FVec Ideal S_ .bf16)) = fun _ => 1#1) (i : s.Idx) :
    IsReal (x i) :=
  isReal_of_abs _ (by rw [← top_bf16]; exact congrFun h i)

/-- The side conditions the precondition states. -/
instance preFacts : Cert.Pre_inputs_finite.Facts where
  bcast_S_S8192x6144 := by decide +kernel
  bcast_S_S32x16 := by decide +kernel
  bcast_S_S2x64 := by decide +kernel

end Cert.DiffAttn

end
-- ==== Proof.Canon.lean ====
/- What one grid point's body computes, written once by recursion over the streams and the tiles of keys, and that the
   run's named terms are this program. -/
module

public import proofs.«01_k».proof.Proof.Gen.KernelIdeal.Value

@[expose] public section

set_option maxRecDepth 16384

noncomputable section

namespace Cert.DiffAttn

open Cert.KernelIdeal Cert.KernelIdeal.Gen Idealize.ShloMosaic Idealize.ShloMosaic.TcCoe Idealize.SL.Sem
open Cert.KernelIdeal.Facts

variable {F : FTy → Type} [FloatOps F]

theorem slot_inb (j : ℕ) : ∀ a, (![j / 16 % 2, 0, 256 * (j % 16)] : Fin 3 → ℕ) a + S1x256x256.size a ≤ S2x256x4096.size a := by
  intro a; fin_cases a <;> simp [S1x256x256, S2x256x4096, Shape.size] <;> omega

theorem row_inb (n : ℕ) : ∀ a, (![n % 2, 0, 0] : Fin 3 → ℕ) a + S1x256x4096.size a ≤ S2x256x4096.size a := by
  intro a; fin_cases a <;> simp [S1x256x4096, S2x256x4096, Shape.size] <;> omega

theorem key_inb (k : ℕ) : ∀ a, (![256 * (k % 16), 0] : Fin 2 → ℕ) a + S256x128.size a ≤ S4096x128.size a := by
  intro a; fin_cases a <;> simp [S256x128, S4096x128, Shape.size] <;> omega

theorem out_inb (q : ℕ) : ∀ a, (![256 * (q % 4), 0] : Fin 2 → ℕ) a + S256x128.size a ≤ S1024x128.size a := by
  intro a; fin_cases a <;> simp [S256x128, S1024x128, Shape.size] <;> omega

theorem q_slices (q : ℕ) : S1024x128.Slices ![256 * (q % 4), 0] S256x128 := by
  rcases (by omega : q % 4 = 0 ∨ q % 4 = 1 ∨ q % 4 = 2 ∨ q % 4 = 3) with h | h | h | h <;> rw [h]
  · exact slices_S1024x128_o0_0_S256x128
  · exact slices_S1024x128_o256_0_S256x128
  · exact slices_S1024x128_o512_0_S256x128
  · exact slices_S1024x128_o768_0_S256x128

/-- The rectangle of a staging scratch that tile `j % 16` of stream `j / 16` is kept in. -/
def slotR (j : ℕ) : Rect S2x256x4096 := Rect.unit ![j / 16 % 2, 0, 256 * (j % 16)] S1x256x256.size (slot_inb j)

/-- The rectangle of a staging scratch that stream `n` is kept in. -/
def rowR (n : ℕ) : Rect S2x256x4096 := Rect.unit ![n % 2, 0, 0] S1x256x4096.size (row_inb n)

/-- The first `N` tiles stored into a staging scratch, the last one first. -/
def pieces {e : EltTy} (P : ℕ → Vec F S1x256x256 e) : ℕ → List (View.Piece (Elt F) S2x256x4096 e)
  | 0 => []
  | j + 1 => ⟨slotR j, P j⟩ :: pieces P j

section
variable {sig : RefSig} {κ : Kind} {sp sp' : Space} (vs : View sig κ sp S2x256x4096 .f32) (vp : View sig κ sp' S2x256x4096 .bf16)
variable (Q : FVec F S1024x128 .bf16) (K : ℕ → FVec F S256x128 .bf16) (Bi : ℕ → ℕ → FVec F S1x1x256x256 .f32)
  (W : FVec F S4096x256 .bf16) (lam : Elt F .f32) (g : FVec F S1x1x128 .f32)

/-- Query rows of stream `n` (query tile `n / 2`, map `n % 2`), the other map's lanes zero. -/
def qtile (n : ℕ) : FVec F S256x128 .bf16 :=
  extractStridedSlice S256x128 ![256 * (n / 2 % 4), 0] (if n % 2 = 0 then k0_pay5 Q else k0_pay6 Q) (q_slices (n / 2))

/-- Scores of tile `j % 16` of stream `j / 16`. -/
def tile (j : ℕ) : FVec F S256x256 .f32 :=
  addf (matmul dot_S256x128_S256x128_S256x256_1_1_0_0_n_n none (qtile Q (j / 16)) (K (j % 16)) (constant S256x256 .f32 0x00000000#32))
    (shapeCast S256x256 (Bi (j % 16) (j / 32)) shapeCasts_S1x1x256x256_S256x256)

def sPieces : ℕ → List (View.Piece (Elt F) S2x256x4096 .f32) :=
  pieces fun j => shapeCast S1x256x256 (tile Q K Bi j) shapeCasts_S256x256_S1x256x256

/-- Lane by lane running maximum of the first `k` tiles of stream `n`. -/
def rmax (n : ℕ) : ℕ → FVec F S256x128 .f32
  | 0 => broadcast S256x128 (Scalar.ofBits .f32 0xFF800000#32)
  | k + 1 => maximumf (maximumf (rmax n k) (extractStridedSlice S256x128 ![0, 0] (tile Q K Bi (16 * n + k)) slices_S256x256_o0_0_S256x128))
      (extractStridedSlice S256x128 ![0, 128] (tile Q K Bi (16 * n + k)) slices_S256x256_o0_128_S256x128)

def mx (n : ℕ) : FVec F S256x1 .f32 :=
  shapeCast S256x1 (multiReduction .maximumf [1] S256 (rmax Q K Bi n 16) 0xFF800000#32 reduces_S256x128_S256 (.inl rfl) rfl) shapeCasts_S256_S256x1

/-- Tile `j % 16` of stream `j / 16` as the weights' pass reads it back. -/
def sRead (j : ℕ) : FVec F S1x256x256 .f32 :=
  vs.readCov (sPieces Q K Bi (min 128 (j + 16))) (slotR j).toLoadRect

def wt (j : ℕ) : FVec F S256x256 .bf16 :=
  truncf .bf16 (exp (subf (shapeCast S256x256 (sRead vs Q K Bi j) shapeCasts_S1x256x256_S256x256)
    (broadcastTo S256x256 (mx Q K Bi (j / 16)) broadcasts_S256x1_S256x256))) bitsLt_bf16_f32

def pPieces : ℕ → List (View.Piece (Elt F) S2x256x4096 .bf16) :=
  pieces fun j => shapeCast S1x256x256 (wt vs Q K Bi j) shapeCasts_S256x256_S1x256x256

/-- The weighted values of stream `n` over the sum of its weights. -/
def att (n : ℕ) : FVec F S256x128 .f32 :=
  let acc : FVec F S256x256 .f32 := matmul dot_S256x4096_S4096x256_S256x256_1_0_0_1_n_n none
    (shapeCast S256x4096 (vp.readCov (pPieces vs Q K Bi (16 * n + 16)) (rowR n).toLoadRect : FVec F S1x256x4096 .bf16) shapeCasts_S1x256x4096_S256x4096)
    W (constant S256x256 .f32 0x00000000#32)
  divf (extractStridedSlice S256x128 ![0, 0] acc slices_S256x256_o0_0_S256x128)
    (extractStridedSlice S256x128 ![0, 128] acc slices_S256x256_o0_128_S256x128)

def outT (q : ℕ) : FVec F S256x128 .bf16 :=
  k0_pay2 (att vs vp Q K Bi W (2 * q)) (att vs vp Q K Bi W (2 * q + 1)) lam g

def outPieces : ℕ → List (View.Piece (Elt F) S1024x128 .bf16)
  | 0 => []
  | q + 1 => ⟨Rect.unit ![256 * (q % 4), 0] S256x128.size (out_inb q), outT vs vp Q K Bi W lam g q⟩ :: outPieces q

end

section
variable (c : Dev nD) (i : grid0.Coords) (arg3 : Memref sig .tc .smem S1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x5x256x256 .f32) (harg7 : arg7.IsWhole) (arg8 : Memref sig .tc .vmem S1x1x128 .f32) (harg8 : arg8.IsWhole) (arg9 : Memref sig .tc .vmem S1024x128 .bf16) (harg9 : arg9.IsWhole) (arg10 : Memref sig .tc .vmem S2x256x4096 .f32) (harg10 : arg10.IsWhole) (arg11 : Memref sig .tc .vmem S2x256x4096 .bf16) (harg11 : arg11.IsWhole) (arg12 : Memref sig .tc .vmem S4096x256 .bf16) (harg12 : arg12.IsWhole)
  (x0 : Vec F S1 .f32) (x1 : Vec F S1024x128 .bf16) (x2 : Vec F S4096x128 .bf16) (x3 : Vec F S4096x128 .bf16) (x4 : Vec F S1x5x256x256 .f32) (x5 : Vec F S1x1x128 .f32) (xs2 : Vec F S4096x256 .bf16)

/-- The loads of the body, each through its memref. -/
def ldQ : FVec F S1024x128 .bf16 :=
  View.readAt (Elt F) arg4.view (Rect.unit ![0, 0] S1024x128.size inb_S1024x128_S1024x128_0_0).toLoadRect (harg4.unread x1)
def ldK (k : ℕ) : FVec F S256x128 .bf16 :=
  View.readAt (Elt F) arg5.view (Rect.unit (s := S4096x128) ![256 * (k % 16), 0] S256x128.size (key_inb k)).toLoadRect (harg5.unread x2)
def ldB (k q : ℕ) : FVec F S1x1x256x256 .f32 :=
  View.readAt (Elt F) arg7.view (Rect.unit (s := S1x5x256x256) (k0_off1 i (BitVec.ofNat 32 (k % 16)) (BitVec.ofNat 32 (q % 4))) S1x1x256x256.size
    (k0_off1_inb i ⟨k % 16, Nat.mod_lt _ (by decide)⟩ ⟨q % 4, Nat.mod_lt _ (by decide)⟩)).toLoadRect (harg7.unread x4)
def ldW : FVec F S4096x256 .bf16 :=
  View.readAt (Elt F) arg12.view (Rect.unit ![0, 0] S4096x256.size inb_S4096x256_S4096x256_0_0).toLoadRect (harg12.unread xs2)
def ldV : FVec F S4096x128 .bf16 :=
  View.readAt (Elt F) arg6.view (Rect.unit ![0, 0] S4096x128.size inb_S4096x128_S4096x128_0_0).toLoadRect (harg6.unread x3)
def vPieces (V : FVec F S4096x128 .bf16) : List (View.Piece (Elt F) S4096x256 .bf16) :=
  [⟨Rect.unit ![0, 128] S4096x128.size inb_S4096x256_S4096x128_0_128, k0_pay8⟩,
   ⟨Rect.unit ![0, 0] S4096x128.size inb_S4096x256_S4096x128_0_0, k0_pay7 V⟩]
def ldL : Elt F .f32 :=
  View.readAt (Elt F) arg3.view (Rect.unit ![0] S1.size inb_S1_S1_0).toLoadRect (harg3.unread x0) (Shape.Idx.first (by decide))
def ldG : FVec F S1x1x128 .f32 :=
  View.readAt (Elt F) arg8.view (Rect.unit ![0, 0, 0] S1x1x128.size inb_S1x1x128_S1x1x128_0_0_0).toLoadRect (harg8.unread x5)

end

end Cert.DiffAttn

end
-- ==== Proof.CanonRun.lean ====
/- The run's named terms are the program of `Canon`. -/
module

public import proofs.«01_k».proof.Proof.Canon
import all proofs.«01_k».proof.Proof.Gen.KernelIdeal.Frame.RunA
import all proofs.«01_k».proof.Proof.Gen.KernelIdeal.Frame.RunB

@[expose] public section

set_option maxRecDepth 16384

noncomputable section

namespace Cert.DiffAttn

open Cert.KernelIdeal Cert.KernelIdeal.Gen Idealize.ShloMosaic Idealize.ShloMosaic.TcCoe Idealize.SL.Sem
open Cert.KernelIdeal.Facts

variable {F : FTy → Type} [FloatOps F]
variable (c : Dev nD) (i : grid0.Coords) (arg3 : Memref sig .tc .smem S1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x5x256x256 .f32) (harg7 : arg7.IsWhole) (arg8 : Memref sig .tc .vmem S1x1x128 .f32) (harg8 : arg8.IsWhole) (arg9 : Memref sig .tc .vmem S1024x128 .bf16) (harg9 : arg9.IsWhole) (arg10 : Memref sig .tc .vmem S2x256x4096 .f32) (harg10 : arg10.IsWhole) (arg11 : Memref sig .tc .vmem S2x256x4096 .bf16) (harg11 : arg11.IsWhole) (arg12 : Memref sig .tc .vmem S4096x256 .bf16) (harg12 : arg12.IsWhole)
  (x0 : Vec F S1 .f32) (x1 : Vec F S1024x128 .bf16) (x2 : Vec F S4096x128 .bf16) (x3 : Vec F S4096x128 .bf16) (x4 : Vec F S1x5x256x256 .f32) (x5 : Vec F S1x1x128 .f32) (xs2 : Vec F S4096x256 .bf16)

/-- What a later query step leaves in the output block: the values' scratch is read as the steps before left it. -/
theorem run_B (hc0 : ¬cond0_0 i) :
    (kernelRun0_B c i arg3 harg3 arg4 harg4 arg5 harg5 arg6 harg6 arg7 harg7 arg8 harg8 arg9 harg9 arg10 harg10 arg11 harg11 arg12 harg12 hc0 x0 x1 x2 x3 x4 x5 xs2).1
      = outPieces arg10.view arg11.view (ldQ arg4 harg4 x1) (ldK arg5 harg5 x2) (ldB i arg7 harg7 x4) (ldW arg12 harg12 xs2)
          (ldL arg3 harg3 x0) (ldG arg8 harg8 x5) 4 := by
  sl_kernel_rfl

/-- What the first query step of a head leaves in the output block: it reads back the values' scratch that it fills. -/
theorem run_A (hc0 : cond0_0 i) :
    (kernelRun0_A c i arg3 harg3 arg4 harg4 arg5 harg5 arg6 harg6 arg7 harg7 arg8 harg8 arg9 harg9 arg10 harg10 arg11 harg11 arg12 harg12 hc0 x0 x1 x2 x3 x4 x5).1
      = outPieces arg10.view arg11.view (ldQ arg4 harg4 x1) (ldK arg5 harg5 x2) (ldB i arg7 harg7 x4)
          (arg12.view.readCov (vPieces (ldV arg6 harg6 x3)) (Rect.unit ![0, 0] S4096x256.size inb_S4096x256_S4096x256_0_0).toLoadRect)
          (ldL arg3 harg3 x0) (ldG arg8 harg8 x5) 4 := by
  sl_kernel_rfl

/-- What the first query step leaves in the values' scratch: the head's values, and ones beside them. -/
theorem scratch_A (hc0 : cond0_0 i) :
    (kernelRun0_A c i arg3 harg3 arg4 harg4 arg5 harg5 arg6 harg6 arg7 harg7 arg8 harg8 arg9 harg9 arg10 harg10 arg11 harg11 arg12 harg12 hc0 x0 x1 x2 x3 x4 x5).2.1
      = vPieces (ldV arg6 harg6 x3) := by
  sl_kernel_rfl

end Cert.DiffAttn

end
-- ==== Proof.Reads.lean ====
/- Reading the body's program at an index, floats exact. -/
module

public import proofs.«01_k».proof.Proof.Canon
public import Idealize.ShloMosaic.Lib.Pointwise

@[expose] public section

set_option maxRecDepth 16384

noncomputable section

namespace Cert.DiffAttn

open Cert.KernelIdeal Cert.KernelIdeal.Gen Idealize.ShloMosaic Idealize.ShloMosaic.TcCoe Idealize.SL.Sem
open Cert.KernelIdeal.Facts

section
variable {F : FTy → Type} [FloatOps F]

theorem slotR_emb (j : ℕ) (x : S1x256x256.Idx) (a : Fin 3) :
    ((slotR j).emb x a).val = (![j / 16 % 2, 0, 256 * (j % 16)] : Fin 3 → ℕ) a + (x a).val := by
  refine (Rect.emb_apply (s := S2x256x4096) (slotR j) x a).trans ?_
  show _ + 1 * _ = _
  rw [Nat.one_mul]; rfl

/-- A tile not yet overwritten is what the scratch holds in its place. -/
theorem canon_pieces {e : EltTy} (P : ℕ → Vec F S1x256x256 e) (j : ℕ) (x : S1x256x256.Idx) :
    ∀ N, j < N → N ≤ j + 32 → View.canon (pieces P N) ((slotR j).emb x) = P j x
  | 0, h, _ => absurd h (Nat.not_lt_zero j)
  | N + 1, h, h' => by
    by_cases e : N = j
    · subst e; exact View.canon_cons_emb (slotR N) (P N) (pieces P N) x
    · refine (View.canon_cons_of_not_mem ⟨slotR N, P N⟩ (pieces P N) ?_).trans (canon_pieces P j x N (by omega) (by omega))
      intro hm
      have hm' := (Rect.mem_set_unit (inb := slot_inb N)).1 hm
      have h0 := hm' 0
      have h2 := hm' 2
      rw [slotR_emb] at h0 h2
      have x0 : (x 0).val < 1 := (x 0).isLt
      have x2 : (x 2).val < 256 := (x 2).isLt
      simp [S1x256x256, Shape.size] at h0 h2
      omega

theorem readCov_pieces {e : EltTy} {sig : RefSig} {κ : Kind} {sp : Space} (v : View sig κ sp S2x256x4096 e)
    (P : ℕ → Vec F S1x256x256 e) (j N : ℕ) (h : j < N) (h' : N ≤ j + 32) :
    v.readCov (pieces P N) (slotR j).toLoadRect = P j := by
  rw [View.readCov_eq_canon']
  exact funext fun x => canon_pieces P j x N h h'

theorem sRead_eq {sig : RefSig} {κ : Kind} {sp : Space} (vs : View sig κ sp S2x256x4096 .f32) (Q : FVec F S1024x128 .bf16)
    (K : ℕ → FVec F S256x128 .bf16) (Bi : ℕ → ℕ → FVec F S1x1x256x256 .f32) (j : ℕ) (hj : j < 128) :
    sRead vs Q K Bi j = shapeCast S1x256x256 (tile Q K Bi j) shapeCasts_S256x256_S1x256x256 :=
  readCov_pieces vs _ j _ (by omega) (by omega)

/-- The weights of stream `n` as its weighted sum reads them back. -/
theorem readCov_row {sig : RefSig} {κ : Kind} {sp : Space} (v : View sig κ sp S2x256x4096 .bf16)
    (P : ℕ → Vec F S1x256x256 .bf16) (n : ℕ) (r : Fin 256) (k : Fin 4096) :
    v.readCov (pieces P (16 * n + 16)) (rowR n).toLoadRect (ix3 (0 : Fin 1) r k)
      = P (16 * n + k.val / 256) (ix3 (0 : Fin 1) r ⟨k.val % 256, Nat.mod_lt _ (by decide)⟩) := by
  rw [View.readCov_eq_canon']
  rw [← canon_pieces P (16 * n + k.val / 256) _ (16 * n + 16) (by have := k.isLt; omega) (by omega)]
  refine congrArg _ (funext fun a => Fin.ext ?_)
  have hk := k.isLt
  refine Eq.trans ?_ (slotR_emb _ _ a).symm
  refine (LoadRect.idx_apply _ _ a).trans ?_
  fin_cases a
  · simp [ix3, rowR, Rect.unit]; omega
  · simp [ix3, rowR, Rect.unit]
  · simp [ix3, rowR, Rect.unit]; omega

end

end Cert.DiffAttn

end
-- ==== Proof.Tile.lean ====
/- The tiles of scores, their maxima and the weighted values, read at an index. -/
module

public import proofs.«01_k».proof.Proof.Reads
public import proofs.«01_k».proof.Proof.Math

@[expose] public section

set_option maxRecDepth 16384

noncomputable section

namespace Cert.DiffAttn

open Cert.KernelIdeal Cert.KernelIdeal.Gen Idealize.ShloMosaic Idealize.ShloMosaic.TcCoe Idealize.SL.Sem
open Cert.KernelIdeal.Facts

/-- The first stream of a query tile keeps the first 64 lanes of its scaled queries. -/
theorem pay5_apply (Q : FVec Ideal S1024x128 .bf16) (r : Fin 1024) (d : Fin 128) :
    k0_pay5 Q (ix2 r d) = if d.val < 64 then Q (ix2 r d) * Ideal.ofBits .bf16 0x3E00#16 else 0 := by
  unfold k0_pay5 k0_pay3 k0_pay4
  pointwise
  obtain ⟨d, hd⟩ := d
  have : IntOp.cmpi .slt (BitVec.ofNat 32 d) 64#32 = if d < 64 then 1#1 else 0#1 := by
    revert d; decide
  simp only [this]
  split <;> rfl

/-- The second stream of a query tile keeps the last 64 lanes of its scaled queries. -/
theorem pay6_apply (Q : FVec Ideal S1024x128 .bf16) (r : Fin 1024) (d : Fin 128) :
    k0_pay6 Q (ix2 r d) = if d.val < 64 then 0 else Q (ix2 r d) * Ideal.ofBits .bf16 0x3E00#16 := by
  unfold k0_pay6 k0_pay3 k0_pay4
  pointwise
  obtain ⟨d, hd⟩ := d
  have : IntOp.cmpi .sge (BitVec.ofNat 32 d) 64#32 = if d < 64 then 0#1 else 1#1 := by
    revert d; decide
  simp only [this]
  split <;> rfl

variable (Q : FVec Ideal S1024x128 .bf16) (K : ℕ → FVec Ideal S256x128 .bf16) (Bi : ℕ → ℕ → FVec Ideal S1x1x256x256 .f32)
  (W : FVec Ideal S4096x256 .bf16)

theorem tile_apply (j : ℕ) (r c : Fin 256) :
    tile Q K Bi j (ix2 r c) = (∑ d : Fin 128, qtile Q (j / 16) (ix2 r d) * K (j % 16) (ix2 c d)) + Bi (j % 16) (j / 32) (ix4 0 0 r c) := by
  unfold tile
  pointwise

theorem acc_apply (X : FVec Ideal S1x256x4096 .bf16) (r c : Fin 256) :
    matmul dot_S256x4096_S4096x256_S256x256_1_0_0_1_n_n none (shapeCast S256x4096 X shapeCasts_S1x256x4096_S256x4096)
      W (constant S256x256 .f32 0x00000000#32) (ix2 r c) = ∑ k : Fin 4096, X (ix3 0 r k) * W (ix2 k c) := by
  pointwise

theorem qtile_apply (n : ℕ) (r : Fin 256) (d : Fin 128) :
    qtile Q n (ix2 r d) = (if n % 2 = 0 then k0_pay5 Q else k0_pay6 Q) (ix2 ⟨256 * (n / 2 % 4) + r.val, by omega⟩ d) := by
  unfold qtile
  pointwise

/-- The pattern of minus infinity. -/
theorem ofBits_neg_inf : Ideal.ofBits .f32 0xFF800000#32 = ⊥ := by
  simp [Ideal.ofBits, Ideal.ieee]

/-- The running maximum of real scores is real after the first tile. -/
theorem rmax_real (hT : ∀ j r c, IsReal (tile Q K Bi j (ix2 r c))) (n k : ℕ) (r : Fin 256) (x : Fin 128) :
    IsReal (rmax Q K Bi n (k + 1) (ix2 r x)) := by
  have h0 : IsReal (rmax Q K Bi n k (ix2 r x)) ∨ rmax Q K Bi n k (ix2 r x) = ⊥ := by
    induction k with
    | zero => exact .inr ofBits_neg_inf
    | succ k ih =>
      refine .inl ?_
      unfold rmax
      pointwise
      exact isReal_max (.inl (isReal_max ih (hT _ _ _))) (hT _ _ _)
  unfold rmax
  pointwise
  exact isReal_max (.inl (isReal_max h0 (hT _ _ _))) (hT _ _ _)

/-- The row maximum that the weights' exponents are shifted by is real. -/
theorem mx_real (hT : ∀ j r c, IsReal (tile Q K Bi j (ix2 r c))) (n : ℕ) (r : Fin 256) : IsReal (mx Q K Bi n (ix2 r 0)) := by
  have h : mx Q K Bi n (ix2 r 0) = Finset.fold max ⊥ (fun x => rmax Q K Bi n 16 (ix2 r x)) Finset.univ := by
    rw [← ofBits_neg_inf]
    unfold mx
    pointwise
  rw [h]
  exact isReal_fold _ (fun x => rmax_real Q K Bi hT n 15 r x) _ ⟨0, Finset.mem_univ _⟩

theorem outT_apply (A B : FVec Ideal S256x128 .f32) (lam : Elt Ideal .f32) (g : FVec Ideal S1x1x128 .f32) (r : Fin 256) (d : Fin 128) :
   k0_pay2 A B lam g (ix2 r d) =
    (A (ix2 r d) - lam * B (ix2 r d)) *
          Ideal.rsqrt
            (Ideal.div (∑ x, (A (ix2 r x) - lam * B (ix2 r x)) * (A (ix2 r x) - lam * B (ix2 r x)))
                (Ideal.ofBits FTy.f32 1124073472#32) +
              Ideal.ofBits FTy.f32 925353388#32) *
        g (ix3 0 0 d) *
      Ideal.ofBits FTy.f32 1061997773#32 := by
  unfold k0_pay2
  pointwise

variable {sig₁ : RefSig} {κ₁ : Kind} {sp₁ sp₂ : Space} (vs : View sig₁ κ₁ sp₁ S2x256x4096 .f32) (vp : View sig₁ κ₁ sp₂ S2x256x4096 .bf16)

theorem quotient_apply (acc : FVec Ideal S256x256 .f32) (r : Fin 256) (d : Fin 128) :
    divf (extractStridedSlice S256x128 ![0, 0] acc slices_S256x256_o0_0_S256x128)
      (extractStridedSlice S256x128 ![0, 128] acc slices_S256x256_o0_128_S256x128) (ix2 r d)
      = Ideal.div (acc (ix2 r ⟨d.val, by omega⟩)) (acc (ix2 r ⟨128 + d.val, by omega⟩)) := by
  pointwise

theorem wt_apply (j : ℕ) (hj : j < 128) (r c : Fin 256) :
    wt vs Q K Bi j (ix2 r c) = Ideal.exp (tile Q K Bi j (ix2 r c) - mx Q K Bi (j / 16) (ix2 r 0)) := by
  unfold wt
  rw [sRead_eq vs Q K Bi j hj]
  pointwise

/-- Weighted values over weighted ones, for weights given lane by lane. -/
theorem quotient_of (X : FVec Ideal S1x256x4096 .bf16) (W : FVec Ideal S4096x256 .bf16) (E : Fin 4096 → EReal) (r : Fin 256) (d : Fin 128)
    (hX : ∀ k, X (ix3 0 r k) = E k) :
    divf (extractStridedSlice S256x128 ![0, 0] (matmul dot_S256x4096_S4096x256_S256x256_1_0_0_1_n_n none (shapeCast S256x4096 X shapeCasts_S1x256x4096_S256x4096)
      W (constant S256x256 .f32 0x00000000#32)) slices_S256x256_o0_0_S256x128)
      (extractStridedSlice S256x128 ![0, 128] (matmul dot_S256x4096_S4096x256_S256x256_1_0_0_1_n_n none (shapeCast S256x4096 X shapeCasts_S1x256x4096_S256x4096)
      W (constant S256x256 .f32 0x00000000#32)) slices_S256x256_o0_128_S256x128) (ix2 r d)
      = Ideal.div (∑ k, E k * W (ix2 k ⟨d.val, by omega⟩)) (∑ k, E k * W (ix2 k ⟨128 + d.val, by omega⟩)) := by
  rw [quotient_apply, acc_apply, acc_apply]
  simp only [hX]

/-- The attention of a stream at an index: its weights times the values, over its weights times the ones. -/
theorem att_apply (n : ℕ) (hn : n < 8) (r : Fin 256) (d : Fin 128) :
    att vs vp Q K Bi W n (ix2 r d) =
      Ideal.div (∑ k : Fin 4096, Ideal.exp (tile Q K Bi (16 * n + k.val / 256) (ix2 r ⟨k.val % 256, by omega⟩) - mx Q K Bi n (ix2 r 0)) * W (ix2 k ⟨d.val, by omega⟩))
        (∑ k : Fin 4096, Ideal.exp (tile Q K Bi (16 * n + k.val / 256) (ix2 r ⟨k.val % 256, by omega⟩) - mx Q K Bi n (ix2 r 0)) * W (ix2 k ⟨128 + d.val, by omega⟩)) := by
  have hX : ∀ k : Fin 4096, (vp.readCov (pPieces vs Q K Bi (16 * n + 16)) (rowR n).toLoadRect : FVec Ideal S1x256x4096 .bf16) (ix3 0 r k) =
      Ideal.exp (tile Q K Bi (16 * n + k.val / 256) (ix2 r ⟨k.val % 256, by omega⟩) - mx Q K Bi n (ix2 r 0)) := by
    intro k
    have h := readCov_row vp (fun j => shapeCast S1x256x256 (wt vs Q K Bi j) shapeCasts_S256x256_S1x256x256) n r k
    rw [pPieces, h]
    have h2 : shapeCast S1x256x256 (wt vs Q K Bi (16 * n + k.val / 256)) shapeCasts_S256x256_S1x256x256 (ix3 0 r ⟨k.val % 256, by omega⟩) =
      wt vs Q K Bi (16 * n + k.val / 256) (ix2 r ⟨k.val % 256, by omega⟩) := by pointwise
    rw [h2, wt_apply _ _ _ _ _ (by omega)]
    congr 4
    omega
  exact quotient_of _ W _ r d hX

end Cert.DiffAttn

end
-- ==== Proof.Loads.lean ====
/- The body's loads at an index of the blocks they read. -/
module

public import proofs.«01_k».proof.Proof.Tile
public import Idealize.ShloMosaic.Lib.Pipeline.ValueKit.Tiles

@[expose] public section

set_option maxRecDepth 16384

noncomputable section

namespace Cert.DiffAttn

open Cert.KernelIdeal Cert.KernelIdeal.Gen Idealize.ShloMosaic Idealize.ShloMosaic.TcCoe Idealize.SL.Sem
open Cert.KernelIdeal.Facts

/-- The class of a key tile seen from a query tile: their distance, kept within two tiles. -/
def cls (k q : ℕ) : ℕ := if k + 2 ≤ q then 0 else if q + 2 ≤ k then 4 else k + 2 - q

theorem cls_lt (k q : ℕ) : cls k q < 5 := by unfold cls; split <;> [omega; (split <;> omega)]

theorem off1_eq : ∀ (i : grid0.Coords) (k : Fin 16) (q : Fin 4),
    k0_off1 i (BitVec.ofNat 32 k.val) (BitVec.ofNat 32 q.val) = ![0, cls k.val (4 * (i 2).val + q.val), 0, 0] := by
  have h : ∀ (a : Fin 4) (k : Fin 16) (q : Fin 4),
      (Scalar.indexCast (Scalar.addi (Scalar.minsi 2#32 (Scalar.maxsi 4294967294#32 (Scalar.subi (BitVec.ofNat 32 k.val)
        (Scalar.addi (Scalar.muli (BitVec.ofNat 32 a.val) 4#32) (BitVec.ofNat 32 q.val))))) 2#32)).toNat = cls k.val (4 * a.val + q.val) := by
    decide +kernel
  intro i k q
  funext a
  fin_cases a
  · rfl
  · exact h (i 2) k q
  · rfl
  · rfl

variable {F : FTy → Type} [FloatOps F]
variable (i : grid0.Coords) (arg3 : Memref sig .tc .smem S1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x5x256x256 .f32) (harg7 : arg7.IsWhole) (arg8 : Memref sig .tc .vmem S1x1x128 .f32) (harg8 : arg8.IsWhole) (arg12 : Memref sig .tc .vmem S4096x256 .bf16) (harg12 : arg12.IsWhole)
  (x0 : Vec F S1 .f32) (x1 : Vec F S1024x128 .bf16) (x2 : Vec F S4096x128 .bf16) (x3 : Vec F S4096x128 .bf16) (x4 : Vec F S1x5x256x256 .f32) (x5 : Vec F S1x1x128 .f32) (xs2 : Vec F S4096x256 .bf16)

theorem ldQ_eq : ldQ arg4 harg4 x1 = x1 := by
  unfold ldQ
  rw [View.readAt_eq_ld, Memref.IsWhole.read_unread]
  funext j
  idx_vars j
  pointwise

theorem ldW_eq : ldW arg12 harg12 xs2 = xs2 := by
  unfold ldW
  rw [View.readAt_eq_ld, Memref.IsWhole.read_unread]
  funext j
  idx_vars j
  pointwise

theorem ldV_eq : ldV arg6 harg6 x3 = x3 := by
  unfold ldV
  rw [View.readAt_eq_ld, Memref.IsWhole.read_unread]
  funext j
  idx_vars j
  pointwise

theorem ldG_eq : ldG arg8 harg8 x5 = x5 := by
  unfold ldG
  rw [View.readAt_eq_ld, Memref.IsWhole.read_unread]
  funext j
  idx_vars j
  obtain rfl := Subsingleton.elim j0 0
  obtain rfl := Subsingleton.elim j1 0
  pointwise

theorem ldL_eq : ldL arg3 harg3 x0 = x0 (ix1 0) := by
  unfold ldL
  rw [View.readAt_eq_ld, Memref.IsWhole.read_unread]
  pointwise

theorem ldK_apply (k : ℕ) (r : Fin 256) (d : Fin 128) :
    ldK arg5 harg5 x2 k (ix2 r d) = x2 (ix2 ⟨256 * (k % 16) + r.val, by omega⟩ d) := by
  unfold ldK
  rw [View.readAt_eq_ld, Memref.IsWhole.read_unread]
  pointwise

theorem ldB_apply (k q : ℕ) (r c : Fin 256) :
    ldB i arg7 harg7 x4 k q (ix4 0 0 r c) = x4 (ix4 0 ⟨cls (k % 16) (4 * (i 2).val + q % 4), cls_lt _ _⟩ r c) := by
  unfold ldB
  rw [View.readAt_eq_ld, Memref.IsWhole.read_unread]
  have h := off1_eq i ⟨k % 16, by omega⟩ ⟨q % 4, by omega⟩
  refine View.ld_unit_apply_of _ _ _ _ _ _ fun a => ?_
  refine Eq.trans ?_ (congrArg (· + _) (congrFun h a).symm)
  fin_cases a <;> simp [ix4]

/-- The kept copy of a head's values: the values in the first 128 columns, ones in the last. -/
theorem v1_left (V : FVec Ideal S4096x128 .bf16) (k : Fin 4096) (d : Fin 128) :
    View.canon (vPieces V) (ix2 k ⟨d.val, by omega⟩) = V (ix2 k d) := by
  unfold vPieces
  rw [View.canon_cons_of_not_mem]
  · have e : (ix2 k ⟨d.val, by omega⟩ : S4096x256.Idx) = (Rect.unit (s := S4096x256) ![0, 0] S4096x128.size inb_S4096x256_S4096x128_0_0).emb (ix2 k d) := by
      funext a
      refine Fin.ext (Eq.trans ?_ (Rect.emb_apply _ _ a).symm)
      fin_cases a <;> simp [ix2, Rect.unit]
    rw [e]
    refine (View.canon_cons_emb _ _ _ _).trans ?_
    unfold k0_pay7
    pointwise
  · intro hm
    have hm' := (Rect.mem_set_unit (inb := inb_S4096x256_S4096x128_0_128)).1 hm 1
    simp [ix2] at hm'
    omega

theorem v1_right (V : FVec Ideal S4096x128 .bf16) (k : Fin 4096) (d : Fin 128) :
    View.canon (vPieces V) (ix2 k ⟨128 + d.val, by omega⟩) = 1 := by
  unfold vPieces
  have e : (ix2 k ⟨128 + d.val, by omega⟩ : S4096x256.Idx) = (Rect.unit (s := S4096x256) ![0, 128] S4096x128.size inb_S4096x256_S4096x128_0_128).emb (ix2 k d) := by
    funext a
    refine Fin.ext (Eq.trans ?_ (Rect.emb_apply _ _ a).symm)
    fin_cases a <;> simp [ix2, Rect.unit]
  rw [e]
  refine (View.canon_cons_emb _ _ _ _).trans ?_
  unfold k0_pay8
  pointwise

end Cert.DiffAttn

end
-- ==== Proof.Body.lean ====
/- What one query step leaves in its output block, for real queries, keys, values and bias. -/
module

public import proofs.«01_k».proof.Proof.Loads

@[expose] public section

set_option maxRecDepth 16384

noncomputable section

namespace Cert.DiffAttn

open Cert.KernelIdeal Cert.KernelIdeal.Gen Idealize.ShloMosaic Idealize.ShloMosaic.TcCoe Idealize.SL.Sem
open Cert.KernelIdeal.Facts

/-- The lanes of a map: the first 64 of a head's 128, or the last. -/
def lane (mp : ℕ) (e : Fin 64) : Fin 128 := if mp = 0 then Fin.castAdd 64 e else Fin.natAdd 64 e

/-- The score of a query row and a key under a map: their dot over the map's lanes, scaled, and the bias. -/
def score (q k : Fin 128 → ℝ) (b : ℝ) (mp : ℕ) : ℝ := (∑ e : Fin 64, q (lane mp e) * k (lane mp e)) * (1 / 8) + b

/-- A row normalized by its root mean square, times the gain and the layer's scale. -/
def normed (o : Fin 128 → EReal) (g : EReal) (d : Fin 128) : EReal :=
  o d * Ideal.rsqrt (Ideal.div (∑ x, o x * o x) (Ideal.ofBits FTy.f32 1124073472#32) + Ideal.ofBits FTy.f32 925353388#32) * g *
      Ideal.ofBits FTy.f32 1061997773#32

theorem ofBits_eighth : Ideal.ofBits .bf16 0x3E00#16 = ((1 / 8 : ℝ) : EReal) := by
  simp [Ideal.ofBits, Ideal.ieee, ← EReal.coe_mul]
  norm_num

theorem lt_keys (k : ℕ) (r : Fin 256) : 256 * (k % 16) + r.val < 4096 := by omega
theorem lt_left (d : Fin 128) : d.val < 256 := by omega
theorem lt_right (d : Fin 128) : 128 + d.val < 256 := by omega

section
variable (q : Fin 1024 → Fin 128 → ℝ) (kk v : Fin 4096 → Fin 128 → ℝ) (bi : Fin 5 → Fin 256 → Fin 256 → ℝ) (step : ℕ)

/-- The scores of a query row of the block against all keys. -/
def scoreAt (mp : ℕ) (R : Fin 1024) (k : Fin 4096) : ℝ :=
  score (q R) (kk k) (bi ⟨cls (k.val / 256) (4 * step + R.val / 256), cls_lt _ _⟩ ⟨R.val % 256, by omega⟩ ⟨k.val % 256, by omega⟩) mp

variable (Q : FVec Ideal S1024x128 .bf16) (K : ℕ → FVec Ideal S256x128 .bf16) (Bi : ℕ → ℕ → FVec Ideal S1x1x256x256 .f32)
  (W : FVec Ideal S4096x256 .bf16)
  (hQ : ∀ R d, Q (ix2 R d) = (q R d : ℝ))
  (hK : ∀ (k : ℕ) (r : Fin 256) d, K k (ix2 r d) = (kk ⟨256 * (k % 16) + r.val, lt_keys k r⟩ d : ℝ))
  (hBi : ∀ (k u : ℕ) (r c : Fin 256), Bi k u (ix4 0 0 r c) = (bi ⟨cls (k % 16) (4 * step + u % 4), cls_lt _ _⟩ r c : ℝ))

include hQ hK hBi in
theorem tile_real (j : ℕ) (r c : Fin 256) :
    tile Q K Bi j (ix2 r c) = (scoreAt q kk bi step (j / 16 % 2) ⟨256 * (j / 32 % 4) + r.val, by omega⟩ ⟨256 * (j % 16) + c.val, by omega⟩ : ℝ) := by
  have e1 : 256 * (j / 16 / 2 % 4) + r.val = 256 * (j / 32 % 4) + r.val := by omega
  have e2 : (⟨256 * (j % 16 % 16) + c.val, by omega⟩ : Fin 4096) = ⟨256 * (j % 16) + c.val, by omega⟩ := Fin.ext (by show _ = _; simp)
  have hb : Bi (j % 16) (j / 32) (ix4 0 0 r c) = ((bi ⟨cls ((256 * (j % 16) + c.val) / 256) (4 * step + (256 * (j / 32 % 4) + r.val) / 256), cls_lt _ _⟩
      ⟨(256 * (j / 32 % 4) + r.val) % 256, by omega⟩ ⟨(256 * (j % 16) + c.val) % 256, by omega⟩ : ℝ) : EReal) := by
    rw [hBi]
    have a1 : (256 * (j % 16) + c.val) / 256 = j % 16 % 16 := by omega
    have a2 : (256 * (j / 32 % 4) + r.val) / 256 = j / 32 % 4 := by omega
    have a3 : (⟨(256 * (j / 32 % 4) + r.val) % 256, by omega⟩ : Fin 256) = r := Fin.ext (by show _ % _ = _; omega)
    have a4 : (⟨(256 * (j % 16) + c.val) % 256, by omega⟩ : Fin 256) = c := Fin.ext (by show _ % _ = _; omega)
    simp only [a1, a2, a3, a4]
  rw [tile_apply, hb, scoreAt, score, EReal.coe_add]
  congr 1
  rcases Nat.mod_two_eq_zero_or_one (j / 16) with h | h
  · simp only [qtile_apply, h, if_true, pay5_apply, hQ, hK, e1, e2, ofBits_eighth]
    rw [sum_low, sum_scaled]
    simp only [← EReal.coe_mul]
    rw [coe_sum, ← EReal.coe_mul]
    simp [lane]
  · simp only [qtile_apply, h, if_neg (show ¬ (1 : ℕ) = 0 by decide), pay6_apply, hQ, hK, e1, e2, ofBits_eighth]
    rw [sum_high, sum_scaled]
    simp only [← EReal.coe_mul]
    rw [coe_sum, ← EReal.coe_mul]
    simp [lane]

variable {sig₁ : RefSig} {κ₁ : Kind} {sp₁ sp₂ : Space} (vs : View sig₁ κ₁ sp₁ S2x256x4096 .f32) (vp : View sig₁ κ₁ sp₂ S2x256x4096 .bf16)
  (hW : ∀ k (d : Fin 128), W (ix2 k ⟨d.val, lt_left d⟩) = (v k d : ℝ)) (hW1 : ∀ k (d : Fin 128), W (ix2 k ⟨128 + d.val, lt_right d⟩) = 1)

include hQ hK hBi hW hW1 in
/-- A stream's attention is the softmax mean of the values under the stream's scores. -/
theorem att_real (n : ℕ) (hn : n < 8) (r : Fin 256) (d : Fin 128) :
    att vs vp Q K Bi W n (ix2 r d) = (mean (scoreAt q kk bi step (n % 2) ⟨256 * (n / 2 % 4) + r.val, by omega⟩) (fun k => v k d) : ℝ) := by
  rw [att_apply Q K Bi W vs vp n hn r d, ← quotient_eq_mean _ _ (mx Q K Bi n (ix2 r 0))
    (mx_real Q K Bi (fun j r c => ⟨_, tile_real q kk bi step Q K Bi hQ hK hBi j r c⟩) n r)]
  have hT : ∀ k : Fin 4096, tile Q K Bi (16 * n + k.val / 256) (ix2 r ⟨k.val % 256, by omega⟩) =
      (scoreAt q kk bi step (n % 2) ⟨256 * (n / 2 % 4) + r.val, by omega⟩ k : ℝ) := by
    intro k
    rw [tile_real q kk bi step Q K Bi hQ hK hBi]
    have a1 : (16 * n + k.val / 256) / 16 % 2 = n % 2 := by omega
    have a2 : (16 * n + k.val / 256) / 32 % 4 = n / 2 % 4 := by omega
    have a3 : (⟨256 * ((16 * n + k.val / 256) % 16) + k.val % 256, by omega⟩ : Fin 4096) = k := Fin.ext (by show _ + _ = _; omega)
    simp only [a1, a2, a3]
  simp only [hT, hW, hW1]

include hQ hK hBi hW hW1 in
/-- A query tile of the output block. -/
theorem outT_real (lam : Elt Ideal .f32) (g : FVec Ideal S1x1x128 .f32) (u : ℕ) (hu : u < 4) (r : Fin 256) (d : Fin 128) :
    outT vs vp Q K Bi W lam g u (ix2 r d) =
      normed (fun x => (mean (scoreAt q kk bi step 0 ⟨256 * u + r.val, by omega⟩) (fun k => v k x) : ℝ)
        - lam * (mean (scoreAt q kk bi step 1 ⟨256 * u + r.val, by omega⟩) (fun k => v k x) : ℝ)) (g (ix3 0 0 d)) d := by
  have h0 : ∀ x, att vs vp Q K Bi W (2 * u) (ix2 r x) = (mean (scoreAt q kk bi step 0 ⟨256 * u + r.val, by omega⟩) (fun k => v k x) : ℝ) := by
    intro x
    rw [att_real q kk v bi step Q K Bi W hQ hK hBi vs vp hW hW1 _ (by omega)]
    have a1 : 2 * u % 2 = 0 := by omega
    have a2 : 256 * (2 * u / 2 % 4) + r.val = 256 * u + r.val := by omega
    simp only [a1, a2]
  have h1 : ∀ x, att vs vp Q K Bi W (2 * u + 1) (ix2 r x) = (mean (scoreAt q kk bi step 1 ⟨256 * u + r.val, by omega⟩) (fun k => v k x) : ℝ) := by
    intro x
    rw [att_real q kk v bi step Q K Bi W hQ hK hBi vs vp hW hW1 _ (by omega)]
    have a1 : (2 * u + 1) % 2 = 1 := by omega
    have a2 : 256 * ((2 * u + 1) / 2 % 4) + r.val = 256 * u + r.val := by omega
    simp only [a1, a2]
  rw [outT, outT_apply]
  simp only [h0, h1, normed]

theorem canon_out (lam : Elt Ideal .f32) (g : FVec Ideal S1x1x128 .f32) (u : ℕ) (r : Fin 256) (d : Fin 128) (hu : u < 4) :
    ∀ N, u < N → N ≤ 4 → View.canon (outPieces vs vp Q K Bi W lam g N) (ix2 ⟨256 * u + r.val, by omega⟩ d) = outT vs vp Q K Bi W lam g u (ix2 r d)
  | 0, h, _ => absurd h (Nat.not_lt_zero u)
  | N + 1, h, h' => by
    by_cases e : N = u
    · subst e
      have e : (ix2 ⟨256 * N + r.val, by omega⟩ d : S1024x128.Idx) = (Rect.unit (s := S1024x128) ![256 * (N % 4), 0] S256x128.size (out_inb N)).emb (ix2 r d) := by
        funext a
        refine Fin.ext (Eq.trans ?_ (Rect.emb_apply _ _ a).symm)
        fin_cases a <;> simp [ix2, Rect.unit]
        omega
      rw [e]
      exact View.canon_cons_emb _ _ _ _
    · refine (View.canon_cons_of_not_mem _ _ ?_).trans (canon_out lam g u r d hu N (by omega) (by omega))
      intro hm
      have hm' := (Rect.mem_set_unit (inb := out_inb N)).1 hm 0
      simp [ix2, S256x128, Shape.size] at hm'
      omega

include hQ hK hBi hW hW1 in
/-- The output block of a query step, at an index. -/
theorem block_real (lam : Elt Ideal .f32) (g : FVec Ideal S1x1x128 .f32) (R : Fin 1024) (d : Fin 128) :
    View.canon (outPieces vs vp Q K Bi W lam g 4) (ix2 R d) =
      normed (fun x => (mean (scoreAt q kk bi step 0 R) (fun k => v k x) : ℝ)
        - lam * (mean (scoreAt q kk bi step 1 R) (fun k => v k x) : ℝ)) (g (ix3 0 0 d)) d := by
  have hR : (⟨256 * (R.val / 256) + (⟨R.val % 256, by omega⟩ : Fin 256).val, by show _ + _ % _ < _; omega⟩ : Fin 1024) = R := Fin.ext (by show _ + _ % _ = _; omega)
  have h := canon_out Q K Bi W vs vp lam g (R.val / 256) ⟨R.val % 256, by omega⟩ d (by omega) 4 (by omega) (by omega)
  rw [outT_real q kk v bi step Q K Bi W hQ hK hBi vs vp hW hW1 lam g _ (by omega)] at h
  rw [hR] at h
  exact h

end

end Cert.DiffAttn

end
-- ==== Proof.Steps.lean ====
/- The grid: the values' scratch after each point, and the output array after the run. -/
module

public import proofs.«01_k».proof.Proof.CanonRun
public import proofs.«01_k».proof.Proof.Body
public import proofs.«01_k».proof.Proof.Gen.KernelIdeal.Value
public import Idealize.ShloMosaic.Lib.Pipeline.ValueKit
public import Idealize.ShloMosaic.Lib.Claim

@[expose] public section

set_option maxRecDepth 16384

noncomputable section

namespace Cert.DiffAttn

open Cert.KernelIdeal Cert.KernelIdeal.Gen Idealize.ShloMosaic Idealize.ShloMosaic.TcCoe Idealize.SL.Sem
open Cert.KernelIdeal.Facts

theorem index1 : ∀ t : Fin grid0.N, win0_1.index t = ![t.val / 32 * 4 + t.val % 4, 24 + t.val / 4 % 8] := by decide +kernel
theorem index2 : ∀ t : Fin grid0.N, win0_2.index t = ![t.val / 32, 32 + t.val / 4 % 8] := by decide +kernel
theorem index3 : ∀ t : Fin grid0.N, win0_3.index t = ![t.val / 32, 40 + t.val / 4 % 8] := by decide +kernel
theorem index4 : ∀ t : Fin grid0.N, win0_4.index t = ![t.val / 4 % 8, 0, 0, 0] := by decide +kernel
theorem index5 : ∀ t : Fin grid0.N, win0_5.index t = ![t.val / 4 % 8, 0, 0] := by decide +kernel
theorem index6 : ∀ t : Fin grid0.N, win0_6.index t = ![t.val / 32 * 4 + t.val % 4, t.val / 4 % 8] := by decide +kernel
theorem index0 : ∀ t : Fin grid0.N, win0_0.index t = ![0] := by decide +kernel
theorem coord2 : ∀ t : Fin grid0.N, (grid0.coords t 2).val = t.val % 4 := by decide +kernel

variable (m : (ℓ : Loc nD τ sig) → Buf (Elt Ideal) ℓ)

theorem lt64 (t : Fin cfg0.N) : t.val < 64 := t.isLt.trans_eq N_0

/-- The query block of a point: 1024 rows of the head's query columns. -/
theorem iblk1 (c : Dev nD) (t : Fin cfg0.N) (R : Fin 1024) (d : Fin 128) :
    iblk m c 1 t (ix2 R d) = m ((c : Thread nD τ).loc main_arg0) (ix2 ⟨1024 * (t.val / 32 * 4 + t.val % 4) + R.val, by have := lt64 t; omega⟩ ⟨3072 + 128 * (t.val / 4 % 8) + d.val, by omega⟩) := by
  blk_point [iblk, V, index1 t]

/-- The key block: all rows of the batch, the head's key columns. -/
theorem iblk2 (c : Dev nD) (t : Fin cfg0.N) (R : Fin 4096) (d : Fin 128) :
    iblk m c 2 t (ix2 R d) = m ((c : Thread nD τ).loc main_arg0) (ix2 ⟨4096 * (t.val / 32) + R.val, by have := lt64 t; omega⟩ ⟨4096 + 128 * (t.val / 4 % 8) + d.val, by omega⟩) := by
  blk_point [iblk, V, index2 t]

/-- The value block: all rows of the batch, the head's value columns. -/
theorem iblk3 (c : Dev nD) (t : Fin cfg0.N) (R : Fin 4096) (d : Fin 128) :
    iblk m c 3 t (ix2 R d) = m ((c : Thread nD τ).loc main_arg0) (ix2 ⟨4096 * (t.val / 32) + R.val, by have := lt64 t; omega⟩ ⟨5120 + 128 * (t.val / 4 % 8) + d.val, by omega⟩) := by
  blk_point [iblk, V, index3 t]

/-- The head's five bias tiles. -/
theorem iblk4 (c : Dev nD) (t : Fin cfg0.N) (u : Fin 5) (r k : Fin 256) :
    iblk m c 4 t (ix4 0 u r k) = V m c (Pipeline.arrRef spec0 4) (ix4 ⟨t.val / 4 % 8, by omega⟩ u r k) := by
  blk_point [iblk, index4 t]

/-- The head's gain. -/
theorem iblk5 (c : Dev nD) (t : Fin cfg0.N) (d : Fin 128) :
    iblk m c 5 t (ix3 0 0 d) = V m c (Pipeline.arrRef spec0 5) (ix3 ⟨t.val / 4 % 8, by omega⟩ 0 d) := by
  blk_point [iblk, index5 t]

/-- The difference's factor. -/
theorem iblk0 (c : Dev nD) (t : Fin cfg0.N) :
    iblk m c 0 t (ix1 0) = V m c (Pipeline.arrRef spec0 0) (ix1 0) := by
  blk_point [iblk, index0 t]

end Cert.DiffAttn

end
-- ==== Proof.HostK.lean ====
/- The arrays the host part hands the kernel: the difference's factor, the bias tiles, the gain. -/
module

public import proofs.«01_k».proof.Proof.Steps

@[expose] public section

set_option maxRecDepth 16384

noncomputable section

namespace Cert.DiffAttn

open Cert.KernelIdeal Cert.KernelIdeal.Gen Idealize.ShloMosaic Idealize.ShloMosaic.TcCoe Idealize.SL.Sem
open Cert.KernelIdeal.Facts

variable (m : (ℓ : Loc nD τ sig) → Buf (Elt Ideal) ℓ)

/-- The gain the kernel is handed. -/
theorem gain_apply (c : Dev nD) (h : Fin 8) (d : Fin 128) :
    V m c main_v72 (ix3 h 0 d) = m ((c : Thread nD τ).loc main_arg2) (ix3 0 h d) := by
  unfold V
  simp only [hostOps0, hostOps0_1, hostOps0_2, hostOps0_3, hostOps0_4, List.flatten_cons, List.flatten_nil, List.append_nil, List.cons_append, List.nil_append]
  after_results
  pointwise

/-- The difference's factor of the four vectors: `exp (q1 · k1) - exp (q2 · k2) + 0.2`, each product of the first rows. -/
def lamOf (a3 a4 a5 a6 : FVec Ideal S2x64 .f32) : EReal :=
  Ideal.exp (∑ x : Fin 64, a3 (ix2 0 x) * a4 (ix2 0 x)) - Ideal.exp (∑ x : Fin 64, a5 (ix2 0 x) * a6 (ix2 0 x))
    + Ideal.ofBits .f32 1045220557#32

/-- The difference's factor the kernel is handed. -/
theorem lam_apply (c : Dev nD) :
    V m c main_v71 (ix1 0)
      = lamOf (m ((c : Thread nD τ).loc main_arg3)) (m ((c : Thread nD τ).loc main_arg4))
          (m ((c : Thread nD τ).loc main_arg5)) (m ((c : Thread nD τ).loc main_arg6)) := by
  unfold V lamOf
  simp only [hostOps0, hostOps0_1, hostOps0_2, hostOps0_3, hostOps0_4, List.flatten_cons, List.flatten_nil, List.append_nil, List.cons_append, List.nil_append]
  after_results
  pointwise

/-- The relative positions of the bias tiles. -/
def relK : IVec S5x256x256 32 :=
  subi (broadcastInDim S5x256x256 ![0, 1, 2] bcast_S5x1x256_S5x256x256_0_1_2
      (addi (broadcastInDim S5x1x256 ![0, 1, 2] bcast_S5x1x1_S5x1x256_0_1_2
          (muli (subi (broadcastInDim S5x1x1 ![0] bcast_S5_S5x1x1_0 (iotaInDim S5 32 0))
              (broadcastInDim S5x1x1 ![] bcast_S_S5x1x1 (constantI S_ 32 2#32)))
            (broadcastInDim S5x1x1 ![] bcast_S_S5x1x1 (constantI S_ 32 256#32))))
        (broadcastInDim S5x1x256 ![0, 1, 2] bcast_S1x1x256_S5x1x256_0_1_2
          (broadcastInDim S1x1x256 ![2] bcast_S256_S1x1x256_2 (iotaInDim S256 32 0)))))
    (broadcastInDim S5x256x256 ![0, 1, 2] bcast_S1x256x1_S5x256x256_0_1_2
      (broadcastInDim S1x256x1 ![1] bcast_S256_S1x256x1_1 (iotaInDim S256 32 0)))

/-- The buckets of the bias tiles. -/
def bucketK : IVec S5x256x256 32 :=
  addi (select (cmpi .slt (negi relK) (broadcastInDim S5x256x256 ![] bcast_S_S5x256x256 (constantI S_ 32 0#32)))
      (broadcastInDim S5x256x256 ![] bcast_S_S5x256x256 (constantI S_ 32 16#32)) (broadcastInDim S5x256x256 ![] bcast_S_S5x256x256 (constantI S_ 32 0#32)))
    (select (cmpi .slt (absi (negi relK)) (broadcastInDim S5x256x256 ![] bcast_S_S5x256x256 (constantI S_ 32 8#32))) (absi (negi relK))
      (minsi (addi (broadcastInDim S5x256x256 ![] bcast_S_S5x256x256 (constantI S_ 32 8#32))
          (fptosi 32 (mulf (Host.divf (Host.log (Host.divf (sitofp (F := Ideal) .f32 (maxsi (absi (negi relK)) (broadcastInDim S5x256x256 ![] bcast_S_S5x256x256 (constantI S_ 32 1#32))))
              (broadcastInDim S5x256x256 ![] bcast_S_S5x256x256 (constant S_ .f32 1090519040#32))))
            (broadcastInDim S5x256x256 ![] bcast_S_S5x256x256 (constant S_ .f32 1076982296#32)))
            (broadcastInDim S5x256x256 ![] bcast_S_S5x256x256 (constant S_ .f32 1090519040#32)))))
        (broadcastInDim S5x256x256 ![] bcast_S_S5x256x256 (constantI S_ 32 15#32))))

/-- The relative position at an index. -/
theorem relK_apply (u : Fin 5) (r k : Fin 256) :
    relK (ix3 u r k) = (BitVec.ofNat 32 u.val - 2#32) * 256#32 + BitVec.ofNat 32 k.val - BitVec.ofNat 32 r.val := by
  unfold relK
  pointwise
  rfl

/-- The bucket of a position difference, the query's position less the key's. -/
def bucket (n : BitVec 32) : BitVec 32 :=
  IntOp.addi (Scalar.select (IntOp.cmpi CmpIPredicate.slt n 0#32) 16#32 0#32)
    (Scalar.select (IntOp.cmpi CmpIPredicate.slt (IntOp.absi n) 8#32) (IntOp.absi n)
      (IntOp.minsi
        (IntOp.addi (8#32)
          (FloatOps.fptosi (F := Ideal) (φ := .f32) 32
            (Ideal.div
                (Ideal.log
                  (Ideal.div (FloatOps.sitofp (F := Ideal) FTy.f32 (IntOp.maxsi (IntOp.absi n) 1#32))
                    (Ideal.ofBits FTy.f32 1090519040#32)))
                (Ideal.ofBits FTy.f32 1076982296#32) *
              Ideal.ofBits FTy.f32 1090519040#32)))
        15#32))

/-- The tiles' buckets, each of its position difference. -/
theorem bucketK_apply (u : Fin 5) (r k : Fin 256) : bucketK (ix3 u r k) = bucket (- relK (ix3 u r k)) := by
  unfold bucketK bucket
  pointwise

/-- One column of the one-hot matrix for every place of the tiles. -/
def oneHot (F : IVec S327680 32) : FVec Ideal S32x327680 .f32 :=
  uitofp .f32 (cmpi .eq (broadcastInDim S32x327680 ![0, 1] bcast_S1x327680_S32x327680_0_1
        (broadcastInDim S1x327680 ![1] bcast_S327680_S1x327680_1 F))
      (broadcastInDim S32x327680 ![0, 1] bcast_S32x1_S32x327680_0_1
        (broadcastInDim S32x1 ![0] bcast_S32_S32x1_0 (iotaInDim S32 32 0))))

/-- The table's columns at the buckets, by a product with the one-hot matrix. -/
def looked (T : FVec Ideal S32x16 .f32) (F : IVec S327680 32) : FVec Ideal S16x327680 .f32 :=
  Host.dotGeneral dot_S16x32_S32x327680_S16x327680_1_0_0_1_n_n (some .fp32)
    (transpose S16x32 [1, 0] T transposes_S32x16_S16x32_1_0) (oneHot F)

/-- The bias tiles are the looked-up columns, cut to the second eight heads. -/
theorem tiles_eq (c : Dev nD) :
    V m c main_v70 = (extractStridedSlice S8x5x256x256 ![8, 0, 0, 0]
      (shapeCast S16x5x256x256 (looked (m ((c : Thread nD τ).loc main_arg1)) (shapeCast S327680 bucketK shapeCasts_S5x256x256_S327680))
        shapeCasts_S16x327680_S16x5x256x256) slices_S16x5x256x256_S8x5x256x256_8_0_0_0 : FVec Ideal S8x5x256x256 .f32) := by
  unfold V
  simp only [hostOps0, hostOps0_1, hostOps0_2, hostOps0_3, hostOps0_4, List.flatten_cons, List.flatten_nil, List.append_nil, List.cons_append, List.nil_append, StableHlo.TRef.ternary, StableHlo.TRef.unary, StableHlo.TRef.toBuf, StableHlo.TRef.ofBuf, cast_eq]
  after_results
  rfl

/-- A looked-up entry: the table's column summed against the one-hot column. -/
theorem looked_apply (T : FVec Ideal S32x16 .f32) (F : IVec S327680 32) (a : Fin 16) (n : Fin 327680) :
    looked T F (ix2 a n)
      = ∑ x : Fin 32, T (ix2 x a) * FloatOps.uitofp (F := Ideal) .f32 (IntOp.cmpi .eq (F (ix1 n)) (BitVec.ofNat 32 x.val)) := by
  unfold looked oneHot
  pointwise

/-- The flattened place of a tile's entry. -/
def flat (u : Fin 5) (r k : Fin 256) : Fin 327680 := ⟨u.val * 65536 + r.val * 256 + k.val, by omega⟩

/-- An entry of a cut and reshaped array, in the flat array. -/
theorem tiles_at (L : FVec Ideal S16x327680 .f32) (h : Fin 8) (u : Fin 5) (r k : Fin 256) :
    (extractStridedSlice S8x5x256x256 ![8, 0, 0, 0] (shapeCast S16x5x256x256 L shapeCasts_S16x327680_S16x5x256x256)
      slices_S16x5x256x256_S8x5x256x256_8_0_0_0 : FVec Ideal S8x5x256x256 .f32) (ix4 h u r k)
      = L (ix2 ⟨8 + h.val, by omega⟩ (flat u r k)) := by
  unfold flat
  pointwise

/-- An entry of the flattened buckets, in the tiles. -/
theorem flat_at (B : IVec S5x256x256 32) (u : Fin 5) (r k : Fin 256) :
    (shapeCast S327680 B shapeCasts_S5x256x256_S327680 : IVec S327680 32) (ix1 (flat u r k)) = B (ix3 u r k) := by
  unfold flat
  pointwise

/-- A sum against a one-hot column is the entry the column marks. -/
theorem sum_oneHot (f : Fin 32 → EReal) (w : BitVec 32) (hw : w.toNat < 32) :
    ∑ x : Fin 32, f x * FloatOps.uitofp (F := Ideal) .f32 (IntOp.cmpi .eq w (BitVec.ofNat 32 x.val)) = f ⟨w.toNat, hw⟩ := by
  rw [Finset.sum_eq_single (⟨w.toNat, hw⟩ : Fin 32)]
  · have : IntOp.cmpi .eq w (BitVec.ofNat 32 w.toNat) = 1#1 := by simp [IntOp.cmpi]
    rw [this]
    show f _ * (((1#1 : BitVec 1).toNat : ℝ) : EReal) = _
    simp
  · intro x _ hx
    have : IntOp.cmpi .eq w (BitVec.ofNat 32 x.val) = 0#1 := by
      have hne : w ≠ BitVec.ofNat 32 x.val := by
        intro h
        apply hx
        apply Fin.ext
        have := congrArg BitVec.toNat h
        simp only [BitVec.toNat_ofNat] at this
        show x.val = w.toNat
        omega
      simp only [IntOp.cmpi, beq_eq_false_iff_ne.2 hne]
      rfl
    rw [this]
    show f _ * (((0#1 : BitVec 1).toNat : ℝ) : EReal) = _
    simp
  · simp

/-- A bias tile's entry is the table's, in the bucket of its position difference. -/
theorem bias_tile (c : Dev nD) (h : Fin 8) (u : Fin 5) (r k : Fin 256)
    (hb : (bucket (- relK (ix3 u r k))).toNat < 32) :
    V m c main_v70 (ix4 h u r k)
      = (m ((c : Thread nD τ).loc main_arg1) : FVec Ideal S32x16 .f32)
          (ix2 ⟨(bucket (- relK (ix3 u r k))).toNat, hb⟩ ⟨8 + h.val, by omega⟩) := by
  rw [tiles_eq, tiles_at, looked_apply, flat_at, bucketK_apply]
  exact sum_oneHot (fun x => (m ((c : Thread nD τ).loc main_arg1) : FVec Ideal S32x16 .f32) (ix2 x ⟨8 + h.val, by omega⟩)) _ hb

end Cert.DiffAttn

end
-- ==== Proof.Bucket.lean ====
/- The bucket of a position difference: its range, and its one value far from the diagonal. -/
module

public import proofs.«01_k».proof.Proof.HostK
public import proofs.«01_k».proof.Proof.Math
public import Mathlib.Analysis.SpecialFunctions.Log.Basic
public import Mathlib.Tactic.Linarith
public import Mathlib.Tactic.Positivity
public import Mathlib.Tactic.NormNum
public import Mathlib.Tactic.FieldSimp

@[expose] public section

set_option maxRecDepth 16384

noncomputable section

namespace Cert.DiffAttn

open Idealize.ShloMosaic

theorem ofBits_eight : Ideal.ofBits .f32 1090519040#32 = ((8 : ℝ) : EReal) := by
  simp [Ideal.ofBits, Ideal.ieee, -EReal.coe_mul]; norm_num

theorem ofBits_log : Ideal.ofBits .f32 1076982296#32 = ((11629080 / 4194304 : ℝ) : EReal) := by
  simp [Ideal.ofBits, Ideal.ieee, -EReal.coe_mul]; norm_num

/-- The logarithmic part of the bucket of a distance `N` from 8 to 5000, as an integer: not negative, far from overflow,
    at least 7 from 257 on. -/
theorem logPart (N : ℤ) (h8 : 8 ≤ N) (hN : N ≤ 5000) :
    ∃ z : ℤ, 0 ≤ z ∧ z ≤ 3000 ∧ (257 ≤ N → 7 ≤ z) ∧
      Ideal.fptosi 32 (Ideal.div (Ideal.log (Ideal.div (((N : ℤ) : ℝ) : EReal) (Ideal.ofBits .f32 1090519040#32)))
        (Ideal.ofBits .f32 1076982296#32) * Ideal.ofBits .f32 1090519040#32) = BitVec.ofInt 32 z := by
  have hr : (8 : ℝ) ≤ (N : ℝ) := by exact_mod_cast h8
  have hr' : (N : ℝ) ≤ 5000 := by exact_mod_cast hN
  set y : ℝ := (N : ℝ) * (1 / 8) with hy
  have hy1 : 1 ≤ y := by rw [hy]; linarith
  have hy2 : y ≤ 625 := by rw [hy]; linarith
  have hlog0 : 0 ≤ Real.log y := Real.log_nonneg hy1
  have hlog1 : Real.log y ≤ 624 := by
    have := Real.log_le_sub_one_of_pos (show 0 < y by linarith)
    linarith
  set w : ℝ := Real.log y * (1 / (11629080 / 4194304)) * 8 with hw
  have hw0 : 0 ≤ w := by rw [hw]; positivity
  have hw1 : w ≤ 3000 := by
    rw [hw]
    have : Real.log y * (1 / (11629080 / 4194304)) * 8 = Real.log y * (8 * 4194304 / 11629080) := by ring
    rw [this]; linarith
  have hval : Ideal.div (Ideal.log (Ideal.div (((N : ℤ) : ℝ) : EReal) (Ideal.ofBits .f32 1090519040#32)))
        (Ideal.ofBits .f32 1076982296#32) * Ideal.ofBits .f32 1090519040#32 = ((w : ℝ) : EReal) := by
    rw [ofBits_eight, ofBits_log, Ideal.div_coe (by norm_num), Ideal.div_coe (by norm_num), ← EReal.coe_mul, ← hy,
      Ideal.log_coe, if_neg (by linarith), ← EReal.coe_mul, ← EReal.coe_mul]
  have hf0 : 0 ≤ ⌊w⌋ := Int.floor_nonneg.2 hw0
  have hf1 : ⌊w⌋ ≤ 3000 := by
    have := Int.floor_le w
    have h2 : ((⌊w⌋ : ℤ) : ℝ) ≤ 3000 := by linarith
    exact_mod_cast h2
  refine ⟨⌊w⌋, hf0, hf1, fun h => ?_, ?_⟩
  · have h257 : (257 : ℝ) ≤ (N : ℝ) := by exact_mod_cast h
    have hy32 : (32 : ℝ) ≤ y := by rw [hy]; linarith
    have hl2 : (1 / 2 : ℝ) ≤ Real.log 2 := by
      have := Real.one_sub_inv_le_log_of_pos (show (0 : ℝ) < 2 by norm_num)
      norm_num at this ⊢
      linarith
    have hl32 : (5 / 2 : ℝ) ≤ Real.log y := by
      have h1 : Real.log 32 ≤ Real.log y := Real.log_le_log (by norm_num) hy32
      have h2 : Real.log 32 = 5 * Real.log 2 := by
        rw [show (32 : ℝ) = 2 ^ 5 by norm_num, Real.log_pow]; norm_num
      linarith
    refine Int.le_floor.2 ?_
    rw [hw]
    have : Real.log y * (1 / (11629080 / 4194304)) * 8 = Real.log y * (8 * 4194304 / 11629080) := by ring
    rw [this]
    push_cast
    linarith
  · rw [hval]
    show BitVec.ofInt 32 (Ideal.toIntClamped _ _ _) = _
    rw [Ideal.toIntClamped_coe, if_pos hw0]
    congr 1
    omega

/-- A position difference's distance. -/
theorem absi_toInt (n : BitVec 32) (h1 : -5000 ≤ n.toInt) (h2 : n.toInt ≤ 5000) :
    (IntOp.absi n).toInt = |n.toInt| := by
  unfold IntOp.absi
  rw [BitVec.msb_eq_toInt]
  by_cases h : n.toInt < 0
  · rw [if_pos (by simpa using h), abs_of_neg h, BitVec.toInt_neg]
    norm_num [Int.bmod]
    omega
  · rw [if_neg (by simpa using h), abs_of_nonneg (by omega)]

theorem select_bit {α : Type} (b : Bool) (x y : α) : Scalar.select (BitVec.ofBool b) x y = if b then x else y := by
  cases b <;> rfl

/-- The bucket, in cases on the sign and the distance. -/
theorem bucket_cases (n : BitVec 32) (h1 : -5000 ≤ n.toInt) (h2 : n.toInt ≤ 5000) :
    ∃ z : ℤ, 0 ≤ z ∧ z ≤ 3000 ∧ (257 ≤ |n.toInt| → 7 ≤ z) ∧
      bucket n = (if n.slt 0#32 then 16#32 else 0#32)
        + (if (IntOp.absi n).slt 8#32 then IntOp.absi n else IntOp.minsi (8#32 + BitVec.ofInt 32 z) 15#32) := by
  have ha := absi_toInt n h1 h2
  have habs : |n.toInt| ≤ 5000 := abs_le.2 ⟨by omega, h2⟩
  unfold bucket
  simp only [IntOp.cmpi, select_bit]
  by_cases hs : (IntOp.absi n).slt 8#32 = true
  · refine ⟨7, by norm_num, by norm_num, fun _ => le_refl _, ?_⟩
    rw [if_pos hs, if_pos hs]
    rfl
  · have h8 : 8 ≤ |n.toInt| := by
      simp only [BitVec.slt, ha, decide_eq_true_eq, not_lt] at hs
      simpa using hs
    obtain ⟨z, hz0, hz1, hz2, hz3⟩ := logPart _ h8 habs
    refine ⟨z, hz0, hz1, hz2, ?_⟩
    rw [if_neg hs, if_neg hs, ← hz3, ← ha]
    have hm : IntOp.maxsi (IntOp.absi n) 1#32 = IntOp.absi n := by
      unfold IntOp.maxsi
      rw [if_pos]
      simp only [BitVec.slt, ha, decide_eq_true_eq]
      have : (1#32 : BitVec 32).toInt = 1 := by decide
      omega
    rw [hm]
    rfl

/-- The bounded second part of a bucket. -/
theorem minsi_toNat (z : ℤ) (h0 : 0 ≤ z) (h1 : z ≤ 3000) :
    IntOp.minsi (8#32 + BitVec.ofInt 32 z) 15#32 = BitVec.ofNat 32 (min (8 + z.toNat) 15) := by
  obtain ⟨k, rfl⟩ := Int.eq_ofNat_of_zero_le h0
  have hk : k ≤ 3000 := by omega
  have e : (8#32 + BitVec.ofInt 32 (k : ℤ)) = BitVec.ofNat 32 (8 + k) := by
    apply BitVec.eq_of_toNat_eq
    simp
  have ei : (BitVec.ofNat 32 (8 + k)).toInt = 8 + k := by
    rw [BitVec.toInt_eq_toNat_of_lt] <;> simp <;> omega
  have e15 : (15#32 : BitVec 32).toInt = 15 := by decide
  unfold IntOp.minsi
  rw [e]
  simp only [BitVec.slt, ei, e15, decide_eq_true_eq, Int.toNat_natCast]
  split
  · rw [min_eq_left (by omega)]
  · rw [min_eq_right (by omega)]

/-- A bucket is a row of the table. -/
theorem bucket_lt (n : BitVec 32) (h1 : -5000 ≤ n.toInt) (h2 : n.toInt ≤ 5000) : (bucket n).toNat < 32 := by
  obtain ⟨z, hz0, hz1, -, e⟩ := bucket_cases n h1 h2
  have ha := absi_toInt n h1 h2
  rw [e, minsi_toNat z hz0 hz1, BitVec.toNat_add]
  have hA : (if n.slt 0#32 then 16#32 else 0#32 : BitVec 32).toNat ≤ 16 := by split <;> decide
  have hB : (if (IntOp.absi n).slt 8#32 then IntOp.absi n else BitVec.ofNat 32 (min (8 + z.toNat) 15)).toNat ≤ 15 := by
    split
    · next hs =>
      have e8 : (8#32 : BitVec 32).toInt = 8 := by decide
      simp only [BitVec.slt, decide_eq_true_eq, e8] at hs
      have : 0 ≤ (IntOp.absi n).toInt := ha ▸ abs_nonneg _
      rw [BitVec.toInt_eq_toNat_cond] at hs this
      split at hs <;> omega
    · simp only [BitVec.toNat_ofNat]
      omega
  omega

/-- Far from the diagonal the bucket is the last of its side. -/
theorem bucket_far (n : BitVec 32) (h1 : -5000 ≤ n.toInt) (h2 : n.toInt ≤ 5000) (h : 257 ≤ |n.toInt|) :
    bucket n = if n.slt 0#32 then 31#32 else 15#32 := by
  obtain ⟨z, hz0, hz1, hz2, e⟩ := bucket_cases n h1 h2
  have ha := absi_toInt n h1 h2
  have hs : ¬ (IntOp.absi n).slt 8#32 = true := by
    have e8 : (8#32 : BitVec 32).toInt = 8 := by decide
    simp only [BitVec.slt, decide_eq_true_eq, e8]
    omega
  rw [e, if_neg hs, minsi_toNat z hz0 hz1, min_eq_right (by have := hz2 h; omega)]
  split <;> rfl

end Cert.DiffAttn

end
-- ==== Proof.Ref.lean ====
/- The reference, read at an index. -/
module

public import proofs.«01_k».proof.Proof.Bucket
public import proofs.«01_k».proof.Proof.Body
public import proofs.«01_k».proof.Proof.Gen.ReferenceIdeal.Run

@[expose] public section

set_option maxRecDepth 16384

noncomputable section

namespace Cert.DiffAttn

open Cert.ReferenceIdeal Cert.ReferenceIdeal.Value Idealize.ShloMosaic Idealize.ShloMosaic.TcCoe Idealize.SL.Sem
open Cert.ReferenceIdeal.Facts Cert.ReferenceIdeal.Facts₀

variable (V0 : Valuation τ sig (Elt Ideal))

/-- The query's position less the key's, as a word. -/
def ago (q k : Fin 4096) : BitVec 32 := -(BitVec.ofNat 32 k.val - BitVec.ofNat 32 q.val)

theorem ago_toInt (q k : Fin 4096) : (ago q k).toInt = (q.val : ℤ) - k.val := by
  unfold ago
  have hq := q.isLt
  have hk := k.isLt
  rw [BitVec.toInt_eq_toNat_cond]
  simp only [BitVec.toNat_neg, BitVec.toNat_sub, BitVec.toNat_ofNat]
  split <;> omega

/-- The table's row of a bucket word. -/
def row (w : BitVec 32) : Fin 32 := ⟨w.toNat % 32, Nat.mod_lt _ (by norm_num)⟩

/-- The bias of a head between a query and a key: the table's entry in their bucket, of the second eight heads. -/
def biasOf (T : FVec Ideal S32x16 .f32) (h : Fin 8) (q k : Fin 4096) : EReal :=
  T (ix2 (row (bucket (ago q k))) ⟨8 + h.val, by omega⟩)

/-- The row of a batch and a position among all rows. -/
def pos (b : Fin 2) (q : Fin 4096) : Fin 8192 := ⟨b.val * 4096 + q.val, by omega⟩

/-- The reference's bucket word of a query and a key. -/
theorem bucket_ref (q k : Fin 4096) : res_main_v55 V0 (ix2 q k) = bucket (ago q k) := by
  unfold res_main_v55 res_main_v35 res_main_v31 res_main_v24 bucket ago
  pointwise
  rfl

/-- A gather of table rows at a matrix of row numbers, read at an index. -/
theorem gather_row (x : FVec Ideal S32x8 .f32) (idx : IVec S4096x4096x1 32) (q k : Fin 4096) (h : Fin 8) :
    Host.gather gather_S32x8_S4096x4096x1_S4096x4096x8_2_0_n_n_0_2_18 x idx (ix3 q k h)
      = x (ix2 ⟨min (idx (ix3 q k 0)).toInt.toNat 31, by omega⟩ h) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S4096x4096x1_S4096x4096x8_2_0_n_n_0_2_18.startIndexMap from List.mem_singleton.mpr rfl)]
    have hsi : gather_S32x8_S4096x4096x1_S4096x4096x8_2_0_n_n_0_2_18.siIdx (ix3 q k h)
        ⟨List.idxOf (0 : Fin 2) gather_S32x8_S4096x4096x1_S4096x4096x8_2_0_n_n_0_2_18.startIndexMap,
          List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start GatherDims.offCoord
    rw [dif_neg (by decide), dif_pos (by decide)]
    simp only [Nat.add_zero, Nat.zero_add]
    rfl

/-- The table's row numbers as the reference hands them to its gather: a negative one counted from the end. -/
def starts (B : IVec S4096x4096 32) : IVec S4096x4096x1 32 :=
  broadcastInDim S4096x4096x1 ![0, 1] bcast_S4096x4096_S4096x4096x1_0_1
    (select (cmpi .slt B (broadcastInDim S4096x4096 ![] bcast_S_S4096x4096 (constantI S_ 32 0#32)))
      (addi B (broadcastInDim S4096x4096 ![] bcast_S_S4096x4096 (constantI S_ 32 32#32))) B)

theorem starts_apply (B : IVec S4096x4096 32) (q k : Fin 4096) (h : (B (ix2 q k)).toNat < 32) :
    starts B (ix3 q k 0) = B (ix2 q k) := by
  unfold starts
  pointwise
  generalize B (ix2 q k) = w at h
  simp only [IntOp.cmpi, select_bit]
  rw [if_neg]
  simp only [BitVec.slt, decide_eq_true_eq]
  rw [BitVec.toInt_eq_toNat_of_lt (by omega)]
  simp

/-- A small row number, read signed and bounded by the table, is itself. -/
theorem row_of (w : BitVec 32) (h : w.toNat < 32) : (⟨min w.toInt.toNat 31, by omega⟩ : Fin 32) = row w := by
  apply Fin.ext
  show min w.toInt.toNat 31 = w.toNat % 32
  rw [BitVec.toInt_eq_toNat_of_lt (by omega)]
  omega

theorem bucket_ago_lt (q k : Fin 4096) : (bucket (ago q k)).toNat < 32 := by
  have hq := q.isLt
  have hk := k.isLt
  exact bucket_lt (ago q k) (by rw [ago_toInt]; omega) (by rw [ago_toInt]; omega)

/-- A transposed gather of table rows, read at an index. -/
theorem turned (G : FVec Ideal S4096x4096x8 .f32) (h : Fin 8) (q k : Fin 4096) :
    (transpose S8x4096x4096 [2, 0, 1] G transposes_S4096x4096x8_S8x4096x4096_2_0_1 : FVec Ideal S8x4096x4096 .f32) (ix3 h q k)
      = G (ix3 q k h) := by
  pointwise

theorem heads (T : FVec Ideal S32x16 .f32) (r : Fin 32) (h : Fin 8) :
    (extractStridedSlice S32x8 ![0, 8] T slices_S32x16_S32x8_0_8 : FVec Ideal S32x8 .f32) (ix2 r h) = T (ix2 r ⟨8 + h.val, by omega⟩) := by
  pointwise

/-- The reference's bias. -/
theorem bias_ref (h : Fin 8) (q k : Fin 4096) :
    res_main_v63 V0 (ix3 h q k) = biasOf (V0 (Proc.devRef .tc main_arg1)) h q k := by
  have hlt := bucket_ago_lt q k
  refine (turned (Host.gather gather_S32x8_S4096x4096x1_S4096x4096x8_2_0_n_n_0_2_18
      (extractStridedSlice S32x8 ![0, 8] (V0 (Proc.devRef .tc main_arg1)) slices_S32x16_S32x8_0_8 : FVec Ideal S32x8 .f32)
      (starts (res_main_v55 V0))) h q k).trans ?_
  rw [gather_row, heads]
  unfold biasOf
  have hs := starts_apply (res_main_v55 V0) q k (by rw [bucket_ref]; exact hlt)
  rw [bucket_ref] at hs
  have hr := row_of _ hlt
  simp only [hs]
  rw [hr]

/-- The columns of a head's queries, keys and values in the projection. -/
def colQ (h : Fin 8) (d : Fin 128) : Fin 6144 := ⟨3072 + (h.val * 128 + d.val), by omega⟩
def colK (h : Fin 8) (d : Fin 128) : Fin 6144 := ⟨4096 + (h.val * 128 + d.val), by omega⟩
def colV (h : Fin 8) (d : Fin 128) : Fin 6144 := ⟨5120 + (h.val * 128 + d.val), by omega⟩

/-- The projection, as a table. -/
def proj : Fin 8192 → Fin 6144 → EReal := fun r c => V0 (Proc.devRef .tc main_arg0) (ix2 r c)

theorem ofBits_eighth32 : Ideal.ofBits .f32 1040187392#32 = ((1 / 8 : ℝ) : EReal) := by
  simp [Ideal.ofBits, Ideal.ieee, ← EReal.coe_mul]
  norm_num

/-- The reference's scores of the first map. -/
theorem score1_ref (b : Fin 2) (h : Fin 8) (q k : Fin 4096) :
    res_main_v73 V0 (ix4 b h q k)
      = (∑ x : Fin 64, proj V0 (pos b q) (colQ h (lane 0 x)) * proj V0 (pos b k) (colK h (lane 0 x)))
        * Ideal.ofBits .f32 1040187392#32 + biasOf (V0 (Proc.devRef .tc main_arg1)) h q k := by
  rw [← bias_ref]
  unfold res_main_v73 res_main_v5 res_main_v6 res_main_v1 pos proj colQ colK lane
  pointwise
  rfl

/-- The reference's scores of the second map. -/
theorem score2_ref (b : Fin 2) (h : Fin 8) (q k : Fin 4096) :
    res_main_v83 V0 (ix4 b h q k)
      = (∑ x : Fin 64, proj V0 (pos b q) (colQ h (lane 1 x)) * proj V0 (pos b k) (colK h (lane 1 x)))
        * Ideal.ofBits .f32 1040187392#32 + biasOf (V0 (Proc.devRef .tc main_arg1)) h q k := by
  rw [← bias_ref]
  unfold res_main_v83 res_main_v5 res_main_v6 res_main_v1 pos proj colQ colK lane
  pointwise
  simp only [Fin.val_natAdd, Nat.add_assoc]

/-- The maximum of real numbers along an axis, begun at minus infinity, is real. -/
theorem reduce_max_real {s t u : Shape} {a : Fin s.rank} (h' : s.ReducesTo [a] t) (h : s.Reduces [a] t) (hu : 0 < u.numel)
    (X : FVec Ideal s .f32) (init : FVec Ideal u .f32) (hX : ∀ i, IsReal (X i)) (hi : init (Shape.Idx.first hu) = ⊥)
    (hs : 0 < s.size a) (j : t.Idx) : IsReal (Host.reduce (FloatOps.maximumf (F := Ideal) (φ := .f32)) X init h' hu j) := by
  have e := Host.reduce_eq_fold_single (α := EReal) max X init h' h hu j
  have e' : Host.reduce (FloatOps.maximumf (F := Ideal) (φ := .f32)) X init h' hu j = Host.reduce (α := EReal) max X init h' hu j := rfl
  rw [e', e, hi]
  exact isReal_fold _ (fun i => hX _) _ ⟨⟨0, hs⟩, Finset.mem_univ _⟩

/-- The largest score of every query, as the reference takes it. -/
def largest (X : FVec Ideal S2x8x4096x4096 .f32) : FVec Ideal S2x8x4096 .f32 :=
  maximumf (broadcastInDim S2x8x4096 ![] bcast_S_S2x8x4096 (constant S_ .f32 0xFF800000#32))
    (Host.reduce FloatOps.maximumf X (constant S_ .f32 0xFF800000#32) reducesTo_S2x8x4096x4096_S2x8x4096_d3 h_S_)

theorem reduces_last : S2x8x4096x4096.Reduces [3] S2x8x4096 := by decide

/-- The constant the maximum begins at is minus infinity. -/
theorem least_eq (y : S_.Idx) : (constant S_ .f32 0xFF800000#32 : FVec Ideal S_ .f32) y = ⊥ := ofBits_neg_inf

/-- The reference's reduction of real scores is real. -/
theorem reduced_real (X : FVec Ideal S2x8x4096x4096 .f32) (hX : ∀ i, IsReal (X i)) (j : S2x8x4096.Idx) :
    IsReal (Host.reduce (FloatOps.maximumf (F := Ideal) (φ := .f32)) X (constant (F := Ideal) S_ .f32 0xFF800000#32) reducesTo_S2x8x4096x4096_S2x8x4096_d3 h_S_ j) :=
  reduce_max_real (a := 3) _ reduces_last h_S_ X _ hX (least_eq _) (by decide) j

theorem max_least (R : FVec Ideal S2x8x4096 .f32) (b : Fin 2) (h : Fin 8) (q : Fin 4096) :
    (maximumf (broadcastInDim S2x8x4096 ![] bcast_S_S2x8x4096 (constant S_ .f32 0xFF800000#32)) R : FVec Ideal S2x8x4096 .f32) (ix3 b h q)
      = max (Ideal.ofBits .f32 4286578688#32) (R (ix3 b h q)) := by
  pointwise

/-- The largest of real scores is real. -/
theorem largest_real (X : FVec Ideal S2x8x4096x4096 .f32) (hX : ∀ i, IsReal (X i)) (b : Fin 2) (h : Fin 8) (q : Fin 4096) :
    IsReal (largest X (ix3 b h q)) := by
  unfold largest
  rw [max_least, ofBits_neg_inf]
  exact isReal_max (Or.inr rfl) (reduced_real X hX _)

/-- The scores less their largest, exponentiated. -/
theorem exp_apply (X : FVec Ideal S2x8x4096x4096 .f32) (b : Fin 2) (h : Fin 8) (q k : Fin 4096) :
    (Host.exp (subf X (broadcastInDim S2x8x4096x4096 ![0, 1, 2, 3] bcast_S2x8x4096x1_S2x8x4096x4096_0_1_2_3
      (broadcastInDim S2x8x4096x1 ![0, 1, 2] bcast_S2x8x4096_S2x8x4096x1_0_1_2 (largest X)))) : FVec Ideal S2x8x4096x4096 .f32) (ix4 b h q k)
      = Ideal.exp (X (ix4 b h q k) - largest X (ix3 b h q)) := by
  generalize largest X = M
  pointwise

section
variable (p : Fin 8192 → Fin 6144 → ℝ) (bi : Fin 8 → Fin 4096 → Fin 4096 → ℝ)

/-- The score of a query and a key of a batch and a head under a map. -/
def attScore (b : Fin 2) (h : Fin 8) (mp : ℕ) (q k : Fin 4096) : ℝ :=
  score (fun d => p (pos b q) (colQ h d)) (fun d => p (pos b k) (colK h d)) (bi h q k) mp

/-- The differential attention of a query: the mean of the values under the first map less the factor times that under
    the second. -/
def attended (lam : EReal) (b : Fin 2) (h : Fin 8) (q : Fin 4096) (d : Fin 128) : EReal :=
  (mean (attScore p bi b h 0 q) (fun k => p (pos b k) (colV h d)) : ℝ)
    - lam * (mean (attScore p bi b h 1 q) (fun k => p (pos b k) (colV h d)) : ℝ)

variable (hp : ∀ r c, proj V0 r c = (p r c : ℝ))
  (hb : ∀ h q k, biasOf (V0 (Proc.devRef .tc main_arg1)) h q k = (bi h q k : ℝ))

include hp hb

theorem score1_real (b : Fin 2) (h : Fin 8) (q k : Fin 4096) :
    res_main_v73 V0 (ix4 b h q k) = ((attScore p bi b h 0 q k : ℝ) : EReal) := by
  rw [score1_ref, hb, ofBits_eighth32]
  simp only [hp, ← EReal.coe_mul]
  rw [coe_sum, ← EReal.coe_mul, ← EReal.coe_add]
  rfl

theorem score2_real (b : Fin 2) (h : Fin 8) (q k : Fin 4096) :
    res_main_v83 V0 (ix4 b h q k) = ((attScore p bi b h 1 q k : ℝ) : EReal) := by
  rw [score2_ref, hb, ofBits_eighth32]
  simp only [hp, ← EReal.coe_mul]
  rw [coe_sum, ← EReal.coe_mul, ← EReal.coe_add]
  rfl

/-- The exponentials the reference takes of the first map's scores, less some real number. -/
theorem exp1_ref (b : Fin 2) (h : Fin 8) (q : Fin 4096) :
    ∃ M : EReal, IsReal M ∧
      ∀ k, res_main_v90 V0 (ix4 b h q k) = Ideal.exp (((attScore p bi b h 0 q k : ℝ) : EReal) - M) := by
  have hX : ∀ i, IsReal ((res_main_v73 V0 : FVec Ideal S2x8x4096x4096 .f32) i) := fun i => by
    rw [eq_ix4 i]
    exact ⟨_, score1_real V0 p bi hp hb _ _ _ _⟩
  refine ⟨_, largest_real _ hX b h q, fun k => ?_⟩
  rw [← score1_real V0 p bi hp hb]
  exact exp_apply (res_main_v73 V0) b h q k

/-- The exponentials the reference takes of the second map's scores, less some real number. -/
theorem exp2_ref (b : Fin 2) (h : Fin 8) (q : Fin 4096) :
    ∃ M : EReal, IsReal M ∧
      ∀ k, res_main_v101 V0 (ix4 b h q k) = Ideal.exp (((attScore p bi b h 1 q k : ℝ) : EReal) - M) := by
  have hX : ∀ i, IsReal ((res_main_v83 V0 : FVec Ideal S2x8x4096x4096 .f32) i) := fun i => by
    rw [eq_ix4 i]
    exact ⟨_, score2_real V0 p bi hp hb _ _ _ _⟩
  refine ⟨_, largest_real _ hX b h q, fun k => ?_⟩
  rw [← score2_real V0 p bi hp hb]
  exact exp_apply (res_main_v83 V0) b h q k

/-- The reference's difference factor. -/
def lamR : EReal := lamOf (V0 (Proc.devRef .tc main_arg3)) (V0 (Proc.devRef .tc main_arg4))
  (V0 (Proc.devRef .tc main_arg5)) (V0 (Proc.devRef .tc main_arg6))

omit hp hb in
/-- The reference's weighted sum, read at an index. -/
theorem out_ref (b : Fin 2) (h : Fin 8) (q : Fin 4096) (d : Fin 128) :
    res_main_v110 V0 (ix4 b q h d)
      = ∑ x : Fin 4096, proj V0 (pos b x) (colV h d) *
          (Ideal.div (res_main_v90 V0 (ix4 b h q x)) (∑ x : Fin 4096, (show EReal from res_main_v90 V0 (ix4 b h q x)))
            - lamR V0 * Ideal.div (res_main_v101 V0 (ix4 b h q x)) (∑ x : Fin 4096, (show EReal from res_main_v101 V0 (ix4 b h q x)))) := by
  unfold res_main_v110 res_main_v1 lamR lamOf proj pos colV
  pointwise

/-- The reference's attention on real data. -/
theorem attended_ref (hl : IsReal (lamR V0)) (b : Fin 2) (h : Fin 8) (q : Fin 4096) (d : Fin 128) :
    res_main_v110 V0 (ix4 b q h d) = attended p bi (lamR V0) b h q d := by
  obtain ⟨M1, h1, e1⟩ := exp1_ref V0 p bi hp hb b h q
  obtain ⟨M2, h2, e2⟩ := exp2_ref V0 p bi hp hb b h q
  rw [out_ref]
  unfold attended
  rw [← diff_eq_mean (n := 4095) (attScore p bi b h 0 q) (attScore p bi b h 1 q) (fun k => p (pos b k) (colV h d)) M1 M2 (lamR V0) h1 h2 hl]
  simp only [e1, e2, hp]

end

/-- The columns of a head in the result. -/
def colO (h : Fin 8) (d : Fin 128) : Fin 1024 := ⟨h.val * 128 + d.val, by omega⟩

/-- The reference's result. -/
def result : FVec Ideal S8192x1024 .bf16 :=
  truncf .bf16 (shapeCast _ (mulf (mulf (mulf (res_main_v110 V0) (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf (res_main_v110 V0) (res_main_v110 V0)) (constant S_ .f32 0x00000000#32) reducesTo_S2x4096x8x128_S2x4096x8_d3 h_S_)) (broadcastInDim S2x4096x8x1 ![] bcast_S_S2x4096x8x1 (constant S_ .f32 0x43000000#32))) (broadcastInDim S2x4096x8x1 ![] bcast_S_S2x4096x8x1 (constant S_ .f32 0x3727C5AC#32)))))) (broadcastInDim S2x4096x8x128 ![0, 1, 2, 3] bcast_S1x1x8x128_S2x4096x8x128_0_1_2_3 (broadcastInDim S1x1x8x128 ![2, 3] bcast_S8x128_S1x1x8x128_2_3 (shapeCast _ (extractStridedSlice S1x8x128 ![0, 0, 0] (V0 (Proc.devRef .tc main_arg2)) slices_S2x8x128_S1x8x128_0_0_0) shapeCasts_S1x8x128_S8x128)))) (broadcastInDim S2x4096x8x128 ![] bcast_S_S2x4096x8x128 (constant S_ .f32 0x3F4CCCCD#32))) shapeCasts_S2x4096x8x128_S8192x1024) bitsLt_bf16_f32

/-- The reference's result, read at an index. -/
theorem result_apply (b : Fin 2) (h : Fin 8) (q : Fin 4096) (d : Fin 128) :
    result V0 (ix2 (pos b q) (colO h d))
      = normed (fun x => res_main_v110 V0 (ix4 b q h x)) ((V0 (Proc.devRef .tc main_arg2) : FVec Ideal S2x8x128 .f32) (ix3 0 h d)) d := by
  unfold result pos colO normed
  pointwise

end Cert.DiffAttn

end
-- ==== Proof.Out.lean ====
/- The kernel's result array, at an index. -/
module

public import proofs.«01_k».proof.Proof.Ref
public import proofs.«01_k».proof.Proof.Steps
public import proofs.«01_k».proof.Proof.CanonRun
public import proofs.«01_k».proof.Proof.Loads
public import proofs.«01_k».proof.Proof.Gen.KernelIdeal.Value
public import Idealize.ShloMosaic.Lib.VecWindow

@[expose] public section

set_option maxRecDepth 16384

noncomputable section

namespace Cert.DiffAttn

open Cert.KernelIdeal Cert.KernelIdeal.Gen Idealize.ShloMosaic Idealize.ShloMosaic.TcCoe Idealize.SL.Sem
open Cert.KernelIdeal.Facts

variable (m : (ℓ : Loc nD τ sig) → Buf (Elt Ideal) ℓ)

/-- The blocks a step reads, at their literal shapes. -/
def blkQ (c : Dev nD) (t : Fin cfg0.N) : FVec Ideal S1024x128 .bf16 := iblk m c 1 t
def blkK (c : Dev nD) (t : Fin cfg0.N) : FVec Ideal S4096x128 .bf16 := iblk m c 2 t
def blkV (c : Dev nD) (t : Fin cfg0.N) : FVec Ideal S4096x128 .bf16 := iblk m c 3 t
def blkB (c : Dev nD) (t : Fin cfg0.N) : FVec Ideal S1x5x256x256 .f32 := iblk m c 4 t
def blkG (c : Dev nD) (t : Fin cfg0.N) : FVec Ideal S1x1x128 .f32 := iblk m c 5 t
def blkL (c : Dev nD) (t : Fin cfg0.N) : FVec Ideal S1 .f32 := iblk m c 0 t

/-- The values' scratch of a head: its values, ones beside them. -/
def scr (V : FVec Ideal S4096x128 .bf16) : FVec Ideal S4096x256 .bf16 := View.canon (vPieces V)

/-- The value block of a step is the value block of the step before in the same head. -/
theorem values_keep (c : Dev nD) (n : ℕ) (h : n + 1 < cfg0.N) (h4 : ¬ (n + 1) % 4 = 0) :
    iblk m c 3 ⟨n, Nat.lt_of_succ_lt h⟩ = iblk m c 3 ⟨n + 1, h⟩ := by
  have a : n / 32 = (n + 1) / 32 := by omega
  have b : n / 4 % 8 = (n + 1) / 4 % 8 := by omega
  funext y
  rw [show y = ix2 (y 0) (y 1) from eq_ix2 y]
  refine (iblk3 m c _ _ _).trans (Eq.trans ?_ (iblk3 m c _ _ _).symm)
  simp only [a, b]

/-- What the values' scratch holds after a step: the head's values, ones beside them. -/
theorem scratch_eq (c : Dev nD) : ∀ (n : ℕ) (h : n < cfg0.N), (outsAt0 m c n h).2 = scr (blkV m c ⟨n, h⟩) := by
  have first : ∀ t : Fin cfg0.N, t.val % 4 = 0 → (outsAt0 m c t.val t.isLt).2 = scr (blkV m c t) := by
    intro t h0
    rw [outsAt0_A m c t h0]
    dsimp only
    unfold sout0_A_2
    rw [scratch_A, ldV_eq]
    exact View.read_writes_junk_eq_canon _ _
  intro n
  induction n with
  | zero => intro h; exact first ⟨0, h⟩ rfl
  | succ n ih =>
    intro h
    by_cases h4 : (n + 1) % 4 = 0
    · exact first ⟨n + 1, h⟩ h4
    · rw [outsAt0_B m c ⟨n + 1, h⟩ h4]
      dsimp only
      unfold sout0_B_2
      refine (ih (Nat.lt_of_succ_lt h)).trans ?_
      unfold blkV
      rw [values_keep m c n h h4]

/-- The scratch read back in full is the scratch. -/
theorem cov_eq {sg : RefSig} {κ : Kind} {sp : Space} (v : View sg κ sp S4096x256 .bf16) (V : FVec Ideal S4096x128 .bf16) :
    v.readCov (vPieces V) (Rect.unit ![0, 0] S4096x256.size inb_S4096x256_S4096x256_0_0).toLoadRect = scr V := by
  rw [View.readCov_eq_canon']
  funext j
  unfold scr
  refine congrArg _ ?_
  funext a
  refine Fin.ext ((Rect.idx_unit_val _ _ _ _ a).trans ?_)
  fin_cases a <;> simp

/-- What a step leaves in its output block. -/
def pointOut (c : Dev nD) (t : Fin cfg0.N) : FVec Ideal S1024x128 .bf16 :=
  View.canon (outPieces scM0_0.view scM0_1.view (blkQ m c t) (ldK (ms0_2 t) (hs0_2 t) (blkK m c t))
    (ldB (grid0.coords t) (ms0_4 t) (hs0_4 t) (blkB m c t)) (scr (blkV m c t))
    (ldL (ms0_0 t) (hs0_0 t) (blkL m c t)) (ldG (ms0_5 t) (hs0_5 t) (blkG m c t)) 4)

theorem flushed_eq (c : Dev nD) (t : Fin cfg0.N) :
    (dats m 0 c).flushed 6 t = (cfg0.win 6).cut (grid0.coords t) (pointOut m c t) := by
  by_cases h0 : t.val % 4 = 0
  · rw [Value.flushed6_A m c t h0]
    congr 1
    unfold out0_A_6 pointOut
    rw [run_A, ldQ_eq, ldV_eq]
    refine (View.read_writes_junk_eq_canon _ _).trans ?_
    rw [cov_eq]
    rfl
  · rw [Value.flushed6_B m c t h0]
    congr 1
    unfold out0_B_6 pointOut
    rw [run_B, ldQ_eq, ldW_eq, scratch_eq]
    refine (View.read_writes_junk_eq_canon _ _).trans ?_
    have hk : blkV m c ⟨t.val - 1, Nat.lt_of_le_of_lt (Nat.sub_le _ _) t.isLt⟩ = blkV m c t := by
      obtain ⟨n, hn⟩ := t
      cases n with
      | zero => exact absurd rfl h0
      | succ n => exact values_keep m c n hn h0
    rw [hk]
    rfl

end Cert.DiffAttn

end
-- ==== Proof.Near.lean ====
/- The bias tile of a query block and a key block holds the table's entries in their buckets. -/
module

public import proofs.«01_k».proof.Proof.Ref
public import proofs.«01_k».proof.Proof.Loads

@[expose] public section

set_option maxRecDepth 16384

noncomputable section

namespace Cert.DiffAttn

open Idealize.ShloMosaic

/-- A tile's position difference, as an integer. -/
theorem relK_toInt (u : Fin 5) (r k : Fin 256) : (-relK (ix3 u r k)).toInt = (2 - (u.val : ℤ)) * 256 + r.val - k.val := by
  rw [relK_apply]
  have hr := r.isLt
  have hk := k.isLt
  rw [BitVec.toInt_eq_toNat_cond]
  simp only [BitVec.toNat_neg, BitVec.toNat_sub, BitVec.toNat_add, BitVec.toNat_mul, BitVec.toNat_ofNat]
  fin_cases u <;> simp <;> split <;> omega

/-- The tile's bucket is a row of the table. -/
theorem bucket_tile_lt (u : Fin 5) (r k : Fin 256) : (bucket (-relK (ix3 u r k))).toNat < 32 := by
  have hr := r.isLt
  have hk := k.isLt
  have hu := u.isLt
  exact bucket_lt _ (by rw [relK_toInt]; omega) (by rw [relK_toInt]; omega)

theorem slt_zero (n : BitVec 32) : n.slt 0#32 = decide (n.toInt < 0) := by
  simp [BitVec.slt]

/-- A query and a key fall in the bucket of their place in the tile the kernel reads for their blocks: the same position
    difference near the diagonal, and beyond it both differences lie in the last bucket of their side. -/
theorem bucket_near (q k : Fin 4096) :
    bucket (-relK (ix3 ⟨cls (k.val / 256) (q.val / 256), cls_lt _ _⟩ ⟨q.val % 256, by omega⟩ ⟨k.val % 256, by omega⟩)) = bucket (ago q k) := by
  have hq := q.isLt
  have hk := k.isLt
  have e := relK_toInt ⟨cls (k.val / 256) (q.val / 256), cls_lt _ _⟩ ⟨q.val % 256, by omega⟩ ⟨k.val % 256, by omega⟩
  have e' := ago_toInt q k
  simp only at e
  generalize -relK (ix3 ⟨cls (k.val / 256) (q.val / 256), cls_lt _ _⟩ ⟨q.val % 256, by omega⟩ ⟨k.val % 256, by omega⟩) = w at e ⊢
  generalize ago q k = w' at e' ⊢
  unfold cls at e
  by_cases h1 : k.val / 256 + 2 ≤ q.val / 256
  · rw [if_pos h1] at e
    have a : 257 ≤ w.toInt := by omega
    have a' : 257 ≤ w'.toInt := by omega
    rw [bucket_far w (by omega) (by omega) (by rw [abs_of_nonneg (by omega)]; omega),
      bucket_far w' (by omega) (by omega) (by rw [abs_of_nonneg (by omega)]; omega), slt_zero, slt_zero,
      decide_eq_false (by omega), decide_eq_false (by omega)]
  · by_cases h2 : q.val / 256 + 2 ≤ k.val / 256
    · rw [if_neg h1, if_pos h2] at e
      have a : w.toInt ≤ -257 := by omega
      have a' : w'.toInt ≤ -257 := by omega
      rw [bucket_far w (by omega) (by omega) (by rw [abs_of_neg (by omega)]; omega),
        bucket_far w' (by omega) (by omega) (by rw [abs_of_neg (by omega)]; omega), slt_zero, slt_zero,
        decide_eq_true (by omega), decide_eq_true (by omega)]
    · rw [if_neg h1, if_neg h2] at e
      congr 1
      apply BitVec.eq_of_toInt_eq
      omega

end Cert.DiffAttn

end
-- ==== Proof.Point.lean ====
/- The kernel's output block at an index, on real projections and a real bias table. -/
module

public import proofs.«01_k».proof.Proof.Out
public import proofs.«01_k».proof.Proof.Near
public import proofs.«01_k».proof.Proof.HostK

@[expose] public section

set_option maxRecDepth 16384

noncomputable section

namespace Cert.DiffAttn

open Cert.KernelIdeal Cert.KernelIdeal.Gen Idealize.ShloMosaic Idealize.ShloMosaic.TcCoe Idealize.SL.Sem
open Cert.KernelIdeal.Facts

/-- The bias of a head between a query and a key, of a real table. -/
def biasR (tb : Fin 32 → Fin 16 → ℝ) (h : Fin 8) (q k : Fin 4096) : ℝ :=
  tb (row (bucket (ago q k))) ⟨8 + h.val, by omega⟩

/-- A head's bias tiles, of a real table. -/
def tileR (tb : Fin 32 → Fin 16 → ℝ) (h : Fin 8) (u : Fin 5) (r k : Fin 256) : ℝ :=
  tb ⟨(bucket (-relK (ix3 u r k))).toNat, bucket_tile_lt u r k⟩ ⟨8 + h.val, by omega⟩

/-- The tile the kernel reads for a query and a key holds their bias. -/
theorem tile_bias (tb : Fin 32 → Fin 16 → ℝ) (h : Fin 8) (q k : Fin 4096) :
    tileR tb h ⟨cls (k.val / 256) (q.val / 256), cls_lt _ _⟩ ⟨q.val % 256, by omega⟩ ⟨k.val % 256, by omega⟩ = biasR tb h q k := by
  unfold tileR biasR
  have e := bucket_near q k
  have hl := bucket_tile_lt ⟨cls (k.val / 256) (q.val / 256), cls_lt _ _⟩ ⟨q.val % 256, by omega⟩ ⟨k.val % 256, by omega⟩
  refine congrArg (fun x => tb x _) (Fin.ext ?_)
  show (bucket _).toNat = (bucket (ago q k)).toNat % 32
  rw [← e, Nat.mod_eq_of_lt hl]

variable (m : (ℓ : Loc nD τ sig) → Buf (Elt Ideal) ℓ)

/-- The batch, the head and a row's position of a grid step. -/
def batchOf (t : Fin cfg0.N) : Fin 2 := ⟨t.val / 32, by have := lt64 t; omega⟩
def headOf (t : Fin cfg0.N) : Fin 8 := ⟨t.val / 4 % 8, by omega⟩
def rowOf (t : Fin cfg0.N) (R : Fin 1024) : Fin 4096 := ⟨1024 * (t.val % 4) + R.val, by omega⟩

/-- The difference's factor of the kernel's arguments. -/
def lamK (c : Dev nD) : EReal :=
  lamOf (m ((c : Thread nD τ).loc main_arg3)) (m ((c : Thread nD τ).loc main_arg4)) (m ((c : Thread nD τ).loc main_arg5)) (m ((c : Thread nD τ).loc main_arg6))

def argP (c : Dev nD) : FVec Ideal S8192x6144 .bf16 := m ((c : Thread nD τ).loc main_arg0)
def argT (c : Dev nD) : FVec Ideal S32x16 .f32 := m ((c : Thread nD τ).loc main_arg1)
def argG (c : Dev nD) : FVec Ideal S2x8x128 .f32 := m ((c : Thread nD τ).loc main_arg2)

variable (p : Fin 8192 → Fin 6144 → ℝ) (tb : Fin 32 → Fin 16 → ℝ)

/-- A grid step's output block: the normed differential attention of its rows. -/
theorem point_apply (c : Dev nD) (hp : ∀ r x, argP m c (ix2 r x) = (p r x : ℝ)) (ht : ∀ i j, argT m c (ix2 i j) = (tb i j : ℝ))
    (t : Fin cfg0.N) (R : Fin 1024) (d : Fin 128) :
    pointOut m c t (ix2 R d)
      = normed (attended p (biasR tb) (lamK m c) (batchOf t) (headOf t) (rowOf t R)) (argG m c (ix3 0 (headOf t) d)) d := by
  have hN := lt64 t
  unfold pointOut
  refine (block_real (fun R d => p (pos (batchOf t) (rowOf t R)) (colQ (headOf t) d))
    (fun k d => p (pos (batchOf t) k) (colK (headOf t) d)) (fun k d => p (pos (batchOf t) k) (colV (headOf t) d))
    (tileR tb (headOf t)) (t.val % 4) _ _ _ _ ?_ ?_ ?_ _ _ ?_ ?_ _ _ R d).trans ?_
  · intro R d
    refine (iblk1 m c t R d).trans ((congrArg (argP m c) ?_).trans (hp _ _))
    refine congrArg₂ ix2 (Fin.ext ?_) (Fin.ext ?_) <;> simp [pos, batchOf, rowOf, colQ, headOf] <;> omega
  · intro k r d
    rw [ldK_apply]
    refine (iblk2 m c t _ d).trans ((congrArg (argP m c) ?_).trans (hp _ _))
    refine congrArg₂ ix2 (Fin.ext ?_) (Fin.ext ?_) <;> simp [pos, batchOf, rowOf, colK, headOf] <;> omega
  · intro k u r x
    rw [ldB_apply]
    refine (iblk4 m c t _ r x).trans ?_
    refine (bias_tile m c (headOf t) _ r x (bucket_tile_lt _ _ _)).trans ?_
    refine (ht _ _).trans ?_
    unfold tileR
    simp only [coord2 t]
  · intro k d
    unfold scr
    rw [v1_left]
    refine (iblk3 m c t k d).trans ((congrArg (argP m c) ?_).trans (hp _ _))
    refine congrArg₂ ix2 (Fin.ext ?_) (Fin.ext ?_) <;> simp [pos, batchOf, rowOf, colV, headOf] <;> omega
  · intro k d
    exact v1_right _ k d
  · have hs : ∀ mp, scoreAt (fun R d => p (pos (batchOf t) (rowOf t R)) (colQ (headOf t) d))
        (fun k d => p (pos (batchOf t) k) (colK (headOf t) d)) (tileR tb (headOf t)) (t.val % 4) mp R
        = attScore p (biasR tb) (batchOf t) (headOf t) mp (rowOf t R) := by
      intro mp
      funext k
      unfold scoreAt attScore
      rw [← tile_bias tb (headOf t) (rowOf t R) k]
      have e1 : 4 * (t.val % 4) + R.val / 256 = (rowOf t R).val / 256 := by simp only [rowOf]; omega
      have e2 : R.val % 256 = (rowOf t R).val % 256 := by simp only [rowOf]; omega
      simp only [e1, e2]
    rw [hs, hs]
    have hl : ldL (F := Ideal) (ms0_0 t) (hs0_0 t) (blkL m c t) = lamK m c := by
      rw [ldL_eq]
      exact (iblk0 m c t).trans (lam_apply m c)
    have hg : ldG (ms0_5 t) (hs0_5 t) (blkG m c t) (ix3 0 0 d) = argG m c (ix3 0 (headOf t) d) := by
      rw [ldG_eq]
      exact (iblk5 m c t d).trans (gain_apply m c (headOf t) d)
    rw [hl, hg]
    rfl

/-- The kernel's result array: the normed differential attention, everywhere. -/
theorem array_eq (c : Dev nD) (hp : ∀ r x, argP m c (ix2 r x) = (p r x : ℝ)) (ht : ∀ i j, argT m c (ix2 i j) = (tb i j : ℝ))
    (G : FVec Ideal S8192x1024 .bf16)
    (hG : ∀ b h q d, G (ix2 (pos b q) (colO h d)) = normed (attended p (biasR tb) (lamK m c) b h q) (argG m c (ix3 0 h d)) d) :
    (dats m 0 c).arrAt 6 cfg0.N = G := by
  refine (dats m 0 c).arrAt_eq_of_covers 6 _ (by decide +kernel) fun t hf y => ?_
  have hN := lt64 t
  refine (congrFun (flushed_eq m c t) y).trans ?_
  show pointOut m c t y = _
  rw [show y = ix2 (y 0) (y 1) from eq_ix2 y]
  refine (point_apply m p tb c hp ht t (y 0) (y 1)).trans ?_
  refine (hG _ _ _ _).symm.trans (congrArg G ?_)
  refine Eq.symm ?_
  blk_simp
  simp only [index6 t]
  funext a
  refine Fin.ext ?_
  fin_cases a
  · have e : win0_6.index t 0 = t.val / 32 * 4 + t.val % 4 := congrFun (index6 t) 0
    show win0_6.index t 0 * 1024 + 1 * (y 0).val = t.val / 32 * 4096 + (1024 * (t.val % 4) + (y 0).val)
    generalize (y 0).val = z
    omega
  · have e : win0_6.index t 1 = t.val / 4 % 8 := congrFun (index6 t) 1
    show win0_6.index t 1 * 128 + 1 * (y 1).val = t.val / 4 % 8 * 128 + (y 1).val
    generalize (y 1).val = z
    omega

end Cert.DiffAttn

end
-- ==== Proof.Close.lean ====
/- The two results agree: the value claim. -/
module

public import proofs.«01_k».proof.Proof.Finite
public import proofs.«01_k».proof.Proof.Point
public import Idealize.ShloMosaic.Lib.Quiescent

@[expose] public section

set_option maxRecDepth 16384

noncomputable section

namespace Cert.DiffAttn

open Idealize.ShloMosaic Idealize.ShloMosaic.TcCoe Idealize.ShloMosaic.StableHlo Idealize.SL.Sem

theorem isReal_factor : IsReal (Ideal.ofBits .f32 1045220557#32) := by
  simp only [Ideal.ofBits, Ideal.ieee]
  norm_num
  exact isReal_mul ⟨_, rfl⟩ ⟨_, rfl⟩

/-- The difference's factor is real on real vectors. -/
theorem isReal_lam (a3 a4 a5 a6 : FVec Ideal Cert.KernelIdeal.S2x64 .f32) (h3 : ∀ i, IsReal (a3 i)) (h4 : ∀ i, IsReal (a4 i))
    (h5 : ∀ i, IsReal (a5 i)) (h6 : ∀ i, IsReal (a6 i)) : IsReal (lamOf a3 a4 a5 a6) :=
  isReal_add (isReal_sub (isReal_exp (isReal_sum _ _ fun _ => isReal_mul (h3 _) (h4 _)))
    (isReal_exp (isReal_sum _ _ fun _ => isReal_mul (h5 _) (h6 _)))) isReal_factor

variable (m : (ℓ : Loc Cert.KernelIdeal.nD Cert.KernelIdeal.τ Cert.KernelIdeal.sig) → Buf (Elt Ideal) ℓ)
variable (V0 : Idealize.ShloMosaic.Valuation Cert.ReferenceIdeal.τ Cert.ReferenceIdeal.sig (Elt Ideal))

/-- The reference's result, of a real projection and a real bias table. -/
theorem result_real (p : Fin 8192 → Fin 6144 → ℝ) (tb : Fin 32 → Fin 16 → ℝ) (hp : ∀ r x, proj V0 r x = (p r x : ℝ))
    (hb : ∀ h q k, biasOf (V0 (Proc.devRef .tc Cert.ReferenceIdeal.main_arg1)) h q k = (biasR tb h q k : ℝ)) (hl : IsReal (lamR V0))
    (b : Fin 2) (h : Fin 8) (q : Fin 4096) (d : Fin 128) :
    result V0 (ix2 (pos b q) (colO h d))
      = normed (attended p (biasR tb) (lamR V0) b h q) ((V0 (Proc.devRef .tc Cert.ReferenceIdeal.main_arg2) : FVec Ideal Cert.ReferenceIdeal.S2x8x128 .f32) (ix3 0 h d)) d := by
  rw [result_apply]
  exact congrArg (fun f => normed f _ d) (funext fun x => attended_ref V0 p (biasR tb) hp hb hl b h q x)

/-- On finite inputs the kernel's result array is the reference's result. -/
theorem value_eq (m' : (ℓ : Loc Cert.ReferenceIdeal.nD Cert.ReferenceIdeal.τ Cert.ReferenceIdeal.sig) → Buf (Elt Ideal) ℓ)
    (c : Dev Cert.KernelIdeal.nD) (hpre : Cert.Pre_KernelIdeal_inputs_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (Cert.KernelIdeal.Gen.dats m 0 c).arrAt 6 Cert.KernelIdeal.cfg0.N = result (launchContents m' c) := by
  obtain ⟨f0, f1, f3, f4, f5, f6⟩ := hpre c
  have r0 : ∀ i, IsReal (argP m c i) := real_bf16 (argP m c) _ f0
  have r1 : ∀ i, IsReal (argT m c i) := real_f32 (argT m c) _ f1
  choose p hp using fun (r : Fin 8192) (x : Fin 6144) => r0 (ix2 r x)
  choose tb ht using fun (i : Fin 32) (j : Fin 16) => r1 (ix2 i j)
  have hl : IsReal (lamK m c) := isReal_lam _ _ _ _ (real_f32 _ _ f3) (real_f32 _ _ f4) (real_f32 _ _ f5) (real_f32 _ _ f6)
  have el : lamR (launchContents m' c) = lamK m c := by
    unfold lamR lamK
    exact (congrArg₂ (fun a b => lamOf a b _ _) h3 h4).trans (congrArg₂ (fun a b => lamOf _ _ a b) h5 h6)
  have e0 : ∀ r x, proj (launchContents m' c) r x = (p r x : ℝ) := fun r x => (congrFun h0 (ix2 r x)).trans (hp r x)
  have e1 : ∀ h q k, biasOf (launchContents m' c (Proc.devRef .tc Cert.ReferenceIdeal.main_arg1)) h q k = (biasR tb h q k : ℝ) :=
    fun h q k => (congrFun h1 _).trans (ht _ _)
  refine array_eq m p tb c hp ht _ fun b h q d => ?_
  rw [result_real (launchContents m' c) p tb e0 e1 (el ▸ hl), el]
  exact congrArg (fun g => normed _ g d) (congrFun h2 (ix3 0 h d))

/-- The value claim. -/
theorem algebraic : Cert.algebraic_KernelIdeal_ReferenceIdeal_pre_inputs_finite := by
  intro m ρ m' ρ' hpre hag
  refine ⟨fun c => (Cert.KernelIdeal.Gen.dats m 0 c).arrAt 6 Cert.KernelIdeal.cfg0.N, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6⟩ := hag c
  exact (value_eq m m' c hpre h0 h1 h2 h3 h4 h5 h6).symm

/-- The reference runs, keeps its arguments and declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.DiffAttn

end
-- ==== Proof.Rms.lean ====
/- A row normalized by its root mean square. -/
module

public import Idealize.ShloMosaic.Lib.Pipeline.ValueKit
public import Idealize.ShloMosaic.Lib.Claim

@[expose] public section

noncomputable section

namespace Cert

open Idealize.ShloMosaic

/-- A row of 2048 entries normalized by its root mean square, times the gain. -/
def rms (x : Fin 2048 → EReal) (g : EReal) (d : Fin 2048) : EReal :=
  x d * Ideal.rsqrt (Ideal.div (∑ e, x e * x e) (Ideal.ofBits FTy.f32 1157627904#32) + Ideal.ofBits FTy.f32 897988541#32) * g

end Cert

end
-- ==== Proof.NormProj.lean ====
/- The first layer's norm and combined projection: the kernel's result array is the reference's. -/
module

public import proofs.«01_k».proof.Defs
public import proofs.«01_k».proof.Proof.Rms
public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import Idealize.ShloMosaic.Lib.Quiescent
public import Idealize.ShloMosaic.Lib.VecWindow

@[expose] public section

set_option maxRecDepth 16384

noncomputable section

namespace Cert.NormProj

open Cert.Kernel2Ideal Cert.Kernel2Ideal.Gen Idealize.ShloMosaic Idealize.ShloMosaic.TcCoe Idealize.ShloMosaic.StableHlo Idealize.SL.Sem
open Cert.Kernel2Ideal.Facts

section
variable {F : FTy → Type} [FloatOps F]

/-- The block of rows and the whole block as rectangles. -/
abbrev rowsR : Rect S512x2048 := Rect.unit (s := S512x2048) ![0, 0] S512x2048.size inb_S512x2048_S512x2048_0_0
abbrev gainR : Rect S1x2048 := Rect.unit (s := S1x2048) ![0, 0] S1x2048.size inb_S1x2048_S1x2048_0_0
abbrev weightR : Rect S2048x1024 := Rect.unit (s := S2048x1024) ![0, 0] S2048x1024.size inb_S2048x1024_S2048x1024_0_0
abbrev outR : Rect S512x1024 := Rect.unit (s := S512x1024) ![0, 0] S512x1024.size inb_S512x1024_S512x1024_0_0

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x2048 .bf16) (harg6 : arg6.IsWhole)
  (x0 : Vec F S512x2048 .f32) (x1 : Vec F S1x2048 .f32) (x2 : Vec F S2048x1024 .bf16) (xs0 : Vec F S512x2048 .bf16)

def ldX : FVec F S512x2048 .f32 := View.readAt (Elt F) arg2.view rowsR.toLoadRect (harg2.unread x0)
def ldG : FVec F S1x2048 .f32 := View.readAt (Elt F) arg3.view gainR.toLoadRect (harg3.unread x1)
def ldW : FVec F S2048x1024 .bf16 := View.readAt (Elt F) arg4.view weightR.toLoadRect (harg4.unread x2)
def ldN : FVec F S512x2048 .bf16 := View.readAt (Elt F) arg6.view rowsR.toLoadRect (harg6.unread xs0)

/-- A whole-block load is the block. -/
theorem ldX_eq : ldX arg2 harg2 x0 = x0 := by
  unfold ldX; rw [View.readAt_eq_ld, Memref.IsWhole.read_unread]; funext j; idx_vars j; pointwise
theorem ldG_eq : ldG arg3 harg3 x1 = x1 := by
  unfold ldG; rw [View.readAt_eq_ld, Memref.IsWhole.read_unread]; funext j; idx_vars j
  obtain rfl : j0 = 0 := Subsingleton.elim _ _
  pointwise
theorem ldW_eq : ldW arg4 harg4 x2 = x2 := by
  unfold ldW; rw [View.readAt_eq_ld, Memref.IsWhole.read_unread]; funext j; idx_vars j; pointwise
theorem ldN_eq : ldN arg6 harg6 xs0 = xs0 := by
  unfold ldN; rw [View.readAt_eq_ld, Memref.IsWhole.read_unread]; funext j; idx_vars j; pointwise

/-- One piece over a whole block leaves the piece. -/
theorem emb_rows (y : S512x2048.Idx) : rowsR.emb y = y := by
  funext a
  refine Fin.ext ((Rect.emb_apply rowsR y a).trans ?_)
  fin_cases a <;> simp [Rect.unit]
theorem canon_rows (P : FVec F S512x2048 .bf16) : View.canon [(⟨rowsR, P⟩ : View.Piece (Elt F) S512x2048 .bf16)] = P := by
  funext y
  have h := View.canon_cons_emb (Val := Elt F) (e := .bf16) rowsR P [] y
  rw [emb_rows] at h
  exact h
theorem emb_out (y : S512x1024.Idx) : outR.emb y = y := by
  funext a
  refine Fin.ext ((Rect.emb_apply outR y a).trans ?_)
  fin_cases a <;> simp [Rect.unit]
theorem canon_out (P : FVec F S512x1024 .bf16) : View.canon [(⟨outR, P⟩ : View.Piece (Elt F) S512x1024 .bf16)] = P := by
  funext y
  have h := View.canon_cons_emb (Val := Elt F) (e := .bf16) outR P [] y
  rw [emb_out] at h
  exact h

theorem cov_rows {sg : RefSig} {κ : Kind} {sp : Space} (v : View sg κ sp S512x2048 .bf16) (P : FVec F S512x2048 .bf16) :
    v.readCov [(⟨rowsR, P⟩ : View.Piece (Elt F) S512x2048 .bf16)] rowsR.toLoadRect = P := by
  rw [View.readCov_eq_canon', canon_rows]
  funext j
  refine congrArg P ?_
  funext a
  refine Fin.ext ((Rect.idx_unit_val _ _ _ _ a).trans ?_)
  fin_cases a <;> simp

theorem run_B (hc0 : ¬cond0_0 i) :
    (kernelRun0_B c i arg2 harg2 arg3 harg3 arg4 harg4 arg5 harg5 arg6 harg6 hc0 x0 x1 x2 xs0).1
      = [⟨outR, k0_pay2 (ldN arg6 harg6 xs0) (ldW arg4 harg4 x2)⟩] := by
  sl_kernel_rfl

theorem run_A (hc0 : cond0_0 i) :
    (kernelRun0_A c i arg2 harg2 arg3 harg3 arg4 harg4 arg5 harg5 arg6 harg6 hc0 x0 x1 x2).1
      = [⟨outR, k0_pay2 (arg6.view.readCov [⟨rowsR, k0_pay1 (ldX arg2 harg2 x0) (ldG arg3 harg3 x1)⟩] rowsR.toLoadRect) (ldW arg4 harg4 x2)⟩] := by
  sl_kernel_rfl

theorem scratch_A (hc0 : cond0_0 i) :
    (kernelRun0_A c i arg2 harg2 arg3 harg3 arg4 harg4 arg5 harg5 arg6 harg6 hc0 x0 x1 x2).2.1
      = [⟨rowsR, k0_pay1 (ldX arg2 harg2 x0) (ldG arg3 harg3 x1)⟩] := by
  sl_kernel_rfl

end

/-- The normalized rows, at an index. -/
theorem pay1_apply (x0 : FVec Ideal S512x2048 .f32) (x1 : FVec Ideal S1x2048 .f32) (R : Fin 512) (e : Fin 2048) :
    (k0_pay1 (F := Ideal) x0 x1 (ix2 R e) : EReal) = rms (fun e => x0 (ix2 R e)) (x1 (ix2 0 e)) e := by
  unfold k0_pay1 rms
  pointwise

/-- The product's block, at an index. -/
theorem pay2_apply (n : FVec Ideal S512x2048 .bf16) (w : FVec Ideal S2048x1024 .bf16) (R : Fin 512) (d : Fin 1024) :
    (k0_pay2 (F := Ideal) n w (ix2 R d) : EReal) = ∑ e, (n (ix2 R e) : EReal) * w (ix2 e d) := by
  unfold k0_pay2
  pointwise

variable (m : (ℓ : Loc nD τ sig) → Buf (Elt Ideal) ℓ)

theorem lt96 (t : Fin cfg0.N) : t.val < 96 := t.isLt.trans_eq N_0

theorem index0 : ∀ t : Fin grid0.N, win0_0.index t = ![t.val / 6, 0] := by decide +kernel
theorem index1 : ∀ t : Fin grid0.N, win0_1.index t = ![0, 0] := by decide +kernel
theorem index2 : ∀ t : Fin grid0.N, win0_2.index t = ![0, t.val % 6] := by decide +kernel
theorem index3 : ∀ t : Fin grid0.N, win0_3.index t = ![t.val / 6, t.val % 6] := by decide +kernel

theorem entry0 (c : Dev nD) (r : Fin 8192) (d : Fin 2048) :
    V m c main_v0 (ix2 r d) = m ((c : Thread nD τ).loc main_arg0) (ix3 ⟨r.val / 4096, by omega⟩ ⟨r.val % 4096, by omega⟩ d) := by
  unfold V
  simp only [hostOps0]
  after_results
  pointwise

theorem entry1 (c : Dev nD) (d : Fin 2048) :
    V m c main_v6 (ix2 0 d) = m ((c : Thread nD τ).loc main_arg1) (ix2 0 d) := by
  unfold V
  simp only [hostOps0]
  after_results
  pointwise

theorem entry2 (c : Dev nD) (e : Fin 2048) (d : Fin 6144) :
    V m c main_v5 (ix2 e d) = m ((c : Thread nD τ).loc main_arg2) (ix3 0 e d) := by
  unfold V
  simp only [hostOps0]
  after_results
  pointwise

theorem iblk0 (c : Dev nD) (t : Fin cfg0.N) (R : Fin 512) (d : Fin 2048) :
    iblk m c 0 t (ix2 R d) = V m c main_v0 (ix2 ⟨512 * (t.val / 6) + R.val, by have := lt96 t; omega⟩ d) := by
  blk_point [iblk, index0 t]

theorem iblk1 (c : Dev nD) (t : Fin cfg0.N) (d : Fin 2048) :
    iblk m c 1 t (ix2 0 d) = V m c main_v6 (ix2 0 d) := by
  blk_point [iblk, index1 t]

theorem iblk2 (c : Dev nD) (t : Fin cfg0.N) (e : Fin 2048) (d : Fin 1024) :
    iblk m c 2 t (ix2 e d) = V m c main_v5 (ix2 e ⟨1024 * (t.val % 6) + d.val, by omega⟩) := by
  blk_point [iblk, index2 t]

/-- The normalized rows a step's block holds. -/
def norms (c : Dev nD) (t : Fin cfg0.N) : FVec Ideal S512x2048 .bf16 := k0_pay1 (F := Ideal) (iblk m c 0 t) (iblk m c 1 t)

/-- Within a run of six steps the rows do not change. -/
theorem norms_keep (c : Dev nD) (n : ℕ) (h : n + 1 < cfg0.N) (h6 : ¬ (n + 1) % 6 = 0) :
    norms m c ⟨n, Nat.lt_of_succ_lt h⟩ = norms m c ⟨n + 1, h⟩ := by
  have a : n / 6 = (n + 1) / 6 := by omega
  unfold norms
  refine congrArg₂ (fun x g => k0_pay1 (F := Ideal) x g) ?_ ?_
  · funext y
    rw [show y = ix2 (y 0) (y 1) from eq_ix2 y]
    refine (iblk0 m c _ _ _).trans (Eq.trans ?_ (iblk0 m c _ _ _).symm)
    simp only [a]
  · funext y
    rw [show y = ix2 (0 : Fin 1) (y 1) from (eq_ix2 y).trans (congrArg (ix2 · (y 1)) (Subsingleton.elim (α := Fin 1) _ _))]
    exact (iblk1 m c _ _).trans (iblk1 m c _ _).symm

/-- What the scratch holds after a step: the normalized rows. -/
theorem scratch_eq (c : Dev nD) : ∀ (n : ℕ) (h : n < cfg0.N), (outsAt0 m c n h).2 = norms m c ⟨n, h⟩ := by
  have first : ∀ t : Fin cfg0.N, t.val % 6 = 0 → (outsAt0 m c t.val t.isLt).2 = norms m c t := by
    intro t h0
    rw [outsAt0_A m c t h0]
    dsimp only
    unfold sout0_A_0
    rw [scratch_A, ldX_eq, ldG_eq]
    exact (View.read_writes_junk_eq_canon _ _).trans (canon_rows _)
  intro n
  induction n with
  | zero => intro h; exact first ⟨0, h⟩ rfl
  | succ n ih =>
    intro h
    by_cases h6 : (n + 1) % 6 = 0
    · exact first ⟨n + 1, h⟩ h6
    · rw [outsAt0_B m c ⟨n + 1, h⟩ h6]
      dsimp only
      unfold sout0_B_0
      exact (ih (Nat.lt_of_succ_lt h)).trans (norms_keep m c n h h6)

/-- What a step leaves in its output block. -/
theorem flushed_eq (c : Dev nD) (t : Fin cfg0.N) :
    (dats m 0 c).flushed 3 t = (cfg0.win 3).cut (grid0.coords t) (k0_pay2 (F := Ideal) (norms m c t) (iblk m c 2 t)) := by
  by_cases h0 : t.val % 6 = 0
  · rw [Value.flushed3_A m c t h0]
    refine congrArg _ ?_
    unfold out0_A_3
    rw [run_A, ldX_eq, ldG_eq, ldW_eq, cov_rows]
    exact (View.read_writes_junk_eq_canon _ _).trans (canon_out _)
  · rw [Value.flushed3_B m c t h0]
    refine congrArg _ ?_
    unfold out0_B_3
    rw [run_B, ldN_eq, ldW_eq, scratch_eq]
    refine (View.read_writes_junk_eq_canon _ _).trans ((canon_out _).trans ?_)
    have hk : norms m c ⟨t.val - 1, Nat.lt_of_le_of_lt (Nat.sub_le _ _) t.isLt⟩ = norms m c t := by
      obtain ⟨n, hn⟩ := t
      cases n with
      | zero => exact absurd rfl h0
      | succ n => exact norms_keep m c n hn h0
    rw [hk]

/-- The combined projection of the normalized rows. -/
def projected (a0 : FVec Ideal S2x4096x2048 .f32) (a1 : FVec Ideal S2x2048 .f32) (a2 : FVec Ideal S2x2048x6144 .f32) : FVec Ideal S8192x6144 .bf16 :=
  fun y => ∑ e : Fin 2048, rms (fun e => a0 (ix3 (⟨(y 0).val / 4096, by have : (y 0).val < 8192 := (y 0).isLt; omega⟩ : Fin 2) (⟨(y 0).val % 4096, by omega⟩ : Fin 4096) e)) (a1 (ix2 0 e)) e * a2 (ix3 0 e (y 1))

theorem projected_apply (a0 : FVec Ideal S2x4096x2048 .f32) (a1 : FVec Ideal S2x2048 .f32) (a2 : FVec Ideal S2x2048x6144 .f32) (r : Fin 8192) (n : Fin 6144) :
    (projected a0 a1 a2 (ix2 r n) : EReal) = ∑ e : Fin 2048, rms (fun e => a0 (ix3 (⟨r.val / 4096, by omega⟩ : Fin 2) (⟨r.val % 4096, by omega⟩ : Fin 4096) e)) (a1 (ix2 0 e)) e * a2 (ix3 0 e n) := rfl

/-- The kernel's result array: the projection, everywhere. -/
theorem array_eq (c : Dev nD) :
    (dats m 0 c).arrAt 3 cfg0.N
      = projected (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN := lt96 t
  refine (congrFun (flushed_eq m c t) y).trans ?_
  show k0_pay2 (F := Ideal) (norms m c t) (iblk m c 2 t) y = _
  rw [show y = ix2 (y 0) (y 1) from eq_ix2 y]
  refine (pay2_apply _ _ (y 0) (y 1)).trans ?_
  refine Eq.trans ?_ (congrArg (projected _ _ _) (?_ : ix2 (⟨512 * (t.val / 6) + (y 0).val, by have : (y 0).val < 512 := (y 0).isLt; omega⟩ : Fin 8192) (⟨1024 * (t.val % 6) + (y 1).val, by have : (y 1).val < 1024 := (y 1).isLt; omega⟩ : Fin 6144) = _))
  · refine Eq.trans ?_ (projected_apply _ _ _ _ _).symm
    refine Finset.sum_congr rfl fun e _ => ?_
    refine congrArg₂ (fun a b : EReal => a * b) ?_ ((iblk2 m c t e (y 1)).trans (entry2 m c e _))
    unfold norms
    refine (pay1_apply _ _ (y 0) e).trans ?_
    exact congrArg₂ (fun f g => rms f g e) (funext fun e => (iblk0 m c t (y 0) e).trans (entry0 m c _ e)) ((iblk1 m c t e).trans (entry1 m c e))
  · refine Eq.symm ?_
    blk_simp
    simp only [index3 t]
    funext a
    refine Fin.ext ?_
    fin_cases a
    · have e : win0_3.index t 0 = t.val / 6 := congrFun (index3 t) 0
      show win0_3.index t 0 * 512 + 1 * (y 0).val = 512 * (t.val / 6) + (y 0).val
      generalize (y 0).val = z
      omega
    · have e : win0_3.index t 1 = t.val % 6 := congrFun (index3 t) 1
      show win0_3.index t 1 * 1024 + 1 * (y 1).val = 1024 * (t.val % 6) + (y 1).val
      generalize (y 1).val = z
      omega

/-- The value claim. -/
theorem algebraic : Cert.algebraic_Kernel2Ideal_Reference2Ideal := by
  intro m ρ m' ρ' _ hag
  refine ⟨fun c => (Cert.Kernel2Ideal.Gen.dats m 0 c).arrAt 3 Cert.Kernel2Ideal.cfg0.N, Cert.Kernel2Ideal.Value.run_blocks m ρ, ?_⟩
  refine (θ_run Cert.Reference2Ideal.defs _ _).mono (fun _ h c => ⟨(h c).1.trans ?_, (h c).2⟩) (Cert.Reference2Ideal.Value.run (F := Ideal) m' ρ')
  obtain ⟨h0, h1, h2⟩ := hag c
  refine Eq.trans ?_ ((congr (congr (congrArg projected h0) h1) h2).trans (array_eq m c).symm)
  funext y
  idx_vars y
  rw [projected_apply]
  unfold rms
  pointwise

/-- The reference runs, keeps its arguments and declares no semaphore. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.NormProj

end
-- ==== Proof.FinalNorm.lean ====
/- The final norm: the kernel's result array is the reference's. -/
module

public import proofs.«01_k».proof.Defs
public import proofs.«01_k».proof.Proof.Rms
public import proofs.«01_k».proof.Proof.Gen.Kernel3Ideal.Value
public import proofs.«01_k».proof.Proof.Gen.Reference3Ideal.Run
public import Idealize.ShloMosaic.Lib.Pipeline.ValueKit
public import Idealize.ShloMosaic.Lib.Claim
public import Idealize.ShloMosaic.Lib.Quiescent

@[expose] public section

set_option maxRecDepth 16384

noncomputable section

namespace Cert.FinalNorm

open Cert.Kernel3Ideal Cert.Kernel3Ideal.Gen Idealize.ShloMosaic Idealize.ShloMosaic.TcCoe Idealize.ShloMosaic.StableHlo Idealize.SL.Sem
open Cert.Kernel3Ideal.Facts

/-- A row of the residual stream with its two weighted expert outputs added. -/
def mixed (a0 : FVec Ideal S8192x2048 .f32) (a1 : FVec Ideal S8192x128 .f32) (a2 : FVec Ideal S17408x2048 .f32) (r : Fin 8192) (d : Fin 2048) : EReal :=
  a0 (ix2 r d) + (a1 (ix2 r 2) * a2 (ix2 ⟨r.val, by omega⟩ d) + a1 (ix2 r 3) * a2 (ix2 ⟨8704 + r.val, by omega⟩ d))

/-- The result, index by index. -/
def normedArr (a0 : FVec Ideal S8192x2048 .f32) (a1 : FVec Ideal S8192x128 .f32) (a2 : FVec Ideal S17408x2048 .f32) (a3 : FVec Ideal S2048 .f32) :
    FVec Ideal S8192x2048 .f32 :=
  fun y => rms (mixed a0 a1 a2 (y 0)) (a3 (ix1 (y 1))) (y 1)

/-- What a step leaves in its output block. -/
theorem block_apply (x0 : FVec Ideal S512x2048 .f32) (x1 : FVec Ideal S512x128 .f32) (x2 x3 : FVec Ideal S512x2048 .f32) (x4 : FVec Ideal S1x2048 .f32)
    (R : Fin 512) (d : Fin 2048) :
    out0_5 (F := Ideal) x0 x1 x2 x3 x4 (ix2 R d)
      = rms (fun e => x0 (ix2 R e) + x1 (ix2 R 2) * x2 (ix2 R e) + x1 (ix2 R 3) * x3 (ix2 R e)) (x4 (ix2 0 d)) d := by
  unfold out0_5 rms
  rw [Value.canon5_eq]
  pointwise

variable (m : (ℓ : Loc nD τ sig) → Buf (Elt Ideal) ℓ)

theorem lt16 (t : Fin cfg0.N) : t.val < 16 := t.isLt.trans_eq N_0

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![17 + t.val, 0] := by decide +kernel
theorem index4 : ∀ t : Fin grid0.N, win0_4.index t = ![0, 0] := by decide +kernel
theorem index5 : ∀ t : Fin grid0.N, win0_5.index t = ![t.val, 0] := by decide +kernel

theorem iblk0 (c : Dev nD) (t : Fin cfg0.N) (R : Fin 512) (d : Fin 2048) :
    iblk m c 0 t (ix2 R d) = m ((c : Thread nD τ).loc main_arg0) (ix2 ⟨512 * t.val + R.val, by have := lt16 t; omega⟩ d) := by
  blk_point [iblk, V, index0 t]

theorem iblk1 (c : Dev nD) (t : Fin cfg0.N) (R : Fin 512) (d : Fin 128) :
    iblk m c 1 t (ix2 R d) = m ((c : Thread nD τ).loc main_arg1) (ix2 ⟨512 * t.val + R.val, by have := lt16 t; omega⟩ d) := by
  blk_point [iblk, V, index1 t]

theorem iblk2 (c : Dev nD) (t : Fin cfg0.N) (R : Fin 512) (d : Fin 2048) :
    iblk m c 2 t (ix2 R d) = m ((c : Thread nD τ).loc main_arg2) (ix2 ⟨512 * t.val + R.val, by have := lt16 t; omega⟩ d) := by
  blk_point [iblk, V, index2 t]

theorem iblk3 (c : Dev nD) (t : Fin cfg0.N) (R : Fin 512) (d : Fin 2048) :
    iblk m c 3 t (ix2 R d) = m ((c : Thread nD τ).loc main_arg2) (ix2 ⟨8704 + (512 * t.val + R.val), by have := lt16 t; omega⟩ d) := by
  blk_point [iblk, V, index3 t]

theorem iblk4 (c : Dev nD) (t : Fin cfg0.N) (d : Fin 2048) :
    iblk m c 4 t (ix2 0 d) = m ((c : Thread nD τ).loc main_arg3) (ix1 d) := by
  blk_point [iblk, V, index4 t]

/-- The kernel's result array. -/
theorem array_eq (c : Dev nD) :
    (dats m 0 c).arrAt 5 cfg0.N
      = normedArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN := lt16 t
  refine (congrFun (Value.flushed5 m c t) y).trans ?_
  show out0_5 (iblk m c 0 t) (iblk m c 1 t) (iblk m c 2 t) (iblk m c 3 t) (iblk m c 4 t) y = _
  rw [show y = ix2 (y 0) (y 1) from eq_ix2 y]
  refine (block_apply _ _ _ _ _ (y 0) (y 1)).trans ?_
  refine Eq.trans ?_ (congrArg (normedArr _ _ _ _) (?_ : ix2 (⟨512 * t.val + (y 0).val, by have : (y 0).val < 512 := (y 0).isLt; omega⟩ : Fin 8192) (y 1) = _))
  · unfold normedArr
    show rms _ _ (y 1) = rms _ _ (y 1)
    refine congrArg₂ (fun f g => rms f g (y 1)) (funext fun e => ?_) (iblk4 m c t (y 1))
    refine (add_assoc (_ : EReal) _ _).trans ?_
    exact congrArg₂ (fun a b : EReal => a + b) (iblk0 m c t (y 0) e)
      (congrArg₂ (fun a b : EReal => a + b)
        (congrArg₂ (fun a b : EReal => a * b) (iblk1 m c t (y 0) 2) (iblk2 m c t (y 0) e))
        (congrArg₂ (fun a b : EReal => a * b) (iblk1 m c t (y 0) 3) (iblk3 m c t (y 0) e)))
  · refine Eq.symm ?_
    blk_simp
    simp only [index5 t]
    funext a
    refine Fin.ext ?_
    fin_cases a
    · have e : win0_5.index t 0 = t.val := congrFun (index5 t) 0
      show win0_5.index t 0 * 512 + 1 * (y 0).val = 512 * t.val + (y 0).val
      generalize (y 0).val = z
      omega
    · have e : win0_5.index t 1 = 0 := congrFun (index5 t) 1
      show win0_5.index t 1 * 2048 + 1 * (y 1).val = (y 1).val
      generalize (y 1).val = z
      omega

/-- The value claim. -/
theorem algebraic : Cert.algebraic_Kernel3Ideal_Reference3Ideal := by
  intro m ρ m' ρ' _ hag
  refine ⟨fun c => (Cert.Kernel3Ideal.Gen.dats m 0 c).arrAt 5 Cert.Kernel3Ideal.cfg0.N, Cert.Kernel3Ideal.Value.run_blocks m ρ, ?_⟩
  refine (θ_run Cert.Reference3Ideal.defs _ _).mono (fun _ h c => ⟨(h c).1.trans ?_, (h c).2⟩) (Cert.Reference3Ideal.Value.run (F := Ideal) m' ρ')
  obtain ⟨h0, h1, h2, h3⟩ := hag c
  refine Eq.trans ?_ ((congr (congr (congr (congrArg normedArr h0) h1) h2) h3).trans (array_eq m c).symm)
  funext y
  unfold normedArr
  idx_vars y
  unfold rms mixed
  pointwise

/-- The reference runs, keeps its arguments and declares no semaphore. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.FinalNorm

end
-- ==== Proof.SecondCanon.lean ====
/- The second layer. What one grid point's body computes, written once by recursion over the streams and the tiles of keys, and that the
   run's named terms are this program. -/
module

public import proofs.«01_k».proof.Proof.Gen.Kernel4Ideal.Value

@[expose] public section

set_option maxRecDepth 16384

noncomputable section

namespace Cert.DiffAttn.Second

open Cert.Kernel4Ideal Cert.Kernel4Ideal.Gen Idealize.ShloMosaic Idealize.ShloMosaic.TcCoe Idealize.SL.Sem
open Cert.Kernel4Ideal.Facts

variable {F : FTy → Type} [FloatOps F]

theorem slot_inb (j : ℕ) : ∀ a, (![j / 16 % 2, 0, 256 * (j % 16)] : Fin 3 → ℕ) a + S1x256x256.size a ≤ S2x256x4096.size a := by
  intro a; fin_cases a <;> simp [S1x256x256, S2x256x4096, Shape.size] <;> omega

theorem row_inb (n : ℕ) : ∀ a, (![n % 2, 0, 0] : Fin 3 → ℕ) a + S1x256x4096.size a ≤ S2x256x4096.size a := by
  intro a; fin_cases a <;> simp [S1x256x4096, S2x256x4096, Shape.size] <;> omega

theorem key_inb (k : ℕ) : ∀ a, (![256 * (k % 16), 0] : Fin 2 → ℕ) a + S256x128.size a ≤ S4096x128.size a := by
  intro a; fin_cases a <;> simp [S256x128, S4096x128, Shape.size] <;> omega

theorem out_inb (q : ℕ) : ∀ a, (![256 * (q % 4), 0] : Fin 2 → ℕ) a + S256x128.size a ≤ S1024x128.size a := by
  intro a; fin_cases a <;> simp [S256x128, S1024x128, Shape.size] <;> omega

theorem q_slices (q : ℕ) : S1024x128.Slices ![256 * (q % 4), 0] S256x128 := by
  rcases (by omega : q % 4 = 0 ∨ q % 4 = 1 ∨ q % 4 = 2 ∨ q % 4 = 3) with h | h | h | h <;> rw [h]
  · exact slices_S1024x128_o0_0_S256x128
  · exact slices_S1024x128_o256_0_S256x128
  · exact slices_S1024x128_o512_0_S256x128
  · exact slices_S1024x128_o768_0_S256x128

/-- The rectangle of a staging scratch that tile `j % 16` of stream `j / 16` is kept in. -/
def slotR (j : ℕ) : Rect S2x256x4096 := Rect.unit ![j / 16 % 2, 0, 256 * (j % 16)] S1x256x256.size (slot_inb j)

/-- The rectangle of a staging scratch that stream `n` is kept in. -/
def rowR (n : ℕ) : Rect S2x256x4096 := Rect.unit ![n % 2, 0, 0] S1x256x4096.size (row_inb n)

/-- The first `N` tiles stored into a staging scratch, the last one first. -/
def pieces {e : EltTy} (P : ℕ → Vec F S1x256x256 e) : ℕ → List (View.Piece (Elt F) S2x256x4096 e)
  | 0 => []
  | j + 1 => ⟨slotR j, P j⟩ :: pieces P j

section
variable {sig : RefSig} {κ : Kind} {sp sp' : Space} (vs : View sig κ sp S2x256x4096 .f32) (vp : View sig κ sp' S2x256x4096 .bf16)
variable (Q : FVec F S1024x128 .bf16) (K : ℕ → FVec F S256x128 .bf16) (Bi : ℕ → ℕ → FVec F S1x1x256x256 .f32)
  (W : FVec F S4096x256 .bf16) (lam : Elt F .f32) (g : FVec F S1x1x128 .f32)

/-- Query rows of stream `n` (query tile `n / 2`, map `n % 2`), the other map's lanes zero. -/
def qtile (n : ℕ) : FVec F S256x128 .bf16 :=
  extractStridedSlice S256x128 ![256 * (n / 2 % 4), 0] (if n % 2 = 0 then k0_pay5 Q else k0_pay6 Q) (q_slices (n / 2))

/-- Scores of tile `j % 16` of stream `j / 16`. -/
def tile (j : ℕ) : FVec F S256x256 .f32 :=
  addf (matmul dot_S256x128_S256x128_S256x256_1_1_0_0_n_n none (qtile Q (j / 16)) (K (j % 16)) (constant S256x256 .f32 0x00000000#32))
    (shapeCast S256x256 (Bi (j % 16) (j / 32)) shapeCasts_S1x1x256x256_S256x256)

def sPieces : ℕ → List (View.Piece (Elt F) S2x256x4096 .f32) :=
  pieces fun j => shapeCast S1x256x256 (tile Q K Bi j) shapeCasts_S256x256_S1x256x256

/-- Lane by lane running maximum of the first `k` tiles of stream `n`. -/
def rmax (n : ℕ) : ℕ → FVec F S256x128 .f32
  | 0 => broadcast S256x128 (Scalar.ofBits .f32 0xFF800000#32)
  | k + 1 => maximumf (maximumf (rmax n k) (extractStridedSlice S256x128 ![0, 0] (tile Q K Bi (16 * n + k)) slices_S256x256_o0_0_S256x128))
      (extractStridedSlice S256x128 ![0, 128] (tile Q K Bi (16 * n + k)) slices_S256x256_o0_128_S256x128)

def mx (n : ℕ) : FVec F S256x1 .f32 :=
  shapeCast S256x1 (multiReduction .maximumf [1] S256 (rmax Q K Bi n 16) 0xFF800000#32 reduces_S256x128_S256 (.inl rfl) rfl) shapeCasts_S256_S256x1

/-- Tile `j % 16` of stream `j / 16` as the weights' pass reads it back. -/
def sRead (j : ℕ) : FVec F S1x256x256 .f32 :=
  vs.readCov (sPieces Q K Bi (min 128 (j + 16))) (slotR j).toLoadRect

def wt (j : ℕ) : FVec F S256x256 .bf16 :=
  truncf .bf16 (exp (subf (shapeCast S256x256 (sRead vs Q K Bi j) shapeCasts_S1x256x256_S256x256)
    (broadcastTo S256x256 (mx Q K Bi (j / 16)) broadcasts_S256x1_S256x256))) bitsLt_bf16_f32

def pPieces : ℕ → List (View.Piece (Elt F) S2x256x4096 .bf16) :=
  pieces fun j => shapeCast S1x256x256 (wt vs Q K Bi j) shapeCasts_S256x256_S1x256x256

/-- The weighted values of stream `n` over the sum of its weights. -/
def att (n : ℕ) : FVec F S256x128 .f32 :=
  let acc : FVec F S256x256 .f32 := matmul dot_S256x4096_S4096x256_S256x256_1_0_0_1_n_n none
    (shapeCast S256x4096 (vp.readCov (pPieces vs Q K Bi (16 * n + 16)) (rowR n).toLoadRect : FVec F S1x256x4096 .bf16) shapeCasts_S1x256x4096_S256x4096)
    W (constant S256x256 .f32 0x00000000#32)
  divf (extractStridedSlice S256x128 ![0, 0] acc slices_S256x256_o0_0_S256x128)
    (extractStridedSlice S256x128 ![0, 128] acc slices_S256x256_o0_128_S256x128)

def outT (q : ℕ) : FVec F S256x128 .bf16 :=
  k0_pay2 (att vs vp Q K Bi W (2 * q)) (att vs vp Q K Bi W (2 * q + 1)) lam g

def outPieces : ℕ → List (View.Piece (Elt F) S1024x128 .bf16)
  | 0 => []
  | q + 1 => ⟨Rect.unit ![256 * (q % 4), 0] S256x128.size (out_inb q), outT vs vp Q K Bi W lam g q⟩ :: outPieces q

end

section
variable (c : Dev nD) (i : grid0.Coords) (arg3 : Memref sig .tc .smem S1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x5x256x256 .f32) (harg7 : arg7.IsWhole) (arg8 : Memref sig .tc .vmem S1x1x128 .f32) (harg8 : arg8.IsWhole) (arg9 : Memref sig .tc .vmem S1024x128 .bf16) (harg9 : arg9.IsWhole) (arg10 : Memref sig .tc .vmem S2x256x4096 .f32) (harg10 : arg10.IsWhole) (arg11 : Memref sig .tc .vmem S2x256x4096 .bf16) (harg11 : arg11.IsWhole) (arg12 : Memref sig .tc .vmem S4096x256 .bf16) (harg12 : arg12.IsWhole)
  (x0 : Vec F S1 .f32) (x1 : Vec F S1024x128 .bf16) (x2 : Vec F S4096x128 .bf16) (x3 : Vec F S4096x128 .bf16) (x4 : Vec F S1x5x256x256 .f32) (x5 : Vec F S1x1x128 .f32) (xs2 : Vec F S4096x256 .bf16)

/-- The loads of the body, each through its memref. -/
def ldQ : FVec F S1024x128 .bf16 :=
  View.readAt (Elt F) arg4.view (Rect.unit ![0, 0] S1024x128.size inb_S1024x128_S1024x128_0_0).toLoadRect (harg4.unread x1)
def ldK (k : ℕ) : FVec F S256x128 .bf16 :=
  View.readAt (Elt F) arg5.view (Rect.unit (s := S4096x128) ![256 * (k % 16), 0] S256x128.size (key_inb k)).toLoadRect (harg5.unread x2)
def ldB (k q : ℕ) : FVec F S1x1x256x256 .f32 :=
  View.readAt (Elt F) arg7.view (Rect.unit (s := S1x5x256x256) (k0_off1 i (BitVec.ofNat 32 (k % 16)) (BitVec.ofNat 32 (q % 4))) S1x1x256x256.size
    (k0_off1_inb i ⟨k % 16, Nat.mod_lt _ (by decide)⟩ ⟨q % 4, Nat.mod_lt _ (by decide)⟩)).toLoadRect (harg7.unread x4)
def ldW : FVec F S4096x256 .bf16 :=
  View.readAt (Elt F) arg12.view (Rect.unit ![0, 0] S4096x256.size inb_S4096x256_S4096x256_0_0).toLoadRect (harg12.unread xs2)
def ldV : FVec F S4096x128 .bf16 :=
  View.readAt (Elt F) arg6.view (Rect.unit ![0, 0] S4096x128.size inb_S4096x128_S4096x128_0_0).toLoadRect (harg6.unread x3)
def vPieces (V : FVec F S4096x128 .bf16) : List (View.Piece (Elt F) S4096x256 .bf16) :=
  [⟨Rect.unit ![0, 128] S4096x128.size inb_S4096x256_S4096x128_0_128, k0_pay8⟩,
   ⟨Rect.unit ![0, 0] S4096x128.size inb_S4096x256_S4096x128_0_0, k0_pay7 V⟩]
def ldL : Elt F .f32 :=
  View.readAt (Elt F) arg3.view (Rect.unit ![0] S1.size inb_S1_S1_0).toLoadRect (harg3.unread x0) (Shape.Idx.first (by decide))
def ldG : FVec F S1x1x128 .f32 :=
  View.readAt (Elt F) arg8.view (Rect.unit ![0, 0, 0] S1x1x128.size inb_S1x1x128_S1x1x128_0_0_0).toLoadRect (harg8.unread x5)

end

end Cert.DiffAttn.Second

end
-- ==== Proof.SecondCanonRun.lean ====
/- The second layer. The run's named terms are the program of `Canon`. -/
module

public import proofs.«01_k».proof.Proof.SecondCanon
import all proofs.«01_k».proof.Proof.Gen.Kernel4Ideal.Frame.RunA
import all proofs.«01_k».proof.Proof.Gen.Kernel4Ideal.Frame.RunB

@[expose] public section

set_option maxRecDepth 16384

noncomputable section

namespace Cert.DiffAttn.Second

open Cert.Kernel4Ideal Cert.Kernel4Ideal.Gen Idealize.ShloMosaic Idealize.ShloMosaic.TcCoe Idealize.SL.Sem
open Cert.Kernel4Ideal.Facts

variable {F : FTy → Type} [FloatOps F]
variable (c : Dev nD) (i : grid0.Coords) (arg3 : Memref sig .tc .smem S1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x5x256x256 .f32) (harg7 : arg7.IsWhole) (arg8 : Memref sig .tc .vmem S1x1x128 .f32) (harg8 : arg8.IsWhole) (arg9 : Memref sig .tc .vmem S1024x128 .bf16) (harg9 : arg9.IsWhole) (arg10 : Memref sig .tc .vmem S2x256x4096 .f32) (harg10 : arg10.IsWhole) (arg11 : Memref sig .tc .vmem S2x256x4096 .bf16) (harg11 : arg11.IsWhole) (arg12 : Memref sig .tc .vmem S4096x256 .bf16) (harg12 : arg12.IsWhole)
  (x0 : Vec F S1 .f32) (x1 : Vec F S1024x128 .bf16) (x2 : Vec F S4096x128 .bf16) (x3 : Vec F S4096x128 .bf16) (x4 : Vec F S1x5x256x256 .f32) (x5 : Vec F S1x1x128 .f32) (xs2 : Vec F S4096x256 .bf16)

/-- What a later query step leaves in the output block: the values' scratch is read as the steps before left it. -/
theorem run_B (hc0 : ¬cond0_0 i) :
    (kernelRun0_B c i arg3 harg3 arg4 harg4 arg5 harg5 arg6 harg6 arg7 harg7 arg8 harg8 arg9 harg9 arg10 harg10 arg11 harg11 arg12 harg12 hc0 x0 x1 x2 x3 x4 x5 xs2).1
      = outPieces arg10.view arg11.view (ldQ arg4 harg4 x1) (ldK arg5 harg5 x2) (ldB i arg7 harg7 x4) (ldW arg12 harg12 xs2)
          (ldL arg3 harg3 x0) (ldG arg8 harg8 x5) 4 := by
  sl_kernel_rfl

/-- What the first query step of a head leaves in the output block: it reads back the values' scratch that it fills. -/
theorem run_A (hc0 : cond0_0 i) :
    (kernelRun0_A c i arg3 harg3 arg4 harg4 arg5 harg5 arg6 harg6 arg7 harg7 arg8 harg8 arg9 harg9 arg10 harg10 arg11 harg11 arg12 harg12 hc0 x0 x1 x2 x3 x4 x5).1
      = outPieces arg10.view arg11.view (ldQ arg4 harg4 x1) (ldK arg5 harg5 x2) (ldB i arg7 harg7 x4)
          (arg12.view.readCov (vPieces (ldV arg6 harg6 x3)) (Rect.unit ![0, 0] S4096x256.size inb_S4096x256_S4096x256_0_0).toLoadRect)
          (ldL arg3 harg3 x0) (ldG arg8 harg8 x5) 4 := by
  sl_kernel_rfl

/-- What the first query step leaves in the values' scratch: the head's values, and ones beside them. -/
theorem scratch_A (hc0 : cond0_0 i) :
    (kernelRun0_A c i arg3 harg3 arg4 harg4 arg5 harg5 arg6 harg6 arg7 harg7 arg8 harg8 arg9 harg9 arg10 harg10 arg11 harg11 arg12 harg12 hc0 x0 x1 x2 x3 x4 x5).2.1
      = vPieces (ldV arg6 harg6 x3) := by
  sl_kernel_rfl

end Cert.DiffAttn.Second

end
-- ==== Proof.SecondReads.lean ====
/- The second layer. Reading the body's program at an index, floats exact. -/
module

public import proofs.«01_k».proof.Proof.SecondCanon
public import Idealize.ShloMosaic.Lib.Pointwise

@[expose] public section

set_option maxRecDepth 16384

noncomputable section

namespace Cert.DiffAttn.Second

open Cert.Kernel4Ideal Cert.Kernel4Ideal.Gen Idealize.ShloMosaic Idealize.ShloMosaic.TcCoe Idealize.SL.Sem
open Cert.Kernel4Ideal.Facts

section
variable {F : FTy → Type} [FloatOps F]

theorem slotR_emb (j : ℕ) (x : S1x256x256.Idx) (a : Fin 3) :
    ((slotR j).emb x a).val = (![j / 16 % 2, 0, 256 * (j % 16)] : Fin 3 → ℕ) a + (x a).val := by
  refine (Rect.emb_apply (s := S2x256x4096) (slotR j) x a).trans ?_
  show _ + 1 * _ = _
  rw [Nat.one_mul]; rfl

/-- A tile not yet overwritten is what the scratch holds in its place. -/
theorem canon_pieces {e : EltTy} (P : ℕ → Vec F S1x256x256 e) (j : ℕ) (x : S1x256x256.Idx) :
    ∀ N, j < N → N ≤ j + 32 → View.canon (pieces P N) ((slotR j).emb x) = P j x
  | 0, h, _ => absurd h (Nat.not_lt_zero j)
  | N + 1, h, h' => by
    by_cases e : N = j
    · subst e; exact View.canon_cons_emb (slotR N) (P N) (pieces P N) x
    · refine (View.canon_cons_of_not_mem ⟨slotR N, P N⟩ (pieces P N) ?_).trans (canon_pieces P j x N (by omega) (by omega))
      intro hm
      have hm' := (Rect.mem_set_unit (inb := slot_inb N)).1 hm
      have h0 := hm' 0
      have h2 := hm' 2
      rw [slotR_emb] at h0 h2
      have x0 : (x 0).val < 1 := (x 0).isLt
      have x2 : (x 2).val < 256 := (x 2).isLt
      simp [S1x256x256, Shape.size] at h0 h2
      omega

theorem readCov_pieces {e : EltTy} {sig : RefSig} {κ : Kind} {sp : Space} (v : View sig κ sp S2x256x4096 e)
    (P : ℕ → Vec F S1x256x256 e) (j N : ℕ) (h : j < N) (h' : N ≤ j + 32) :
    v.readCov (pieces P N) (slotR j).toLoadRect = P j := by
  rw [View.readCov_eq_canon']
  exact funext fun x => canon_pieces P j x N h h'

theorem sRead_eq {sig : RefSig} {κ : Kind} {sp : Space} (vs : View sig κ sp S2x256x4096 .f32) (Q : FVec F S1024x128 .bf16)
    (K : ℕ → FVec F S256x128 .bf16) (Bi : ℕ → ℕ → FVec F S1x1x256x256 .f32) (j : ℕ) (hj : j < 128) :
    sRead vs Q K Bi j = shapeCast S1x256x256 (tile Q K Bi j) shapeCasts_S256x256_S1x256x256 :=
  readCov_pieces vs _ j _ (by omega) (by omega)

/-- The weights of stream `n` as its weighted sum reads them back. -/
theorem readCov_row {sig : RefSig} {κ : Kind} {sp : Space} (v : View sig κ sp S2x256x4096 .bf16)
    (P : ℕ → Vec F S1x256x256 .bf16) (n : ℕ) (r : Fin 256) (k : Fin 4096) :
    v.readCov (pieces P (16 * n + 16)) (rowR n).toLoadRect (ix3 (0 : Fin 1) r k)
      = P (16 * n + k.val / 256) (ix3 (0 : Fin 1) r ⟨k.val % 256, Nat.mod_lt _ (by decide)⟩) := by
  rw [View.readCov_eq_canon']
  rw [← canon_pieces P (16 * n + k.val / 256) _ (16 * n + 16) (by have := k.isLt; omega) (by omega)]
  refine congrArg _ (funext fun a => Fin.ext ?_)
  have hk := k.isLt
  refine Eq.trans ?_ (slotR_emb _ _ a).symm
  refine (LoadRect.idx_apply _ _ a).trans ?_
  fin_cases a
  · simp [ix3, rowR, Rect.unit]; omega
  · simp [ix3, rowR, Rect.unit]
  · simp [ix3, rowR, Rect.unit]; omega

end

end Cert.DiffAttn.Second

end
-- ==== Proof.SecondTile.lean ====
/- The second layer. The tiles of scores, their maxima and the weighted values, read at an index. -/
module

public import proofs.«01_k».proof.Proof.SecondReads
public import proofs.«01_k».proof.Proof.Math

@[expose] public section

set_option maxRecDepth 16384

noncomputable section

namespace Cert.DiffAttn.Second

open Cert.Kernel4Ideal Cert.Kernel4Ideal.Gen Idealize.ShloMosaic Idealize.ShloMosaic.TcCoe Idealize.SL.Sem
open Cert.Kernel4Ideal.Facts

/-- The first stream of a query tile keeps the first 64 lanes of its scaled queries. -/
theorem pay5_apply (Q : FVec Ideal S1024x128 .bf16) (r : Fin 1024) (d : Fin 128) :
    k0_pay5 Q (ix2 r d) = if d.val < 64 then Q (ix2 r d) * Ideal.ofBits .bf16 0x3E00#16 else 0 := by
  unfold k0_pay5 k0_pay3 k0_pay4
  pointwise
  obtain ⟨d, hd⟩ := d
  have : IntOp.cmpi .slt (BitVec.ofNat 32 d) 64#32 = if d < 64 then 1#1 else 0#1 := by
    revert d; decide
  simp only [this]
  split <;> rfl

/-- The second stream of a query tile keeps the last 64 lanes of its scaled queries. -/
theorem pay6_apply (Q : FVec Ideal S1024x128 .bf16) (r : Fin 1024) (d : Fin 128) :
    k0_pay6 Q (ix2 r d) = if d.val < 64 then 0 else Q (ix2 r d) * Ideal.ofBits .bf16 0x3E00#16 := by
  unfold k0_pay6 k0_pay3 k0_pay4
  pointwise
  obtain ⟨d, hd⟩ := d
  have : IntOp.cmpi .sge (BitVec.ofNat 32 d) 64#32 = if d < 64 then 0#1 else 1#1 := by
    revert d; decide
  simp only [this]
  split <;> rfl

variable (Q : FVec Ideal S1024x128 .bf16) (K : ℕ → FVec Ideal S256x128 .bf16) (Bi : ℕ → ℕ → FVec Ideal S1x1x256x256 .f32)
  (W : FVec Ideal S4096x256 .bf16)

theorem tile_apply (j : ℕ) (r c : Fin 256) :
    tile Q K Bi j (ix2 r c) = (∑ d : Fin 128, qtile Q (j / 16) (ix2 r d) * K (j % 16) (ix2 c d)) + Bi (j % 16) (j / 32) (ix4 0 0 r c) := by
  unfold tile
  pointwise

theorem acc_apply (X : FVec Ideal S1x256x4096 .bf16) (r c : Fin 256) :
    matmul dot_S256x4096_S4096x256_S256x256_1_0_0_1_n_n none (shapeCast S256x4096 X shapeCasts_S1x256x4096_S256x4096)
      W (constant S256x256 .f32 0x00000000#32) (ix2 r c) = ∑ k : Fin 4096, X (ix3 0 r k) * W (ix2 k c) := by
  pointwise

theorem qtile_apply (n : ℕ) (r : Fin 256) (d : Fin 128) :
    qtile Q n (ix2 r d) = (if n % 2 = 0 then k0_pay5 Q else k0_pay6 Q) (ix2 ⟨256 * (n / 2 % 4) + r.val, by omega⟩ d) := by
  unfold qtile
  pointwise

/-- The pattern of minus infinity. -/
theorem ofBits_neg_inf : Ideal.ofBits .f32 0xFF800000#32 = ⊥ := by
  simp [Ideal.ofBits, Ideal.ieee]

/-- The running maximum of real scores is real after the first tile. -/
theorem rmax_real (hT : ∀ j r c, IsReal (tile Q K Bi j (ix2 r c))) (n k : ℕ) (r : Fin 256) (x : Fin 128) :
    IsReal (rmax Q K Bi n (k + 1) (ix2 r x)) := by
  have h0 : IsReal (rmax Q K Bi n k (ix2 r x)) ∨ rmax Q K Bi n k (ix2 r x) = ⊥ := by
    induction k with
    | zero => exact .inr ofBits_neg_inf
    | succ k ih =>
      refine .inl ?_
      unfold rmax
      pointwise
      exact isReal_max (.inl (isReal_max ih (hT _ _ _))) (hT _ _ _)
  unfold rmax
  pointwise
  exact isReal_max (.inl (isReal_max h0 (hT _ _ _))) (hT _ _ _)

/-- The row maximum that the weights' exponents are shifted by is real. -/
theorem mx_real (hT : ∀ j r c, IsReal (tile Q K Bi j (ix2 r c))) (n : ℕ) (r : Fin 256) : IsReal (mx Q K Bi n (ix2 r 0)) := by
  have h : mx Q K Bi n (ix2 r 0) = Finset.fold max ⊥ (fun x => rmax Q K Bi n 16 (ix2 r x)) Finset.univ := by
    rw [← ofBits_neg_inf]
    unfold mx
    pointwise
  rw [h]
  exact isReal_fold _ (fun x => rmax_real Q K Bi hT n 15 r x) _ ⟨0, Finset.mem_univ _⟩

theorem outT_apply (A B : FVec Ideal S256x128 .f32) (lam : Elt Ideal .f32) (g : FVec Ideal S1x1x128 .f32) (r : Fin 256) (d : Fin 128) :
   k0_pay2 A B lam g (ix2 r d) =
    (A (ix2 r d) - lam * B (ix2 r d)) *
          Ideal.rsqrt
            (Ideal.div (∑ x, (A (ix2 r x) - lam * B (ix2 r x)) * (A (ix2 r x) - lam * B (ix2 r x)))
                (Ideal.ofBits FTy.f32 1124073472#32) +
              Ideal.ofBits FTy.f32 925353388#32) *
        g (ix3 0 0 d) *
      Ideal.ofBits FTy.f32 1059388764#32 := by
  unfold k0_pay2
  pointwise

variable {sig₁ : RefSig} {κ₁ : Kind} {sp₁ sp₂ : Space} (vs : View sig₁ κ₁ sp₁ S2x256x4096 .f32) (vp : View sig₁ κ₁ sp₂ S2x256x4096 .bf16)

theorem quotient_apply (acc : FVec Ideal S256x256 .f32) (r : Fin 256) (d : Fin 128) :
    divf (extractStridedSlice S256x128 ![0, 0] acc slices_S256x256_o0_0_S256x128)
      (extractStridedSlice S256x128 ![0, 128] acc slices_S256x256_o0_128_S256x128) (ix2 r d)
      = Ideal.div (acc (ix2 r ⟨d.val, by omega⟩)) (acc (ix2 r ⟨128 + d.val, by omega⟩)) := by
  pointwise

theorem wt_apply (j : ℕ) (hj : j < 128) (r c : Fin 256) :
    wt vs Q K Bi j (ix2 r c) = Ideal.exp (tile Q K Bi j (ix2 r c) - mx Q K Bi (j / 16) (ix2 r 0)) := by
  unfold wt
  rw [sRead_eq vs Q K Bi j hj]
  pointwise

/-- Weighted values over weighted ones, for weights given lane by lane. -/
theorem quotient_of (X : FVec Ideal S1x256x4096 .bf16) (W : FVec Ideal S4096x256 .bf16) (E : Fin 4096 → EReal) (r : Fin 256) (d : Fin 128)
    (hX : ∀ k, X (ix3 0 r k) = E k) :
    divf (extractStridedSlice S256x128 ![0, 0] (matmul dot_S256x4096_S4096x256_S256x256_1_0_0_1_n_n none (shapeCast S256x4096 X shapeCasts_S1x256x4096_S256x4096)
      W (constant S256x256 .f32 0x00000000#32)) slices_S256x256_o0_0_S256x128)
      (extractStridedSlice S256x128 ![0, 128] (matmul dot_S256x4096_S4096x256_S256x256_1_0_0_1_n_n none (shapeCast S256x4096 X shapeCasts_S1x256x4096_S256x4096)
      W (constant S256x256 .f32 0x00000000#32)) slices_S256x256_o0_128_S256x128) (ix2 r d)
      = Ideal.div (∑ k, E k * W (ix2 k ⟨d.val, by omega⟩)) (∑ k, E k * W (ix2 k ⟨128 + d.val, by omega⟩)) := by
  rw [quotient_apply, acc_apply, acc_apply]
  simp only [hX]

/-- The attention of a stream at an index: its weights times the values, over its weights times the ones. -/
theorem att_apply (n : ℕ) (hn : n < 8) (r : Fin 256) (d : Fin 128) :
    att vs vp Q K Bi W n (ix2 r d) =
      Ideal.div (∑ k : Fin 4096, Ideal.exp (tile Q K Bi (16 * n + k.val / 256) (ix2 r ⟨k.val % 256, by omega⟩) - mx Q K Bi n (ix2 r 0)) * W (ix2 k ⟨d.val, by omega⟩))
        (∑ k : Fin 4096, Ideal.exp (tile Q K Bi (16 * n + k.val / 256) (ix2 r ⟨k.val % 256, by omega⟩) - mx Q K Bi n (ix2 r 0)) * W (ix2 k ⟨128 + d.val, by omega⟩)) := by
  have hX : ∀ k : Fin 4096, (vp.readCov (pPieces vs Q K Bi (16 * n + 16)) (rowR n).toLoadRect : FVec Ideal S1x256x4096 .bf16) (ix3 0 r k) =
      Ideal.exp (tile Q K Bi (16 * n + k.val / 256) (ix2 r ⟨k.val % 256, by omega⟩) - mx Q K Bi n (ix2 r 0)) := by
    intro k
    have h := readCov_row vp (fun j => shapeCast S1x256x256 (wt vs Q K Bi j) shapeCasts_S256x256_S1x256x256) n r k
    rw [pPieces, h]
    have h2 : shapeCast S1x256x256 (wt vs Q K Bi (16 * n + k.val / 256)) shapeCasts_S256x256_S1x256x256 (ix3 0 r ⟨k.val % 256, by omega⟩) =
      wt vs Q K Bi (16 * n + k.val / 256) (ix2 r ⟨k.val % 256, by omega⟩) := by pointwise
    rw [h2, wt_apply _ _ _ _ _ (by omega)]
    congr 4
    omega
  exact quotient_of _ W _ r d hX

end Cert.DiffAttn.Second

end
-- ==== Proof.SecondLoads.lean ====
/- The second layer. The body's loads at an index of the blocks they read. -/
module

public import proofs.«01_k».proof.Proof.SecondTile
public import Idealize.ShloMosaic.Lib.Pipeline.ValueKit.Tiles

@[expose] public section

set_option maxRecDepth 16384

noncomputable section

namespace Cert.DiffAttn.Second

open Cert.Kernel4Ideal Cert.Kernel4Ideal.Gen Idealize.ShloMosaic Idealize.ShloMosaic.TcCoe Idealize.SL.Sem
open Cert.Kernel4Ideal.Facts

/-- The class of a key tile seen from a query tile: their distance, kept within two tiles. -/
def cls (k q : ℕ) : ℕ := if k + 2 ≤ q then 0 else if q + 2 ≤ k then 4 else k + 2 - q

theorem cls_lt (k q : ℕ) : cls k q < 5 := by unfold cls; split <;> [omega; (split <;> omega)]

theorem off1_eq : ∀ (i : grid0.Coords) (k : Fin 16) (q : Fin 4),
    k0_off1 i (BitVec.ofNat 32 k.val) (BitVec.ofNat 32 q.val) = ![0, cls k.val (4 * (i 2).val + q.val), 0, 0] := by
  have h : ∀ (a : Fin 4) (k : Fin 16) (q : Fin 4),
      (Scalar.indexCast (Scalar.addi (Scalar.minsi 2#32 (Scalar.maxsi 4294967294#32 (Scalar.subi (BitVec.ofNat 32 k.val)
        (Scalar.addi (Scalar.muli (BitVec.ofNat 32 a.val) 4#32) (BitVec.ofNat 32 q.val))))) 2#32)).toNat = cls k.val (4 * a.val + q.val) := by
    decide +kernel
  intro i k q
  funext a
  fin_cases a
  · rfl
  · exact h (i 2) k q
  · rfl
  · rfl

variable {F : FTy → Type} [FloatOps F]
variable (i : grid0.Coords) (arg3 : Memref sig .tc .smem S1 .f32) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x5x256x256 .f32) (harg7 : arg7.IsWhole) (arg8 : Memref sig .tc .vmem S1x1x128 .f32) (harg8 : arg8.IsWhole) (arg12 : Memref sig .tc .vmem S4096x256 .bf16) (harg12 : arg12.IsWhole)
  (x0 : Vec F S1 .f32) (x1 : Vec F S1024x128 .bf16) (x2 : Vec F S4096x128 .bf16) (x3 : Vec F S4096x128 .bf16) (x4 : Vec F S1x5x256x256 .f32) (x5 : Vec F S1x1x128 .f32) (xs2 : Vec F S4096x256 .bf16)

theorem ldQ_eq : ldQ arg4 harg4 x1 = x1 := by
  unfold ldQ
  rw [View.readAt_eq_ld, Memref.IsWhole.read_unread]
  funext j
  idx_vars j
  pointwise

theorem ldW_eq : ldW arg12 harg12 xs2 = xs2 := by
  unfold ldW
  rw [View.readAt_eq_ld, Memref.IsWhole.read_unread]
  funext j
  idx_vars j
  pointwise

theorem ldV_eq : ldV arg6 harg6 x3 = x3 := by
  unfold ldV
  rw [View.readAt_eq_ld, Memref.IsWhole.read_unread]
  funext j
  idx_vars j
  pointwise

theorem ldG_eq : ldG arg8 harg8 x5 = x5 := by
  unfold ldG
  rw [View.readAt_eq_ld, Memref.IsWhole.read_unread]
  funext j
  idx_vars j
  obtain rfl := Subsingleton.elim j0 0
  obtain rfl := Subsingleton.elim j1 0
  pointwise

theorem ldL_eq : ldL arg3 harg3 x0 = x0 (ix1 0) := by
  unfold ldL
  rw [View.readAt_eq_ld, Memref.IsWhole.read_unread]
  pointwise

theorem ldK_apply (k : ℕ) (r : Fin 256) (d : Fin 128) :
    ldK arg5 harg5 x2 k (ix2 r d) = x2 (ix2 ⟨256 * (k % 16) + r.val, by omega⟩ d) := by
  unfold ldK
  rw [View.readAt_eq_ld, Memref.IsWhole.read_unread]
  pointwise

theorem ldB_apply (k q : ℕ) (r c : Fin 256) :
    ldB i arg7 harg7 x4 k q (ix4 0 0 r c) = x4 (ix4 0 ⟨cls (k % 16) (4 * (i 2).val + q % 4), cls_lt _ _⟩ r c) := by
  unfold ldB
  rw [View.readAt_eq_ld, Memref.IsWhole.read_unread]
  have h := off1_eq i ⟨k % 16, by omega⟩ ⟨q % 4, by omega⟩
  refine View.ld_unit_apply_of _ _ _ _ _ _ fun a => ?_
  refine Eq.trans ?_ (congrArg (· + _) (congrFun h a).symm)
  fin_cases a <;> simp [ix4]

/-- The kept copy of a head's values: the values in the first 128 columns, ones in the last. -/
theorem v1_left (V : FVec Ideal S4096x128 .bf16) (k : Fin 4096) (d : Fin 128) :
    View.canon (vPieces V) (ix2 k ⟨d.val, by omega⟩) = V (ix2 k d) := by
  unfold vPieces
  rw [View.canon_cons_of_not_mem]
  · have e : (ix2 k ⟨d.val, by omega⟩ : S4096x256.Idx) = (Rect.unit (s := S4096x256) ![0, 0] S4096x128.size inb_S4096x256_S4096x128_0_0).emb (ix2 k d) := by
      funext a
      refine Fin.ext (Eq.trans ?_ (Rect.emb_apply _ _ a).symm)
      fin_cases a <;> simp [ix2, Rect.unit]
    rw [e]
    refine (View.canon_cons_emb _ _ _ _).trans ?_
    unfold k0_pay7
    pointwise
  · intro hm
    have hm' := (Rect.mem_set_unit (inb := inb_S4096x256_S4096x128_0_128)).1 hm 1
    simp [ix2] at hm'
    omega

theorem v1_right (V : FVec Ideal S4096x128 .bf16) (k : Fin 4096) (d : Fin 128) :
    View.canon (vPieces V) (ix2 k ⟨128 + d.val, by omega⟩) = 1 := by
  unfold vPieces
  have e : (ix2 k ⟨128 + d.val, by omega⟩ : S4096x256.Idx) = (Rect.unit (s := S4096x256) ![0, 128] S4096x128.size inb_S4096x256_S4096x128_0_128).emb (ix2 k d) := by
    funext a
    refine Fin.ext (Eq.trans ?_ (Rect.emb_apply _ _ a).symm)
    fin_cases a <;> simp [ix2, Rect.unit]
  rw [e]
  refine (View.canon_cons_emb _ _ _ _).trans ?_
  unfold k0_pay8
  pointwise

end Cert.DiffAttn.Second

end
-- ==== Proof.SecondBody.lean ====
/- The second layer. What one query step leaves in its output block, for real queries, keys, values and bias. -/
module

public import proofs.«01_k».proof.Proof.SecondLoads

@[expose] public section

set_option maxRecDepth 16384

noncomputable section

namespace Cert.DiffAttn.Second

open Cert.Kernel4Ideal Cert.Kernel4Ideal.Gen Idealize.ShloMosaic Idealize.ShloMosaic.TcCoe Idealize.SL.Sem
open Cert.Kernel4Ideal.Facts

/-- The lanes of a map: the first 64 of a head's 128, or the last. -/
def lane (mp : ℕ) (e : Fin 64) : Fin 128 := if mp = 0 then Fin.castAdd 64 e else Fin.natAdd 64 e

/-- The score of a query row and a key under a map: their dot over the map's lanes, scaled, and the bias. -/
def score (q k : Fin 128 → ℝ) (b : ℝ) (mp : ℕ) : ℝ := (∑ e : Fin 64, q (lane mp e) * k (lane mp e)) * (1 / 8) + b

/-- A row normalized by its root mean square, times the gain and the layer's scale. -/
def normed (o : Fin 128 → EReal) (g : EReal) (d : Fin 128) : EReal :=
  o d * Ideal.rsqrt (Ideal.div (∑ x, o x * o x) (Ideal.ofBits FTy.f32 1124073472#32) + Ideal.ofBits FTy.f32 925353388#32) * g *
      Ideal.ofBits FTy.f32 1059388764#32

theorem ofBits_eighth : Ideal.ofBits .bf16 0x3E00#16 = ((1 / 8 : ℝ) : EReal) := by
  simp [Ideal.ofBits, Ideal.ieee, ← EReal.coe_mul]
  norm_num

theorem lt_keys (k : ℕ) (r : Fin 256) : 256 * (k % 16) + r.val < 4096 := by omega
theorem lt_left (d : Fin 128) : d.val < 256 := by omega
theorem lt_right (d : Fin 128) : 128 + d.val < 256 := by omega

section
variable (q : Fin 1024 → Fin 128 → ℝ) (kk v : Fin 4096 → Fin 128 → ℝ) (bi : Fin 5 → Fin 256 → Fin 256 → ℝ) (step : ℕ)

/-- The scores of a query row of the block against all keys. -/
def scoreAt (mp : ℕ) (R : Fin 1024) (k : Fin 4096) : ℝ :=
  score (q R) (kk k) (bi ⟨cls (k.val / 256) (4 * step + R.val / 256), cls_lt _ _⟩ ⟨R.val % 256, by omega⟩ ⟨k.val % 256, by omega⟩) mp

variable (Q : FVec Ideal S1024x128 .bf16) (K : ℕ → FVec Ideal S256x128 .bf16) (Bi : ℕ → ℕ → FVec Ideal S1x1x256x256 .f32)
  (W : FVec Ideal S4096x256 .bf16)
  (hQ : ∀ R d, Q (ix2 R d) = (q R d : ℝ))
  (hK : ∀ (k : ℕ) (r : Fin 256) d, K k (ix2 r d) = (kk ⟨256 * (k % 16) + r.val, lt_keys k r⟩ d : ℝ))
  (hBi : ∀ (k u : ℕ) (r c : Fin 256), Bi k u (ix4 0 0 r c) = (bi ⟨cls (k % 16) (4 * step + u % 4), cls_lt _ _⟩ r c : ℝ))

include hQ hK hBi in
theorem tile_real (j : ℕ) (r c : Fin 256) :
    tile Q K Bi j (ix2 r c) = (scoreAt q kk bi step (j / 16 % 2) ⟨256 * (j / 32 % 4) + r.val, by omega⟩ ⟨256 * (j % 16) + c.val, by omega⟩ : ℝ) := by
  have e1 : 256 * (j / 16 / 2 % 4) + r.val = 256 * (j / 32 % 4) + r.val := by omega
  have e2 : (⟨256 * (j % 16 % 16) + c.val, by omega⟩ : Fin 4096) = ⟨256 * (j % 16) + c.val, by omega⟩ := Fin.ext (by show _ = _; simp)
  have hb : Bi (j % 16) (j / 32) (ix4 0 0 r c) = ((bi ⟨cls ((256 * (j % 16) + c.val) / 256) (4 * step + (256 * (j / 32 % 4) + r.val) / 256), cls_lt _ _⟩
      ⟨(256 * (j / 32 % 4) + r.val) % 256, by omega⟩ ⟨(256 * (j % 16) + c.val) % 256, by omega⟩ : ℝ) : EReal) := by
    rw [hBi]
    have a1 : (256 * (j % 16) + c.val) / 256 = j % 16 % 16 := by omega
    have a2 : (256 * (j / 32 % 4) + r.val) / 256 = j / 32 % 4 := by omega
    have a3 : (⟨(256 * (j / 32 % 4) + r.val) % 256, by omega⟩ : Fin 256) = r := Fin.ext (by show _ % _ = _; omega)
    have a4 : (⟨(256 * (j % 16) + c.val) % 256, by omega⟩ : Fin 256) = c := Fin.ext (by show _ % _ = _; omega)
    simp only [a1, a2, a3, a4]
  rw [tile_apply, hb, scoreAt, score, EReal.coe_add]
  congr 1
  rcases Nat.mod_two_eq_zero_or_one (j / 16) with h | h
  · simp only [qtile_apply, h, if_true, pay5_apply, hQ, hK, e1, e2, ofBits_eighth]
    rw [sum_low, sum_scaled]
    simp only [← EReal.coe_mul]
    rw [coe_sum, ← EReal.coe_mul]
    simp [lane]
  · simp only [qtile_apply, h, if_neg (show ¬ (1 : ℕ) = 0 by decide), pay6_apply, hQ, hK, e1, e2, ofBits_eighth]
    rw [sum_high, sum_scaled]
    simp only [← EReal.coe_mul]
    rw [coe_sum, ← EReal.coe_mul]
    simp [lane]

variable {sig₁ : RefSig} {κ₁ : Kind} {sp₁ sp₂ : Space} (vs : View sig₁ κ₁ sp₁ S2x256x4096 .f32) (vp : View sig₁ κ₁ sp₂ S2x256x4096 .bf16)
  (hW : ∀ k (d : Fin 128), W (ix2 k ⟨d.val, lt_left d⟩) = (v k d : ℝ)) (hW1 : ∀ k (d : Fin 128), W (ix2 k ⟨128 + d.val, lt_right d⟩) = 1)

include hQ hK hBi hW hW1 in
/-- A stream's attention is the softmax mean of the values under the stream's scores. -/
theorem att_real (n : ℕ) (hn : n < 8) (r : Fin 256) (d : Fin 128) :
    att vs vp Q K Bi W n (ix2 r d) = (mean (scoreAt q kk bi step (n % 2) ⟨256 * (n / 2 % 4) + r.val, by omega⟩) (fun k => v k d) : ℝ) := by
  rw [att_apply Q K Bi W vs vp n hn r d, ← quotient_eq_mean _ _ (mx Q K Bi n (ix2 r 0))
    (mx_real Q K Bi (fun j r c => ⟨_, tile_real q kk bi step Q K Bi hQ hK hBi j r c⟩) n r)]
  have hT : ∀ k : Fin 4096, tile Q K Bi (16 * n + k.val / 256) (ix2 r ⟨k.val % 256, by omega⟩) =
      (scoreAt q kk bi step (n % 2) ⟨256 * (n / 2 % 4) + r.val, by omega⟩ k : ℝ) := by
    intro k
    rw [tile_real q kk bi step Q K Bi hQ hK hBi]
    have a1 : (16 * n + k.val / 256) / 16 % 2 = n % 2 := by omega
    have a2 : (16 * n + k.val / 256) / 32 % 4 = n / 2 % 4 := by omega
    have a3 : (⟨256 * ((16 * n + k.val / 256) % 16) + k.val % 256, by omega⟩ : Fin 4096) = k := Fin.ext (by show _ + _ = _; omega)
    simp only [a1, a2, a3]
  simp only [hT, hW, hW1]

include hQ hK hBi hW hW1 in
/-- A query tile of the output block. -/
theorem outT_real (lam : Elt Ideal .f32) (g : FVec Ideal S1x1x128 .f32) (u : ℕ) (hu : u < 4) (r : Fin 256) (d : Fin 128) :
    outT vs vp Q K Bi W lam g u (ix2 r d) =
      normed (fun x => (mean (scoreAt q kk bi step 0 ⟨256 * u + r.val, by omega⟩) (fun k => v k x) : ℝ)
        - lam * (mean (scoreAt q kk bi step 1 ⟨256 * u + r.val, by omega⟩) (fun k => v k x) : ℝ)) (g (ix3 0 0 d)) d := by
  have h0 : ∀ x, att vs vp Q K Bi W (2 * u) (ix2 r x) = (mean (scoreAt q kk bi step 0 ⟨256 * u + r.val, by omega⟩) (fun k => v k x) : ℝ) := by
    intro x
    rw [att_real q kk v bi step Q K Bi W hQ hK hBi vs vp hW hW1 _ (by omega)]
    have a1 : 2 * u % 2 = 0 := by omega
    have a2 : 256 * (2 * u / 2 % 4) + r.val = 256 * u + r.val := by omega
    simp only [a1, a2]
  have h1 : ∀ x, att vs vp Q K Bi W (2 * u + 1) (ix2 r x) = (mean (scoreAt q kk bi step 1 ⟨256 * u + r.val, by omega⟩) (fun k => v k x) : ℝ) := by
    intro x
    rw [att_real q kk v bi step Q K Bi W hQ hK hBi vs vp hW hW1 _ (by omega)]
    have a1 : (2 * u + 1) % 2 = 1 := by omega
    have a2 : 256 * ((2 * u + 1) / 2 % 4) + r.val = 256 * u + r.val := by omega
    simp only [a1, a2]
  rw [outT, outT_apply]
  simp only [h0, h1, normed]

theorem canon_out (lam : Elt Ideal .f32) (g : FVec Ideal S1x1x128 .f32) (u : ℕ) (r : Fin 256) (d : Fin 128) (hu : u < 4) :
    ∀ N, u < N → N ≤ 4 → View.canon (outPieces vs vp Q K Bi W lam g N) (ix2 ⟨256 * u + r.val, by omega⟩ d) = outT vs vp Q K Bi W lam g u (ix2 r d)
  | 0, h, _ => absurd h (Nat.not_lt_zero u)
  | N + 1, h, h' => by
    by_cases e : N = u
    · subst e
      have e : (ix2 ⟨256 * N + r.val, by omega⟩ d : S1024x128.Idx) = (Rect.unit (s := S1024x128) ![256 * (N % 4), 0] S256x128.size (out_inb N)).emb (ix2 r d) := by
        funext a
        refine Fin.ext (Eq.trans ?_ (Rect.emb_apply _ _ a).symm)
        fin_cases a <;> simp [ix2, Rect.unit]
        omega
      rw [e]
      exact View.canon_cons_emb _ _ _ _
    · refine (View.canon_cons_of_not_mem _ _ ?_).trans (canon_out lam g u r d hu N (by omega) (by omega))
      intro hm
      have hm' := (Rect.mem_set_unit (inb := out_inb N)).1 hm 0
      simp [ix2, S256x128, Shape.size] at hm'
      omega

include hQ hK hBi hW hW1 in
/-- The output block of a query step, at an index. -/
theorem block_real (lam : Elt Ideal .f32) (g : FVec Ideal S1x1x128 .f32) (R : Fin 1024) (d : Fin 128) :
    View.canon (outPieces vs vp Q K Bi W lam g 4) (ix2 R d) =
      normed (fun x => (mean (scoreAt q kk bi step 0 R) (fun k => v k x) : ℝ)
        - lam * (mean (scoreAt q kk bi step 1 R) (fun k => v k x) : ℝ)) (g (ix3 0 0 d)) d := by
  have hR : (⟨256 * (R.val / 256) + (⟨R.val % 256, by omega⟩ : Fin 256).val, by show _ + _ % _ < _; omega⟩ : Fin 1024) = R := Fin.ext (by show _ + _ % _ = _; omega)
  have h := canon_out Q K Bi W vs vp lam g (R.val / 256) ⟨R.val % 256, by omega⟩ d (by omega) 4 (by omega) (by omega)
  rw [outT_real q kk v bi step Q K Bi W hQ hK hBi vs vp hW hW1 lam g _ (by omega)] at h
  rw [hR] at h
  exact h

end

end Cert.DiffAttn.Second

end
-- ==== Proof.SecondSteps.lean ====
/- The second layer. The grid: the values' scratch after each point, and the output array after the run. -/
module

public import proofs.«01_k».proof.Proof.SecondCanonRun
public import proofs.«01_k».proof.Proof.SecondBody
public import proofs.«01_k».proof.Proof.Gen.Kernel4Ideal.Value
public import Idealize.ShloMosaic.Lib.Pipeline.ValueKit
public import Idealize.ShloMosaic.Lib.Claim

@[expose] public section

set_option maxRecDepth 16384

noncomputable section

namespace Cert.DiffAttn.Second

open Cert.Kernel4Ideal Cert.Kernel4Ideal.Gen Idealize.ShloMosaic Idealize.ShloMosaic.TcCoe Idealize.SL.Sem
open Cert.Kernel4Ideal.Facts

theorem index1 : ∀ t : Fin grid0.N, win0_1.index t = ![t.val / 32 * 4 + t.val % 4, 24 + t.val / 4 % 8] := by decide +kernel
theorem index2 : ∀ t : Fin grid0.N, win0_2.index t = ![t.val / 32, 32 + t.val / 4 % 8] := by decide +kernel
theorem index3 : ∀ t : Fin grid0.N, win0_3.index t = ![t.val / 32, 40 + t.val / 4 % 8] := by decide +kernel
theorem index4 : ∀ t : Fin grid0.N, win0_4.index t = ![t.val / 4 % 8, 0, 0, 0] := by decide +kernel
theorem index5 : ∀ t : Fin grid0.N, win0_5.index t = ![t.val / 4 % 8, 0, 0] := by decide +kernel
theorem index6 : ∀ t : Fin grid0.N, win0_6.index t = ![t.val / 32 * 4 + t.val % 4, t.val / 4 % 8] := by decide +kernel
theorem index0 : ∀ t : Fin grid0.N, win0_0.index t = ![0] := by decide +kernel
theorem coord2 : ∀ t : Fin grid0.N, (grid0.coords t 2).val = t.val % 4 := by decide +kernel

variable (m : (ℓ : Loc nD τ sig) → Buf (Elt Ideal) ℓ)

theorem lt64 (t : Fin cfg0.N) : t.val < 64 := t.isLt.trans_eq N_0

/-- The query block of a point: 1024 rows of the head's query columns. -/
theorem iblk1 (c : Dev nD) (t : Fin cfg0.N) (R : Fin 1024) (d : Fin 128) :
    iblk m c 1 t (ix2 R d) = m ((c : Thread nD τ).loc main_arg0) (ix2 ⟨1024 * (t.val / 32 * 4 + t.val % 4) + R.val, by have := lt64 t; omega⟩ ⟨3072 + 128 * (t.val / 4 % 8) + d.val, by omega⟩) := by
  blk_point [iblk, V, index1 t]

/-- The key block: all rows of the batch, the head's key columns. -/
theorem iblk2 (c : Dev nD) (t : Fin cfg0.N) (R : Fin 4096) (d : Fin 128) :
    iblk m c 2 t (ix2 R d) = m ((c : Thread nD τ).loc main_arg0) (ix2 ⟨4096 * (t.val / 32) + R.val, by have := lt64 t; omega⟩ ⟨4096 + 128 * (t.val / 4 % 8) + d.val, by omega⟩) := by
  blk_point [iblk, V, index2 t]

/-- The value block: all rows of the batch, the head's value columns. -/
theorem iblk3 (c : Dev nD) (t : Fin cfg0.N) (R : Fin 4096) (d : Fin 128) :
    iblk m c 3 t (ix2 R d) = m ((c : Thread nD τ).loc main_arg0) (ix2 ⟨4096 * (t.val / 32) + R.val, by have := lt64 t; omega⟩ ⟨5120 + 128 * (t.val / 4 % 8) + d.val, by omega⟩) := by
  blk_point [iblk, V, index3 t]

/-- The head's five bias tiles. -/
theorem iblk4 (c : Dev nD) (t : Fin cfg0.N) (u : Fin 5) (r k : Fin 256) :
    iblk m c 4 t (ix4 0 u r k) = V m c (Pipeline.arrRef spec0 4) (ix4 ⟨t.val / 4 % 8, by omega⟩ u r k) := by
  blk_point [iblk, index4 t]

/-- The head's gain. -/
theorem iblk5 (c : Dev nD) (t : Fin cfg0.N) (d : Fin 128) :
    iblk m c 5 t (ix3 0 0 d) = V m c (Pipeline.arrRef spec0 5) (ix3 ⟨t.val / 4 % 8, by omega⟩ 0 d) := by
  blk_point [iblk, index5 t]

/-- The difference's factor. -/
theorem iblk0 (c : Dev nD) (t : Fin cfg0.N) :
    iblk m c 0 t (ix1 0) = V m c (Pipeline.arrRef spec0 0) (ix1 0) := by
  blk_point [iblk, index0 t]

end Cert.DiffAttn.Second

end
-- ==== Proof.SecondHostK.lean ====
/- The second layer. The arrays the host part hands the kernel: the difference's factor, the bias tiles, the gain. -/
module

public import proofs.«01_k».proof.Proof.SecondSteps

@[expose] public section

set_option maxRecDepth 16384

noncomputable section

namespace Cert.DiffAttn.Second

open Cert.Kernel4Ideal Cert.Kernel4Ideal.Gen Idealize.ShloMosaic Idealize.ShloMosaic.TcCoe Idealize.SL.Sem
open Cert.Kernel4Ideal.Facts

variable (m : (ℓ : Loc nD τ sig) → Buf (Elt Ideal) ℓ)

/-- The gain the kernel is handed. -/
theorem gain_apply (c : Dev nD) (h : Fin 8) (d : Fin 128) :
    V m c main_v72 (ix3 h 0 d) = m ((c : Thread nD τ).loc main_arg2) (ix3 1 h d) := by
  unfold V
  simp only [hostOps0, hostOps0_1, hostOps0_2, hostOps0_3, hostOps0_4, List.flatten_cons, List.flatten_nil, List.append_nil, List.cons_append, List.nil_append]
  after_results
  pointwise

/-- The difference's factor of the four vectors: `exp (q1 · k1) - exp (q2 · k2) + 0.3555…`, each product of the first rows. -/
def lamOf (a3 a4 a5 a6 : FVec Ideal S2x64 .f32) : EReal :=
  Ideal.exp (∑ x : Fin 64, a3 (ix2 1 x) * a4 (ix2 1 x)) - Ideal.exp (∑ x : Fin 64, a5 (ix2 1 x) * a6 (ix2 1 x))
    + Ideal.ofBits .f32 1052116297#32

/-- The difference's factor the kernel is handed. -/
theorem lam_apply (c : Dev nD) :
    V m c main_v71 (ix1 0)
      = lamOf (m ((c : Thread nD τ).loc main_arg3)) (m ((c : Thread nD τ).loc main_arg4))
          (m ((c : Thread nD τ).loc main_arg5)) (m ((c : Thread nD τ).loc main_arg6)) := by
  unfold V lamOf
  simp only [hostOps0, hostOps0_1, hostOps0_2, hostOps0_3, hostOps0_4, List.flatten_cons, List.flatten_nil, List.append_nil, List.cons_append, List.nil_append]
  after_results
  pointwise

/-- The relative positions of the bias tiles. -/
def relK : IVec S5x256x256 32 :=
  subi (broadcastInDim S5x256x256 ![0, 1, 2] bcast_S5x1x256_S5x256x256_0_1_2
      (addi (broadcastInDim S5x1x256 ![0, 1, 2] bcast_S5x1x1_S5x1x256_0_1_2
          (muli (subi (broadcastInDim S5x1x1 ![0] bcast_S5_S5x1x1_0 (iotaInDim S5 32 0))
              (broadcastInDim S5x1x1 ![] bcast_S_S5x1x1 (constantI S_ 32 2#32)))
            (broadcastInDim S5x1x1 ![] bcast_S_S5x1x1 (constantI S_ 32 256#32))))
        (broadcastInDim S5x1x256 ![0, 1, 2] bcast_S1x1x256_S5x1x256_0_1_2
          (broadcastInDim S1x1x256 ![2] bcast_S256_S1x1x256_2 (iotaInDim S256 32 0)))))
    (broadcastInDim S5x256x256 ![0, 1, 2] bcast_S1x256x1_S5x256x256_0_1_2
      (broadcastInDim S1x256x1 ![1] bcast_S256_S1x256x1_1 (iotaInDim S256 32 0)))

/-- The buckets of the bias tiles. -/
def bucketK : IVec S5x256x256 32 :=
  addi (select (cmpi .slt (negi relK) (broadcastInDim S5x256x256 ![] bcast_S_S5x256x256 (constantI S_ 32 0#32)))
      (broadcastInDim S5x256x256 ![] bcast_S_S5x256x256 (constantI S_ 32 16#32)) (broadcastInDim S5x256x256 ![] bcast_S_S5x256x256 (constantI S_ 32 0#32)))
    (select (cmpi .slt (absi (negi relK)) (broadcastInDim S5x256x256 ![] bcast_S_S5x256x256 (constantI S_ 32 8#32))) (absi (negi relK))
      (minsi (addi (broadcastInDim S5x256x256 ![] bcast_S_S5x256x256 (constantI S_ 32 8#32))
          (fptosi 32 (mulf (Host.divf (Host.log (Host.divf (sitofp (F := Ideal) .f32 (maxsi (absi (negi relK)) (broadcastInDim S5x256x256 ![] bcast_S_S5x256x256 (constantI S_ 32 1#32))))
              (broadcastInDim S5x256x256 ![] bcast_S_S5x256x256 (constant S_ .f32 1090519040#32))))
            (broadcastInDim S5x256x256 ![] bcast_S_S5x256x256 (constant S_ .f32 1076982296#32)))
            (broadcastInDim S5x256x256 ![] bcast_S_S5x256x256 (constant S_ .f32 1090519040#32)))))
        (broadcastInDim S5x256x256 ![] bcast_S_S5x256x256 (constantI S_ 32 15#32))))

/-- The relative position at an index. -/
theorem relK_apply (u : Fin 5) (r k : Fin 256) :
    relK (ix3 u r k) = (BitVec.ofNat 32 u.val - 2#32) * 256#32 + BitVec.ofNat 32 k.val - BitVec.ofNat 32 r.val := by
  unfold relK
  pointwise
  rfl

/-- The bucket of a position difference, the query's position less the key's. -/
def bucket (n : BitVec 32) : BitVec 32 :=
  IntOp.addi (Scalar.select (IntOp.cmpi CmpIPredicate.slt n 0#32) 16#32 0#32)
    (Scalar.select (IntOp.cmpi CmpIPredicate.slt (IntOp.absi n) 8#32) (IntOp.absi n)
      (IntOp.minsi
        (IntOp.addi (8#32)
          (FloatOps.fptosi (F := Ideal) (φ := .f32) 32
            (Ideal.div
                (Ideal.log
                  (Ideal.div (FloatOps.sitofp (F := Ideal) FTy.f32 (IntOp.maxsi (IntOp.absi n) 1#32))
                    (Ideal.ofBits FTy.f32 1090519040#32)))
                (Ideal.ofBits FTy.f32 1076982296#32) *
              Ideal.ofBits FTy.f32 1090519040#32)))
        15#32))

/-- The tiles' buckets, each of its position difference. -/
theorem bucketK_apply (u : Fin 5) (r k : Fin 256) : bucketK (ix3 u r k) = bucket (- relK (ix3 u r k)) := by
  unfold bucketK bucket
  pointwise

/-- One column of the one-hot matrix for every place of the tiles. -/
def oneHot (F : IVec S327680 32) : FVec Ideal S32x327680 .f32 :=
  uitofp .f32 (cmpi .eq (broadcastInDim S32x327680 ![0, 1] bcast_S1x327680_S32x327680_0_1
        (broadcastInDim S1x327680 ![1] bcast_S327680_S1x327680_1 F))
      (broadcastInDim S32x327680 ![0, 1] bcast_S32x1_S32x327680_0_1
        (broadcastInDim S32x1 ![0] bcast_S32_S32x1_0 (iotaInDim S32 32 0))))

/-- The table's columns at the buckets, by a product with the one-hot matrix. -/
def looked (T : FVec Ideal S32x16 .f32) (F : IVec S327680 32) : FVec Ideal S16x327680 .f32 :=
  Host.dotGeneral dot_S16x32_S32x327680_S16x327680_1_0_0_1_n_n (some .fp32)
    (transpose S16x32 [1, 0] T transposes_S32x16_S16x32_1_0) (oneHot F)

/-- The bias tiles are the looked-up columns, cut to the second eight heads. -/
theorem tiles_eq (c : Dev nD) :
    V m c main_v70 = (extractStridedSlice S8x5x256x256 ![8, 0, 0, 0]
      (shapeCast S16x5x256x256 (looked (m ((c : Thread nD τ).loc main_arg1)) (shapeCast S327680 bucketK shapeCasts_S5x256x256_S327680))
        shapeCasts_S16x327680_S16x5x256x256) slices_S16x5x256x256_S8x5x256x256_8_0_0_0 : FVec Ideal S8x5x256x256 .f32) := by
  unfold V
  simp only [hostOps0, hostOps0_1, hostOps0_2, hostOps0_3, hostOps0_4, List.flatten_cons, List.flatten_nil, List.append_nil, List.cons_append, List.nil_append, StableHlo.TRef.ternary, StableHlo.TRef.unary, StableHlo.TRef.toBuf, StableHlo.TRef.ofBuf, cast_eq]
  after_results
  rfl

/-- A looked-up entry: the table's column summed against the one-hot column. -/
theorem looked_apply (T : FVec Ideal S32x16 .f32) (F : IVec S327680 32) (a : Fin 16) (n : Fin 327680) :
    looked T F (ix2 a n)
      = ∑ x : Fin 32, T (ix2 x a) * FloatOps.uitofp (F := Ideal) .f32 (IntOp.cmpi .eq (F (ix1 n)) (BitVec.ofNat 32 x.val)) := by
  unfold looked oneHot
  pointwise

/-- The flattened place of a tile's entry. -/
def flat (u : Fin 5) (r k : Fin 256) : Fin 327680 := ⟨u.val * 65536 + r.val * 256 + k.val, by omega⟩

/-- An entry of a cut and reshaped array, in the flat array. -/
theorem tiles_at (L : FVec Ideal S16x327680 .f32) (h : Fin 8) (u : Fin 5) (r k : Fin 256) :
    (extractStridedSlice S8x5x256x256 ![8, 0, 0, 0] (shapeCast S16x5x256x256 L shapeCasts_S16x327680_S16x5x256x256)
      slices_S16x5x256x256_S8x5x256x256_8_0_0_0 : FVec Ideal S8x5x256x256 .f32) (ix4 h u r k)
      = L (ix2 ⟨8 + h.val, by omega⟩ (flat u r k)) := by
  unfold flat
  pointwise

/-- An entry of the flattened buckets, in the tiles. -/
theorem flat_at (B : IVec S5x256x256 32) (u : Fin 5) (r k : Fin 256) :
    (shapeCast S327680 B shapeCasts_S5x256x256_S327680 : IVec S327680 32) (ix1 (flat u r k)) = B (ix3 u r k) := by
  unfold flat
  pointwise

/-- A sum against a one-hot column is the entry the column marks. -/
theorem sum_oneHot (f : Fin 32 → EReal) (w : BitVec 32) (hw : w.toNat < 32) :
    ∑ x : Fin 32, f x * FloatOps.uitofp (F := Ideal) .f32 (IntOp.cmpi .eq w (BitVec.ofNat 32 x.val)) = f ⟨w.toNat, hw⟩ := by
  rw [Finset.sum_eq_single (⟨w.toNat, hw⟩ : Fin 32)]
  · have : IntOp.cmpi .eq w (BitVec.ofNat 32 w.toNat) = 1#1 := by simp [IntOp.cmpi]
    rw [this]
    show f _ * (((1#1 : BitVec 1).toNat : ℝ) : EReal) = _
    simp
  · intro x _ hx
    have : IntOp.cmpi .eq w (BitVec.ofNat 32 x.val) = 0#1 := by
      have hne : w ≠ BitVec.ofNat 32 x.val := by
        intro h
        apply hx
        apply Fin.ext
        have := congrArg BitVec.toNat h
        simp only [BitVec.toNat_ofNat] at this
        show x.val = w.toNat
        omega
      simp only [IntOp.cmpi, beq_eq_false_iff_ne.2 hne]
      rfl
    rw [this]
    show f _ * (((0#1 : BitVec 1).toNat : ℝ) : EReal) = _
    simp
  · simp

/-- A bias tile's entry is the table's, in the bucket of its position difference. -/
theorem bias_tile (c : Dev nD) (h : Fin 8) (u : Fin 5) (r k : Fin 256)
    (hb : (bucket (- relK (ix3 u r k))).toNat < 32) :
    V m c main_v70 (ix4 h u r k)
      = (m ((c : Thread nD τ).loc main_arg1) : FVec Ideal S32x16 .f32)
          (ix2 ⟨(bucket (- relK (ix3 u r k))).toNat, hb⟩ ⟨8 + h.val, by omega⟩) := by
  rw [tiles_eq, tiles_at, looked_apply, flat_at, bucketK_apply]
  exact sum_oneHot (fun x => (m ((c : Thread nD τ).loc main_arg1) : FVec Ideal S32x16 .f32) (ix2 x ⟨8 + h.val, by omega⟩)) _ hb

end Cert.DiffAttn.Second

end
-- ==== Proof.SecondBucket.lean ====
/- The second layer. The bucket of a position difference: its range, and its one value far from the diagonal. -/
module

public import proofs.«01_k».proof.Proof.SecondHostK
public import proofs.«01_k».proof.Proof.Math
public import Mathlib.Analysis.SpecialFunctions.Log.Basic
public import Mathlib.Tactic.Linarith
public import Mathlib.Tactic.Positivity
public import Mathlib.Tactic.NormNum
public import Mathlib.Tactic.FieldSimp

@[expose] public section

set_option maxRecDepth 16384

noncomputable section

namespace Cert.DiffAttn.Second

open Idealize.ShloMosaic

theorem ofBits_eight : Ideal.ofBits .f32 1090519040#32 = ((8 : ℝ) : EReal) := by
  simp [Ideal.ofBits, Ideal.ieee, -EReal.coe_mul]; norm_num

theorem ofBits_log : Ideal.ofBits .f32 1076982296#32 = ((11629080 / 4194304 : ℝ) : EReal) := by
  simp [Ideal.ofBits, Ideal.ieee, -EReal.coe_mul]; norm_num

/-- The logarithmic part of the bucket of a distance `N` from 8 to 5000, as an integer: not negative, far from overflow,
    at least 7 from 257 on. -/
theorem logPart (N : ℤ) (h8 : 8 ≤ N) (hN : N ≤ 5000) :
    ∃ z : ℤ, 0 ≤ z ∧ z ≤ 3000 ∧ (257 ≤ N → 7 ≤ z) ∧
      Ideal.fptosi 32 (Ideal.div (Ideal.log (Ideal.div (((N : ℤ) : ℝ) : EReal) (Ideal.ofBits .f32 1090519040#32)))
        (Ideal.ofBits .f32 1076982296#32) * Ideal.ofBits .f32 1090519040#32) = BitVec.ofInt 32 z := by
  have hr : (8 : ℝ) ≤ (N : ℝ) := by exact_mod_cast h8
  have hr' : (N : ℝ) ≤ 5000 := by exact_mod_cast hN
  set y : ℝ := (N : ℝ) * (1 / 8) with hy
  have hy1 : 1 ≤ y := by rw [hy]; linarith
  have hy2 : y ≤ 625 := by rw [hy]; linarith
  have hlog0 : 0 ≤ Real.log y := Real.log_nonneg hy1
  have hlog1 : Real.log y ≤ 624 := by
    have := Real.log_le_sub_one_of_pos (show 0 < y by linarith)
    linarith
  set w : ℝ := Real.log y * (1 / (11629080 / 4194304)) * 8 with hw
  have hw0 : 0 ≤ w := by rw [hw]; positivity
  have hw1 : w ≤ 3000 := by
    rw [hw]
    have : Real.log y * (1 / (11629080 / 4194304)) * 8 = Real.log y * (8 * 4194304 / 11629080) := by ring
    rw [this]; linarith
  have hval : Ideal.div (Ideal.log (Ideal.div (((N : ℤ) : ℝ) : EReal) (Ideal.ofBits .f32 1090519040#32)))
        (Ideal.ofBits .f32 1076982296#32) * Ideal.ofBits .f32 1090519040#32 = ((w : ℝ) : EReal) := by
    rw [ofBits_eight, ofBits_log, Ideal.div_coe (by norm_num), Ideal.div_coe (by norm_num), ← EReal.coe_mul, ← hy,
      Ideal.log_coe, if_neg (by linarith), ← EReal.coe_mul, ← EReal.coe_mul]
  have hf0 : 0 ≤ ⌊w⌋ := Int.floor_nonneg.2 hw0
  have hf1 : ⌊w⌋ ≤ 3000 := by
    have := Int.floor_le w
    have h2 : ((⌊w⌋ : ℤ) : ℝ) ≤ 3000 := by linarith
    exact_mod_cast h2
  refine ⟨⌊w⌋, hf0, hf1, fun h => ?_, ?_⟩
  · have h257 : (257 : ℝ) ≤ (N : ℝ) := by exact_mod_cast h
    have hy32 : (32 : ℝ) ≤ y := by rw [hy]; linarith
    have hl2 : (1 / 2 : ℝ) ≤ Real.log 2 := by
      have := Real.one_sub_inv_le_log_of_pos (show (0 : ℝ) < 2 by norm_num)
      norm_num at this ⊢
      linarith
    have hl32 : (5 / 2 : ℝ) ≤ Real.log y := by
      have h1 : Real.log 32 ≤ Real.log y := Real.log_le_log (by norm_num) hy32
      have h2 : Real.log 32 = 5 * Real.log 2 := by
        rw [show (32 : ℝ) = 2 ^ 5 by norm_num, Real.log_pow]; norm_num
      linarith
    refine Int.le_floor.2 ?_
    rw [hw]
    have : Real.log y * (1 / (11629080 / 4194304)) * 8 = Real.log y * (8 * 4194304 / 11629080) := by ring
    rw [this]
    push_cast
    linarith
  · rw [hval]
    show BitVec.ofInt 32 (Ideal.toIntClamped _ _ _) = _
    rw [Ideal.toIntClamped_coe, if_pos hw0]
    congr 1
    omega

/-- A position difference's distance. -/
theorem absi_toInt (n : BitVec 32) (h1 : -5000 ≤ n.toInt) (h2 : n.toInt ≤ 5000) :
    (IntOp.absi n).toInt = |n.toInt| := by
  unfold IntOp.absi
  rw [BitVec.msb_eq_toInt]
  by_cases h : n.toInt < 0
  · rw [if_pos (by simpa using h), abs_of_neg h, BitVec.toInt_neg]
    norm_num [Int.bmod]
    omega
  · rw [if_neg (by simpa using h), abs_of_nonneg (by omega)]

theorem select_bit {α : Type} (b : Bool) (x y : α) : Scalar.select (BitVec.ofBool b) x y = if b then x else y := by
  cases b <;> rfl

/-- The bucket, in cases on the sign and the distance. -/
theorem bucket_cases (n : BitVec 32) (h1 : -5000 ≤ n.toInt) (h2 : n.toInt ≤ 5000) :
    ∃ z : ℤ, 0 ≤ z ∧ z ≤ 3000 ∧ (257 ≤ |n.toInt| → 7 ≤ z) ∧
      bucket n = (if n.slt 0#32 then 16#32 else 0#32)
        + (if (IntOp.absi n).slt 8#32 then IntOp.absi n else IntOp.minsi (8#32 + BitVec.ofInt 32 z) 15#32) := by
  have ha := absi_toInt n h1 h2
  have habs : |n.toInt| ≤ 5000 := abs_le.2 ⟨by omega, h2⟩
  unfold bucket
  simp only [IntOp.cmpi, select_bit]
  by_cases hs : (IntOp.absi n).slt 8#32 = true
  · refine ⟨7, by norm_num, by norm_num, fun _ => le_refl _, ?_⟩
    rw [if_pos hs, if_pos hs]
    rfl
  · have h8 : 8 ≤ |n.toInt| := by
      simp only [BitVec.slt, ha, decide_eq_true_eq, not_lt] at hs
      simpa using hs
    obtain ⟨z, hz0, hz1, hz2, hz3⟩ := logPart _ h8 habs
    refine ⟨z, hz0, hz1, hz2, ?_⟩
    rw [if_neg hs, if_neg hs, ← hz3, ← ha]
    have hm : IntOp.maxsi (IntOp.absi n) 1#32 = IntOp.absi n := by
      unfold IntOp.maxsi
      rw [if_pos]
      simp only [BitVec.slt, ha, decide_eq_true_eq]
      have : (1#32 : BitVec 32).toInt = 1 := by decide
      omega
    rw [hm]
    rfl

/-- The bounded second part of a bucket. -/
theorem minsi_toNat (z : ℤ) (h0 : 0 ≤ z) (h1 : z ≤ 3000) :
    IntOp.minsi (8#32 + BitVec.ofInt 32 z) 15#32 = BitVec.ofNat 32 (min (8 + z.toNat) 15) := by
  obtain ⟨k, rfl⟩ := Int.eq_ofNat_of_zero_le h0
  have hk : k ≤ 3000 := by omega
  have e : (8#32 + BitVec.ofInt 32 (k : ℤ)) = BitVec.ofNat 32 (8 + k) := by
    apply BitVec.eq_of_toNat_eq
    simp
  have ei : (BitVec.ofNat 32 (8 + k)).toInt = 8 + k := by
    rw [BitVec.toInt_eq_toNat_of_lt] <;> simp <;> omega
  have e15 : (15#32 : BitVec 32).toInt = 15 := by decide
  unfold IntOp.minsi
  rw [e]
  simp only [BitVec.slt, ei, e15, decide_eq_true_eq, Int.toNat_natCast]
  split
  · rw [min_eq_left (by omega)]
  · rw [min_eq_right (by omega)]

/-- A bucket is a row of the table. -/
theorem bucket_lt (n : BitVec 32) (h1 : -5000 ≤ n.toInt) (h2 : n.toInt ≤ 5000) : (bucket n).toNat < 32 := by
  obtain ⟨z, hz0, hz1, -, e⟩ := bucket_cases n h1 h2
  have ha := absi_toInt n h1 h2
  rw [e, minsi_toNat z hz0 hz1, BitVec.toNat_add]
  have hA : (if n.slt 0#32 then 16#32 else 0#32 : BitVec 32).toNat ≤ 16 := by split <;> decide
  have hB : (if (IntOp.absi n).slt 8#32 then IntOp.absi n else BitVec.ofNat 32 (min (8 + z.toNat) 15)).toNat ≤ 15 := by
    split
    · next hs =>
      have e8 : (8#32 : BitVec 32).toInt = 8 := by decide
      simp only [BitVec.slt, decide_eq_true_eq, e8] at hs
      have : 0 ≤ (IntOp.absi n).toInt := ha ▸ abs_nonneg _
      rw [BitVec.toInt_eq_toNat_cond] at hs this
      split at hs <;> omega
    · simp only [BitVec.toNat_ofNat]
      omega
  omega

/-- Far from the diagonal the bucket is the last of its side. -/
theorem bucket_far (n : BitVec 32) (h1 : -5000 ≤ n.toInt) (h2 : n.toInt ≤ 5000) (h : 257 ≤ |n.toInt|) :
    bucket n = if n.slt 0#32 then 31#32 else 15#32 := by
  obtain ⟨z, hz0, hz1, hz2, e⟩ := bucket_cases n h1 h2
  have ha := absi_toInt n h1 h2
  have hs : ¬ (IntOp.absi n).slt 8#32 = true := by
    have e8 : (8#32 : BitVec 32).toInt = 8 := by decide
    simp only [BitVec.slt, decide_eq_true_eq, e8]
    omega
  rw [e, if_neg hs, minsi_toNat z hz0 hz1, min_eq_right (by have := hz2 h; omega)]
  split <;> rfl

end Cert.DiffAttn.Second

end
-- ==== Proof.SecondRef.lean ====
/- The second layer. The reference, read at an index. -/
module

public import proofs.«01_k».proof.Proof.SecondBucket
public import proofs.«01_k».proof.Proof.SecondBody
public import proofs.«01_k».proof.Proof.Gen.Reference4Ideal.Run

@[expose] public section

set_option maxRecDepth 16384

noncomputable section

namespace Cert.DiffAttn.Second

open Cert.Reference4Ideal Cert.Reference4Ideal.Value Idealize.ShloMosaic Idealize.ShloMosaic.TcCoe Idealize.SL.Sem
open Cert.Reference4Ideal.Facts Cert.Reference4Ideal.Facts₀

variable (V0 : Valuation τ sig (Elt Ideal))

/-- The query's position less the key's, as a word. -/
def ago (q k : Fin 4096) : BitVec 32 := -(BitVec.ofNat 32 k.val - BitVec.ofNat 32 q.val)

theorem ago_toInt (q k : Fin 4096) : (ago q k).toInt = (q.val : ℤ) - k.val := by
  unfold ago
  have hq := q.isLt
  have hk := k.isLt
  rw [BitVec.toInt_eq_toNat_cond]
  simp only [BitVec.toNat_neg, BitVec.toNat_sub, BitVec.toNat_ofNat]
  split <;> omega

/-- The table's row of a bucket word. -/
def row (w : BitVec 32) : Fin 32 := ⟨w.toNat % 32, Nat.mod_lt _ (by norm_num)⟩

/-- The bias of a head between a query and a key: the table's entry in their bucket, of the second eight heads. -/
def biasOf (T : FVec Ideal S32x16 .f32) (h : Fin 8) (q k : Fin 4096) : EReal :=
  T (ix2 (row (bucket (ago q k))) ⟨8 + h.val, by omega⟩)

/-- The row of a batch and a position among all rows. -/
def pos (b : Fin 2) (q : Fin 4096) : Fin 8192 := ⟨b.val * 4096 + q.val, by omega⟩

/-- The reference's bucket word of a query and a key. -/
theorem bucket_ref (q k : Fin 4096) : res_main_v55 V0 (ix2 q k) = bucket (ago q k) := by
  unfold res_main_v55 res_main_v35 res_main_v31 res_main_v24 bucket ago
  pointwise
  rfl

/-- A gather of table rows at a matrix of row numbers, read at an index. -/
theorem gather_row (x : FVec Ideal S32x8 .f32) (idx : IVec S4096x4096x1 32) (q k : Fin 4096) (h : Fin 8) :
    Host.gather gather_S32x8_S4096x4096x1_S4096x4096x8_2_0_n_n_0_2_18 x idx (ix3 q k h)
      = x (ix2 ⟨min (idx (ix3 q k 0)).toInt.toNat 31, by omega⟩ h) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S4096x4096x1_S4096x4096x8_2_0_n_n_0_2_18.startIndexMap from List.mem_singleton.mpr rfl)]
    have hsi : gather_S32x8_S4096x4096x1_S4096x4096x8_2_0_n_n_0_2_18.siIdx (ix3 q k h)
        ⟨List.idxOf (0 : Fin 2) gather_S32x8_S4096x4096x1_S4096x4096x8_2_0_n_n_0_2_18.startIndexMap,
          List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start GatherDims.offCoord
    rw [dif_neg (by decide), dif_pos (by decide)]
    simp only [Nat.add_zero, Nat.zero_add]
    rfl

/-- The table's row numbers as the reference hands them to its gather: a negative one counted from the end. -/
def starts (B : IVec S4096x4096 32) : IVec S4096x4096x1 32 :=
  broadcastInDim S4096x4096x1 ![0, 1] bcast_S4096x4096_S4096x4096x1_0_1
    (select (cmpi .slt B (broadcastInDim S4096x4096 ![] bcast_S_S4096x4096 (constantI S_ 32 0#32)))
      (addi B (broadcastInDim S4096x4096 ![] bcast_S_S4096x4096 (constantI S_ 32 32#32))) B)

theorem starts_apply (B : IVec S4096x4096 32) (q k : Fin 4096) (h : (B (ix2 q k)).toNat < 32) :
    starts B (ix3 q k 0) = B (ix2 q k) := by
  unfold starts
  pointwise
  generalize B (ix2 q k) = w at h
  simp only [IntOp.cmpi, select_bit]
  rw [if_neg]
  simp only [BitVec.slt, decide_eq_true_eq]
  rw [BitVec.toInt_eq_toNat_of_lt (by omega)]
  simp

/-- A small row number, read signed and bounded by the table, is itself. -/
theorem row_of (w : BitVec 32) (h : w.toNat < 32) : (⟨min w.toInt.toNat 31, by omega⟩ : Fin 32) = row w := by
  apply Fin.ext
  show min w.toInt.toNat 31 = w.toNat % 32
  rw [BitVec.toInt_eq_toNat_of_lt (by omega)]
  omega

theorem bucket_ago_lt (q k : Fin 4096) : (bucket (ago q k)).toNat < 32 := by
  have hq := q.isLt
  have hk := k.isLt
  exact bucket_lt (ago q k) (by rw [ago_toInt]; omega) (by rw [ago_toInt]; omega)

/-- A transposed gather of table rows, read at an index. -/
theorem turned (G : FVec Ideal S4096x4096x8 .f32) (h : Fin 8) (q k : Fin 4096) :
    (transpose S8x4096x4096 [2, 0, 1] G transposes_S4096x4096x8_S8x4096x4096_2_0_1 : FVec Ideal S8x4096x4096 .f32) (ix3 h q k)
      = G (ix3 q k h) := by
  pointwise

theorem heads (T : FVec Ideal S32x16 .f32) (r : Fin 32) (h : Fin 8) :
    (extractStridedSlice S32x8 ![0, 8] T slices_S32x16_S32x8_0_8 : FVec Ideal S32x8 .f32) (ix2 r h) = T (ix2 r ⟨8 + h.val, by omega⟩) := by
  pointwise

/-- The reference's bias. -/
theorem bias_ref (h : Fin 8) (q k : Fin 4096) :
    res_main_v63 V0 (ix3 h q k) = biasOf (V0 (Proc.devRef .tc main_arg1)) h q k := by
  have hlt := bucket_ago_lt q k
  refine (turned (Host.gather gather_S32x8_S4096x4096x1_S4096x4096x8_2_0_n_n_0_2_18
      (extractStridedSlice S32x8 ![0, 8] (V0 (Proc.devRef .tc main_arg1)) slices_S32x16_S32x8_0_8 : FVec Ideal S32x8 .f32)
      (starts (res_main_v55 V0))) h q k).trans ?_
  rw [gather_row, heads]
  unfold biasOf
  have hs := starts_apply (res_main_v55 V0) q k (by rw [bucket_ref]; exact hlt)
  rw [bucket_ref] at hs
  have hr := row_of _ hlt
  simp only [hs]
  rw [hr]

/-- The columns of a head's queries, keys and values in the projection. -/
def colQ (h : Fin 8) (d : Fin 128) : Fin 6144 := ⟨3072 + (h.val * 128 + d.val), by omega⟩
def colK (h : Fin 8) (d : Fin 128) : Fin 6144 := ⟨4096 + (h.val * 128 + d.val), by omega⟩
def colV (h : Fin 8) (d : Fin 128) : Fin 6144 := ⟨5120 + (h.val * 128 + d.val), by omega⟩

/-- The projection, as a table. -/
def proj : Fin 8192 → Fin 6144 → EReal := fun r c => V0 (Proc.devRef .tc main_arg0) (ix2 r c)

theorem ofBits_eighth32 : Ideal.ofBits .f32 1040187392#32 = ((1 / 8 : ℝ) : EReal) := by
  simp [Ideal.ofBits, Ideal.ieee, ← EReal.coe_mul]
  norm_num

/-- The reference's scores of the first map. -/
theorem score1_ref (b : Fin 2) (h : Fin 8) (q k : Fin 4096) :
    res_main_v73 V0 (ix4 b h q k)
      = (∑ x : Fin 64, proj V0 (pos b q) (colQ h (lane 0 x)) * proj V0 (pos b k) (colK h (lane 0 x)))
        * Ideal.ofBits .f32 1040187392#32 + biasOf (V0 (Proc.devRef .tc main_arg1)) h q k := by
  rw [← bias_ref]
  unfold res_main_v73 res_main_v5 res_main_v6 res_main_v1 pos proj colQ colK lane
  pointwise
  rfl

/-- The reference's scores of the second map. -/
theorem score2_ref (b : Fin 2) (h : Fin 8) (q k : Fin 4096) :
    res_main_v83 V0 (ix4 b h q k)
      = (∑ x : Fin 64, proj V0 (pos b q) (colQ h (lane 1 x)) * proj V0 (pos b k) (colK h (lane 1 x)))
        * Ideal.ofBits .f32 1040187392#32 + biasOf (V0 (Proc.devRef .tc main_arg1)) h q k := by
  rw [← bias_ref]
  unfold res_main_v83 res_main_v5 res_main_v6 res_main_v1 pos proj colQ colK lane
  pointwise
  simp only [Fin.val_natAdd, Nat.add_assoc]

/-- The maximum of real numbers along an axis, begun at minus infinity, is real. -/
theorem reduce_max_real {s t u : Shape} {a : Fin s.rank} (h' : s.ReducesTo [a] t) (h : s.Reduces [a] t) (hu : 0 < u.numel)
    (X : FVec Ideal s .f32) (init : FVec Ideal u .f32) (hX : ∀ i, IsReal (X i)) (hi : init (Shape.Idx.first hu) = ⊥)
    (hs : 0 < s.size a) (j : t.Idx) : IsReal (Host.reduce (FloatOps.maximumf (F := Ideal) (φ := .f32)) X init h' hu j) := by
  have e := Host.reduce_eq_fold_single (α := EReal) max X init h' h hu j
  have e' : Host.reduce (FloatOps.maximumf (F := Ideal) (φ := .f32)) X init h' hu j = Host.reduce (α := EReal) max X init h' hu j := rfl
  rw [e', e, hi]
  exact isReal_fold _ (fun i => hX _) _ ⟨⟨0, hs⟩, Finset.mem_univ _⟩

/-- The largest score of every query, as the reference takes it. -/
def largest (X : FVec Ideal S2x8x4096x4096 .f32) : FVec Ideal S2x8x4096 .f32 :=
  maximumf (broadcastInDim S2x8x4096 ![] bcast_S_S2x8x4096 (constant S_ .f32 0xFF800000#32))
    (Host.reduce FloatOps.maximumf X (constant S_ .f32 0xFF800000#32) reducesTo_S2x8x4096x4096_S2x8x4096_d3 h_S_)

theorem reduces_last : S2x8x4096x4096.Reduces [3] S2x8x4096 := by decide

/-- The constant the maximum begins at is minus infinity. -/
theorem least_eq (y : S_.Idx) : (constant S_ .f32 0xFF800000#32 : FVec Ideal S_ .f32) y = ⊥ := ofBits_neg_inf

/-- The reference's reduction of real scores is real. -/
theorem reduced_real (X : FVec Ideal S2x8x4096x4096 .f32) (hX : ∀ i, IsReal (X i)) (j : S2x8x4096.Idx) :
    IsReal (Host.reduce (FloatOps.maximumf (F := Ideal) (φ := .f32)) X (constant (F := Ideal) S_ .f32 0xFF800000#32) reducesTo_S2x8x4096x4096_S2x8x4096_d3 h_S_ j) :=
  reduce_max_real (a := 3) _ reduces_last h_S_ X _ hX (least_eq _) (by decide) j

theorem max_least (R : FVec Ideal S2x8x4096 .f32) (b : Fin 2) (h : Fin 8) (q : Fin 4096) :
    (maximumf (broadcastInDim S2x8x4096 ![] bcast_S_S2x8x4096 (constant S_ .f32 0xFF800000#32)) R : FVec Ideal S2x8x4096 .f32) (ix3 b h q)
      = max (Ideal.ofBits .f32 4286578688#32) (R (ix3 b h q)) := by
  pointwise

/-- The largest of real scores is real. -/
theorem largest_real (X : FVec Ideal S2x8x4096x4096 .f32) (hX : ∀ i, IsReal (X i)) (b : Fin 2) (h : Fin 8) (q : Fin 4096) :
    IsReal (largest X (ix3 b h q)) := by
  unfold largest
  rw [max_least, ofBits_neg_inf]
  exact isReal_max (Or.inr rfl) (reduced_real X hX _)

/-- The scores less their largest, exponentiated. -/
theorem exp_apply (X : FVec Ideal S2x8x4096x4096 .f32) (b : Fin 2) (h : Fin 8) (q k : Fin 4096) :
    (Host.exp (subf X (broadcastInDim S2x8x4096x4096 ![0, 1, 2, 3] bcast_S2x8x4096x1_S2x8x4096x4096_0_1_2_3
      (broadcastInDim S2x8x4096x1 ![0, 1, 2] bcast_S2x8x4096_S2x8x4096x1_0_1_2 (largest X)))) : FVec Ideal S2x8x4096x4096 .f32) (ix4 b h q k)
      = Ideal.exp (X (ix4 b h q k) - largest X (ix3 b h q)) := by
  generalize largest X = M
  pointwise

section
variable (p : Fin 8192 → Fin 6144 → ℝ) (bi : Fin 8 → Fin 4096 → Fin 4096 → ℝ)

/-- The score of a query and a key of a batch and a head under a map. -/
def attScore (b : Fin 2) (h : Fin 8) (mp : ℕ) (q k : Fin 4096) : ℝ :=
  score (fun d => p (pos b q) (colQ h d)) (fun d => p (pos b k) (colK h d)) (bi h q k) mp

/-- The differential attention of a query: the mean of the values under the first map less the factor times that under
    the second. -/
def attended (lam : EReal) (b : Fin 2) (h : Fin 8) (q : Fin 4096) (d : Fin 128) : EReal :=
  (mean (attScore p bi b h 0 q) (fun k => p (pos b k) (colV h d)) : ℝ)
    - lam * (mean (attScore p bi b h 1 q) (fun k => p (pos b k) (colV h d)) : ℝ)

variable (hp : ∀ r c, proj V0 r c = (p r c : ℝ))
  (hb : ∀ h q k, biasOf (V0 (Proc.devRef .tc main_arg1)) h q k = (bi h q k : ℝ))

include hp hb

theorem score1_real (b : Fin 2) (h : Fin 8) (q k : Fin 4096) :
    res_main_v73 V0 (ix4 b h q k) = ((attScore p bi b h 0 q k : ℝ) : EReal) := by
  rw [score1_ref, hb, ofBits_eighth32]
  simp only [hp, ← EReal.coe_mul]
  rw [coe_sum, ← EReal.coe_mul, ← EReal.coe_add]
  rfl

theorem score2_real (b : Fin 2) (h : Fin 8) (q k : Fin 4096) :
    res_main_v83 V0 (ix4 b h q k) = ((attScore p bi b h 1 q k : ℝ) : EReal) := by
  rw [score2_ref, hb, ofBits_eighth32]
  simp only [hp, ← EReal.coe_mul]
  rw [coe_sum, ← EReal.coe_mul, ← EReal.coe_add]
  rfl

/-- The exponentials the reference takes of the first map's scores, less some real number. -/
theorem exp1_ref (b : Fin 2) (h : Fin 8) (q : Fin 4096) :
    ∃ M : EReal, IsReal M ∧
      ∀ k, res_main_v90 V0 (ix4 b h q k) = Ideal.exp (((attScore p bi b h 0 q k : ℝ) : EReal) - M) := by
  have hX : ∀ i, IsReal ((res_main_v73 V0 : FVec Ideal S2x8x4096x4096 .f32) i) := fun i => by
    rw [eq_ix4 i]
    exact ⟨_, score1_real V0 p bi hp hb _ _ _ _⟩
  refine ⟨_, largest_real _ hX b h q, fun k => ?_⟩
  rw [← score1_real V0 p bi hp hb]
  exact exp_apply (res_main_v73 V0) b h q k

/-- The exponentials the reference takes of the second map's scores, less some real number. -/
theorem exp2_ref (b : Fin 2) (h : Fin 8) (q : Fin 4096) :
    ∃ M : EReal, IsReal M ∧
      ∀ k, res_main_v101 V0 (ix4 b h q k) = Ideal.exp (((attScore p bi b h 1 q k : ℝ) : EReal) - M) := by
  have hX : ∀ i, IsReal ((res_main_v83 V0 : FVec Ideal S2x8x4096x4096 .f32) i) := fun i => by
    rw [eq_ix4 i]
    exact ⟨_, score2_real V0 p bi hp hb _ _ _ _⟩
  refine ⟨_, largest_real _ hX b h q, fun k => ?_⟩
  rw [← score2_real V0 p bi hp hb]
  exact exp_apply (res_main_v83 V0) b h q k

/-- The reference's difference factor. -/
def lamR : EReal := lamOf (V0 (Proc.devRef .tc main_arg3)) (V0 (Proc.devRef .tc main_arg4))
  (V0 (Proc.devRef .tc main_arg5)) (V0 (Proc.devRef .tc main_arg6))

omit hp hb in
/-- The reference's weighted sum, read at an index. -/
theorem out_ref (b : Fin 2) (h : Fin 8) (q : Fin 4096) (d : Fin 128) :
    res_main_v110 V0 (ix4 b q h d)
      = ∑ x : Fin 4096, proj V0 (pos b x) (colV h d) *
          (Ideal.div (res_main_v90 V0 (ix4 b h q x)) (∑ x : Fin 4096, (show EReal from res_main_v90 V0 (ix4 b h q x)))
            - lamR V0 * Ideal.div (res_main_v101 V0 (ix4 b h q x)) (∑ x : Fin 4096, (show EReal from res_main_v101 V0 (ix4 b h q x)))) := by
  unfold res_main_v110 res_main_v1 lamR lamOf proj pos colV
  pointwise

/-- The reference's attention on real data. -/
theorem attended_ref (hl : IsReal (lamR V0)) (b : Fin 2) (h : Fin 8) (q : Fin 4096) (d : Fin 128) :
    res_main_v110 V0 (ix4 b q h d) = attended p bi (lamR V0) b h q d := by
  obtain ⟨M1, h1, e1⟩ := exp1_ref V0 p bi hp hb b h q
  obtain ⟨M2, h2, e2⟩ := exp2_ref V0 p bi hp hb b h q
  rw [out_ref]
  unfold attended
  rw [← diff_eq_mean (n := 4095) (attScore p bi b h 0 q) (attScore p bi b h 1 q) (fun k => p (pos b k) (colV h d)) M1 M2 (lamR V0) h1 h2 hl]
  simp only [e1, e2, hp]

end

/-- The columns of a head in the result. -/
def colO (h : Fin 8) (d : Fin 128) : Fin 1024 := ⟨h.val * 128 + d.val, by omega⟩

/-- The reference's result. -/
def result : FVec Ideal S8192x1024 .bf16 :=
  truncf .bf16 (shapeCast _ (mulf (mulf (mulf (res_main_v110 V0) (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf (res_main_v110 V0) (res_main_v110 V0)) (constant S_ .f32 0x00000000#32) reducesTo_S2x4096x8x128_S2x4096x8_d3 h_S_)) (broadcastInDim S2x4096x8x1 ![] bcast_S_S2x4096x8x1 (constant S_ .f32 0x43000000#32))) (broadcastInDim S2x4096x8x1 ![] bcast_S_S2x4096x8x1 (constant S_ .f32 0x3727C5AC#32)))))) (broadcastInDim S2x4096x8x128 ![0, 1, 2, 3] bcast_S1x1x8x128_S2x4096x8x128_0_1_2_3 (broadcastInDim S1x1x8x128 ![2, 3] bcast_S8x128_S1x1x8x128_2_3 (shapeCast _ (extractStridedSlice S1x8x128 ![1, 0, 0] (V0 (Proc.devRef .tc main_arg2)) slices_S2x8x128_S1x8x128_1_0_0) shapeCasts_S1x8x128_S8x128)))) (broadcastInDim S2x4096x8x128 ![] bcast_S_S2x4096x8x128 (constant S_ .f32 0x3F24FD5C#32))) shapeCasts_S2x4096x8x128_S8192x1024) bitsLt_bf16_f32

/-- The reference's result, read at an index. -/
theorem result_apply (b : Fin 2) (h : Fin 8) (q : Fin 4096) (d : Fin 128) :
    result V0 (ix2 (pos b q) (colO h d))
      = normed (fun x => res_main_v110 V0 (ix4 b q h x)) ((V0 (Proc.devRef .tc main_arg2) : FVec Ideal S2x8x128 .f32) (ix3 1 h d)) d := by
  unfold result pos colO normed
  pointwise

end Cert.DiffAttn.Second

end
-- ==== Proof.SecondOut.lean ====
/- The second layer. The kernel's result array, at an index. -/
module

public import proofs.«01_k».proof.Proof.SecondRef
public import proofs.«01_k».proof.Proof.SecondSteps
public import proofs.«01_k».proof.Proof.SecondCanonRun
public import proofs.«01_k».proof.Proof.SecondLoads
public import proofs.«01_k».proof.Proof.Gen.Kernel4Ideal.Value
public import Idealize.ShloMosaic.Lib.VecWindow

@[expose] public section

set_option maxRecDepth 16384

noncomputable section

namespace Cert.DiffAttn.Second

open Cert.Kernel4Ideal Cert.Kernel4Ideal.Gen Idealize.ShloMosaic Idealize.ShloMosaic.TcCoe Idealize.SL.Sem
open Cert.Kernel4Ideal.Facts

variable (m : (ℓ : Loc nD τ sig) → Buf (Elt Ideal) ℓ)

/-- The blocks a step reads, at their literal shapes. -/
def blkQ (c : Dev nD) (t : Fin cfg0.N) : FVec Ideal S1024x128 .bf16 := iblk m c 1 t
def blkK (c : Dev nD) (t : Fin cfg0.N) : FVec Ideal S4096x128 .bf16 := iblk m c 2 t
def blkV (c : Dev nD) (t : Fin cfg0.N) : FVec Ideal S4096x128 .bf16 := iblk m c 3 t
def blkB (c : Dev nD) (t : Fin cfg0.N) : FVec Ideal S1x5x256x256 .f32 := iblk m c 4 t
def blkG (c : Dev nD) (t : Fin cfg0.N) : FVec Ideal S1x1x128 .f32 := iblk m c 5 t
def blkL (c : Dev nD) (t : Fin cfg0.N) : FVec Ideal S1 .f32 := iblk m c 0 t

/-- The values' scratch of a head: its values, ones beside them. -/
def scr (V : FVec Ideal S4096x128 .bf16) : FVec Ideal S4096x256 .bf16 := View.canon (vPieces V)

/-- The value block of a step is the value block of the step before in the same head. -/
theorem values_keep (c : Dev nD) (n : ℕ) (h : n + 1 < cfg0.N) (h4 : ¬ (n + 1) % 4 = 0) :
    iblk m c 3 ⟨n, Nat.lt_of_succ_lt h⟩ = iblk m c 3 ⟨n + 1, h⟩ := by
  have a : n / 32 = (n + 1) / 32 := by omega
  have b : n / 4 % 8 = (n + 1) / 4 % 8 := by omega
  funext y
  rw [show y = ix2 (y 0) (y 1) from eq_ix2 y]
  refine (iblk3 m c _ _ _).trans (Eq.trans ?_ (iblk3 m c _ _ _).symm)
  simp only [a, b]

/-- What the values' scratch holds after a step: the head's values, ones beside them. -/
theorem scratch_eq (c : Dev nD) : ∀ (n : ℕ) (h : n < cfg0.N), (outsAt0 m c n h).2 = scr (blkV m c ⟨n, h⟩) := by
  have first : ∀ t : Fin cfg0.N, t.val % 4 = 0 → (outsAt0 m c t.val t.isLt).2 = scr (blkV m c t) := by
    intro t h0
    rw [outsAt0_A m c t h0]
    dsimp only
    unfold sout0_A_2
    rw [scratch_A, ldV_eq]
    exact View.read_writes_junk_eq_canon _ _
  intro n
  induction n with
  | zero => intro h; exact first ⟨0, h⟩ rfl
  | succ n ih =>
    intro h
    by_cases h4 : (n + 1) % 4 = 0
    · exact first ⟨n + 1, h⟩ h4
    · rw [outsAt0_B m c ⟨n + 1, h⟩ h4]
      dsimp only
      unfold sout0_B_2
      refine (ih (Nat.lt_of_succ_lt h)).trans ?_
      unfold blkV
      rw [values_keep m c n h h4]

/-- The scratch read back in full is the scratch. -/
theorem cov_eq {sg : RefSig} {κ : Kind} {sp : Space} (v : View sg κ sp S4096x256 .bf16) (V : FVec Ideal S4096x128 .bf16) :
    v.readCov (vPieces V) (Rect.unit ![0, 0] S4096x256.size inb_S4096x256_S4096x256_0_0).toLoadRect = scr V := by
  rw [View.readCov_eq_canon']
  funext j
  unfold scr
  refine congrArg _ ?_
  funext a
  refine Fin.ext ((Rect.idx_unit_val _ _ _ _ a).trans ?_)
  fin_cases a <;> simp

/-- What a step leaves in its output block. -/
def pointOut (c : Dev nD) (t : Fin cfg0.N) : FVec Ideal S1024x128 .bf16 :=
  View.canon (outPieces scM0_0.view scM0_1.view (blkQ m c t) (ldK (ms0_2 t) (hs0_2 t) (blkK m c t))
    (ldB (grid0.coords t) (ms0_4 t) (hs0_4 t) (blkB m c t)) (scr (blkV m c t))
    (ldL (ms0_0 t) (hs0_0 t) (blkL m c t)) (ldG (ms0_5 t) (hs0_5 t) (blkG m c t)) 4)

theorem flushed_eq (c : Dev nD) (t : Fin cfg0.N) :
    (dats m 0 c).flushed 6 t = (cfg0.win 6).cut (grid0.coords t) (pointOut m c t) := by
  by_cases h0 : t.val % 4 = 0
  · rw [Value.flushed6_A m c t h0]
    congr 1
    unfold out0_A_6 pointOut
    rw [run_A, ldQ_eq, ldV_eq]
    refine (View.read_writes_junk_eq_canon _ _).trans ?_
    rw [cov_eq]
    rfl
  · rw [Value.flushed6_B m c t h0]
    congr 1
    unfold out0_B_6 pointOut
    rw [run_B, ldQ_eq, ldW_eq, scratch_eq]
    refine (View.read_writes_junk_eq_canon _ _).trans ?_
    have hk : blkV m c ⟨t.val - 1, Nat.lt_of_le_of_lt (Nat.sub_le _ _) t.isLt⟩ = blkV m c t := by
      obtain ⟨n, hn⟩ := t
      cases n with
      | zero => exact absurd rfl h0
      | succ n => exact values_keep m c n hn h0
    rw [hk]
    rfl

end Cert.DiffAttn.Second

end
-- ==== Proof.SecondNear.lean ====
/- The second layer. The bias tile of a query block and a key block holds the table's entries in their buckets. -/
module

public import proofs.«01_k».proof.Proof.SecondRef
public import proofs.«01_k».proof.Proof.SecondLoads

@[expose] public section

set_option maxRecDepth 16384

noncomputable section

namespace Cert.DiffAttn.Second

open Idealize.ShloMosaic

/-- A tile's position difference, as an integer. -/
theorem relK_toInt (u : Fin 5) (r k : Fin 256) : (-relK (ix3 u r k)).toInt = (2 - (u.val : ℤ)) * 256 + r.val - k.val := by
  rw [relK_apply]
  have hr := r.isLt
  have hk := k.isLt
  rw [BitVec.toInt_eq_toNat_cond]
  simp only [BitVec.toNat_neg, BitVec.toNat_sub, BitVec.toNat_add, BitVec.toNat_mul, BitVec.toNat_ofNat]
  fin_cases u <;> simp <;> split <;> omega

/-- The tile's bucket is a row of the table. -/
theorem bucket_tile_lt (u : Fin 5) (r k : Fin 256) : (bucket (-relK (ix3 u r k))).toNat < 32 := by
  have hr := r.isLt
  have hk := k.isLt
  have hu := u.isLt
  exact bucket_lt _ (by rw [relK_toInt]; omega) (by rw [relK_toInt]; omega)

theorem slt_zero (n : BitVec 32) : n.slt 0#32 = decide (n.toInt < 0) := by
  simp [BitVec.slt]

/-- A query and a key fall in the bucket of their place in the tile the kernel reads for their blocks: the same position
    difference near the diagonal, and beyond it both differences lie in the last bucket of their side. -/
theorem bucket_near (q k : Fin 4096) :
    bucket (-relK (ix3 ⟨cls (k.val / 256) (q.val / 256), cls_lt _ _⟩ ⟨q.val % 256, by omega⟩ ⟨k.val % 256, by omega⟩)) = bucket (ago q k) := by
  have hq := q.isLt
  have hk := k.isLt
  have e := relK_toInt ⟨cls (k.val / 256) (q.val / 256), cls_lt _ _⟩ ⟨q.val % 256, by omega⟩ ⟨k.val % 256, by omega⟩
  have e' := ago_toInt q k
  simp only at e
  generalize -relK (ix3 ⟨cls (k.val / 256) (q.val / 256), cls_lt _ _⟩ ⟨q.val % 256, by omega⟩ ⟨k.val % 256, by omega⟩) = w at e ⊢
  generalize ago q k = w' at e' ⊢
  unfold cls at e
  by_cases h1 : k.val / 256 + 2 ≤ q.val / 256
  · rw [if_pos h1] at e
    have a : 257 ≤ w.toInt := by omega
    have a' : 257 ≤ w'.toInt := by omega
    rw [bucket_far w (by omega) (by omega) (by rw [abs_of_nonneg (by omega)]; omega),
      bucket_far w' (by omega) (by omega) (by rw [abs_of_nonneg (by omega)]; omega), slt_zero, slt_zero,
      decide_eq_false (by omega), decide_eq_false (by omega)]
  · by_cases h2 : q.val / 256 + 2 ≤ k.val / 256
    · rw [if_neg h1, if_pos h2] at e
      have a : w.toInt ≤ -257 := by omega
      have a' : w'.toInt ≤ -257 := by omega
      rw [bucket_far w (by omega) (by omega) (by rw [abs_of_neg (by omega)]; omega),
        bucket_far w' (by omega) (by omega) (by rw [abs_of_neg (by omega)]; omega), slt_zero, slt_zero,
        decide_eq_true (by omega), decide_eq_true (by omega)]
    · rw [if_neg h1, if_neg h2] at e
      congr 1
      apply BitVec.eq_of_toInt_eq
      omega

end Cert.DiffAttn.Second

end
-- ==== Proof.SecondPoint.lean ====
/- The second layer. The kernel's output block at an index, on real projections and a real bias table. -/
module

public import proofs.«01_k».proof.Proof.SecondOut
public import proofs.«01_k».proof.Proof.SecondNear
public import proofs.«01_k».proof.Proof.SecondHostK

@[expose] public section

set_option maxRecDepth 16384

noncomputable section

namespace Cert.DiffAttn.Second

open Cert.Kernel4Ideal Cert.Kernel4Ideal.Gen Idealize.ShloMosaic Idealize.ShloMosaic.TcCoe Idealize.SL.Sem
open Cert.Kernel4Ideal.Facts

/-- The bias of a head between a query and a key, of a real table. -/
def biasR (tb : Fin 32 → Fin 16 → ℝ) (h : Fin 8) (q k : Fin 4096) : ℝ :=
  tb (row (bucket (ago q k))) ⟨8 + h.val, by omega⟩

/-- A head's bias tiles, of a real table. -/
def tileR (tb : Fin 32 → Fin 16 → ℝ) (h : Fin 8) (u : Fin 5) (r k : Fin 256) : ℝ :=
  tb ⟨(bucket (-relK (ix3 u r k))).toNat, bucket_tile_lt u r k⟩ ⟨8 + h.val, by omega⟩

/-- The tile the kernel reads for a query and a key holds their bias. -/
theorem tile_bias (tb : Fin 32 → Fin 16 → ℝ) (h : Fin 8) (q k : Fin 4096) :
    tileR tb h ⟨cls (k.val / 256) (q.val / 256), cls_lt _ _⟩ ⟨q.val % 256, by omega⟩ ⟨k.val % 256, by omega⟩ = biasR tb h q k := by
  unfold tileR biasR
  have e := bucket_near q k
  have hl := bucket_tile_lt ⟨cls (k.val / 256) (q.val / 256), cls_lt _ _⟩ ⟨q.val % 256, by omega⟩ ⟨k.val % 256, by omega⟩
  refine congrArg (fun x => tb x _) (Fin.ext ?_)
  show (bucket _).toNat = (bucket (ago q k)).toNat % 32
  rw [← e, Nat.mod_eq_of_lt hl]

variable (m : (ℓ : Loc nD τ sig) → Buf (Elt Ideal) ℓ)

/-- The batch, the head and a row's position of a grid step. -/
def batchOf (t : Fin cfg0.N) : Fin 2 := ⟨t.val / 32, by have := lt64 t; omega⟩
def headOf (t : Fin cfg0.N) : Fin 8 := ⟨t.val / 4 % 8, by omega⟩
def rowOf (t : Fin cfg0.N) (R : Fin 1024) : Fin 4096 := ⟨1024 * (t.val % 4) + R.val, by omega⟩

/-- The difference's factor of the kernel's arguments. -/
def lamK (c : Dev nD) : EReal :=
  lamOf (m ((c : Thread nD τ).loc main_arg3)) (m ((c : Thread nD τ).loc main_arg4)) (m ((c : Thread nD τ).loc main_arg5)) (m ((c : Thread nD τ).loc main_arg6))

def argP (c : Dev nD) : FVec Ideal S8192x6144 .bf16 := m ((c : Thread nD τ).loc main_arg0)
def argT (c : Dev nD) : FVec Ideal S32x16 .f32 := m ((c : Thread nD τ).loc main_arg1)
def argG (c : Dev nD) : FVec Ideal S2x8x128 .f32 := m ((c : Thread nD τ).loc main_arg2)

variable (p : Fin 8192 → Fin 6144 → ℝ) (tb : Fin 32 → Fin 16 → ℝ)

/-- A grid step's output block: the normed differential attention of its rows. -/
theorem point_apply (c : Dev nD) (hp : ∀ r x, argP m c (ix2 r x) = (p r x : ℝ)) (ht : ∀ i j, argT m c (ix2 i j) = (tb i j : ℝ))
    (t : Fin cfg0.N) (R : Fin 1024) (d : Fin 128) :
    pointOut m c t (ix2 R d)
      = normed (attended p (biasR tb) (lamK m c) (batchOf t) (headOf t) (rowOf t R)) (argG m c (ix3 1 (headOf t) d)) d := by
  have hN := lt64 t
  unfold pointOut
  refine (block_real (fun R d => p (pos (batchOf t) (rowOf t R)) (colQ (headOf t) d))
    (fun k d => p (pos (batchOf t) k) (colK (headOf t) d)) (fun k d => p (pos (batchOf t) k) (colV (headOf t) d))
    (tileR tb (headOf t)) (t.val % 4) _ _ _ _ ?_ ?_ ?_ _ _ ?_ ?_ _ _ R d).trans ?_
  · intro R d
    refine (iblk1 m c t R d).trans ((congrArg (argP m c) ?_).trans (hp _ _))
    refine congrArg₂ ix2 (Fin.ext ?_) (Fin.ext ?_) <;> simp [pos, batchOf, rowOf, colQ, headOf] <;> omega
  · intro k r d
    rw [ldK_apply]
    refine (iblk2 m c t _ d).trans ((congrArg (argP m c) ?_).trans (hp _ _))
    refine congrArg₂ ix2 (Fin.ext ?_) (Fin.ext ?_) <;> simp [pos, batchOf, rowOf, colK, headOf] <;> omega
  · intro k u r x
    rw [ldB_apply]
    refine (iblk4 m c t _ r x).trans ?_
    refine (bias_tile m c (headOf t) _ r x (bucket_tile_lt _ _ _)).trans ?_
    refine (ht _ _).trans ?_
    unfold tileR
    simp only [coord2 t]
  · intro k d
    unfold scr
    rw [v1_left]
    refine (iblk3 m c t k d).trans ((congrArg (argP m c) ?_).trans (hp _ _))
    refine congrArg₂ ix2 (Fin.ext ?_) (Fin.ext ?_) <;> simp [pos, batchOf, rowOf, colV, headOf] <;> omega
  · intro k d
    exact v1_right _ k d
  · have hs : ∀ mp, scoreAt (fun R d => p (pos (batchOf t) (rowOf t R)) (colQ (headOf t) d))
        (fun k d => p (pos (batchOf t) k) (colK (headOf t) d)) (tileR tb (headOf t)) (t.val % 4) mp R
        = attScore p (biasR tb) (batchOf t) (headOf t) mp (rowOf t R) := by
      intro mp
      funext k
      unfold scoreAt attScore
      rw [← tile_bias tb (headOf t) (rowOf t R) k]
      have e1 : 4 * (t.val % 4) + R.val / 256 = (rowOf t R).val / 256 := by simp only [rowOf]; omega
      have e2 : R.val % 256 = (rowOf t R).val % 256 := by simp only [rowOf]; omega
      simp only [e1, e2]
    rw [hs, hs]
    have hl : ldL (F := Ideal) (ms0_0 t) (hs0_0 t) (blkL m c t) = lamK m c := by
      rw [ldL_eq]
      exact (iblk0 m c t).trans (lam_apply m c)
    have hg : ldG (ms0_5 t) (hs0_5 t) (blkG m c t) (ix3 0 0 d) = argG m c (ix3 1 (headOf t) d) := by
      rw [ldG_eq]
      exact (iblk5 m c t d).trans (gain_apply m c (headOf t) d)
    rw [hl, hg]
    rfl

/-- The kernel's result array: the normed differential attention, everywhere. -/
theorem array_eq (c : Dev nD) (hp : ∀ r x, argP m c (ix2 r x) = (p r x : ℝ)) (ht : ∀ i j, argT m c (ix2 i j) = (tb i j : ℝ))
    (G : FVec Ideal S8192x1024 .bf16)
    (hG : ∀ b h q d, G (ix2 (pos b q) (colO h d)) = normed (attended p (biasR tb) (lamK m c) b h q) (argG m c (ix3 1 h d)) d) :
    (dats m 0 c).arrAt 6 cfg0.N = G := by
  refine (dats m 0 c).arrAt_eq_of_covers 6 _ (by decide +kernel) fun t hf y => ?_
  have hN := lt64 t
  refine (congrFun (flushed_eq m c t) y).trans ?_
  show pointOut m c t y = _
  rw [show y = ix2 (y 0) (y 1) from eq_ix2 y]
  refine (point_apply m p tb c hp ht t (y 0) (y 1)).trans ?_
  refine (hG _ _ _ _).symm.trans (congrArg G ?_)
  refine Eq.symm ?_
  blk_simp
  simp only [index6 t]
  funext a
  refine Fin.ext ?_
  fin_cases a
  · have e : win0_6.index t 0 = t.val / 32 * 4 + t.val % 4 := congrFun (index6 t) 0
    show win0_6.index t 0 * 1024 + 1 * (y 0).val = t.val / 32 * 4096 + (1024 * (t.val % 4) + (y 0).val)
    generalize (y 0).val = z
    omega
  · have e : win0_6.index t 1 = t.val / 4 % 8 := congrFun (index6 t) 1
    show win0_6.index t 1 * 128 + 1 * (y 1).val = t.val / 4 % 8 * 128 + (y 1).val
    generalize (y 1).val = z
    omega

end Cert.DiffAttn.Second

end
-- ==== Proof.SecondClose.lean ====
/- The second layer. The two results agree: the value claim. -/
module

public import proofs.«01_k».proof.Proof.Finite
public import proofs.«01_k».proof.Proof.SecondPoint
public import Idealize.ShloMosaic.Lib.Quiescent

@[expose] public section

set_option maxRecDepth 16384

noncomputable section

namespace Cert.DiffAttn.Second

open Idealize.ShloMosaic Idealize.ShloMosaic.TcCoe Idealize.ShloMosaic.StableHlo Idealize.SL.Sem

theorem isReal_factor : IsReal (Ideal.ofBits .f32 1052116297#32) := by
  simp only [Ideal.ofBits, Ideal.ieee]
  norm_num
  exact isReal_mul ⟨_, rfl⟩ ⟨_, rfl⟩

/-- The difference's factor is real on real vectors. -/
theorem isReal_lam (a3 a4 a5 a6 : FVec Ideal Cert.Kernel4Ideal.S2x64 .f32) (h3 : ∀ i, IsReal (a3 i)) (h4 : ∀ i, IsReal (a4 i))
    (h5 : ∀ i, IsReal (a5 i)) (h6 : ∀ i, IsReal (a6 i)) : IsReal (lamOf a3 a4 a5 a6) :=
  isReal_add (isReal_sub (isReal_exp (isReal_sum _ _ fun _ => isReal_mul (h3 _) (h4 _)))
    (isReal_exp (isReal_sum _ _ fun _ => isReal_mul (h5 _) (h6 _)))) isReal_factor

variable (m : (ℓ : Loc Cert.Kernel4Ideal.nD Cert.Kernel4Ideal.τ Cert.Kernel4Ideal.sig) → Buf (Elt Ideal) ℓ)
variable (V0 : Idealize.ShloMosaic.Valuation Cert.Reference4Ideal.τ Cert.Reference4Ideal.sig (Elt Ideal))

/-- The reference's result, of a real projection and a real bias table. -/
theorem result_real (p : Fin 8192 → Fin 6144 → ℝ) (tb : Fin 32 → Fin 16 → ℝ) (hp : ∀ r x, proj V0 r x = (p r x : ℝ))
    (hb : ∀ h q k, biasOf (V0 (Proc.devRef .tc Cert.Reference4Ideal.main_arg1)) h q k = (biasR tb h q k : ℝ)) (hl : IsReal (lamR V0))
    (b : Fin 2) (h : Fin 8) (q : Fin 4096) (d : Fin 128) :
    result V0 (ix2 (pos b q) (colO h d))
      = normed (attended p (biasR tb) (lamR V0) b h q) ((V0 (Proc.devRef .tc Cert.Reference4Ideal.main_arg2) : FVec Ideal Cert.Reference4Ideal.S2x8x128 .f32) (ix3 1 h d)) d := by
  rw [result_apply]
  exact congrArg (fun f => normed f _ d) (funext fun x => attended_ref V0 p (biasR tb) hp hb hl b h q x)

/-- On finite inputs the kernel's result array is the reference's result. -/
theorem value_eq (m' : (ℓ : Loc Cert.Reference4Ideal.nD Cert.Reference4Ideal.τ Cert.Reference4Ideal.sig) → Buf (Elt Ideal) ℓ)
    (c : Dev Cert.Kernel4Ideal.nD) (hpre : Cert.Pre_Kernel4Ideal_inputs_finite m)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))
    (h6 : m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) :
    (Cert.Kernel4Ideal.Gen.dats m 0 c).arrAt 6 Cert.Kernel4Ideal.cfg0.N = result (launchContents m' c) := by
  obtain ⟨f0, f1, f3, f4, f5, f6⟩ := hpre c
  have r0 : ∀ i, IsReal (argP m c i) := real_bf16 (argP m c) _ f0
  have r1 : ∀ i, IsReal (argT m c i) := real_f32 (argT m c) _ f1
  choose p hp using fun (r : Fin 8192) (x : Fin 6144) => r0 (ix2 r x)
  choose tb ht using fun (i : Fin 32) (j : Fin 16) => r1 (ix2 i j)
  have hl : IsReal (lamK m c) := isReal_lam _ _ _ _ (real_f32 _ _ f3) (real_f32 _ _ f4) (real_f32 _ _ f5) (real_f32 _ _ f6)
  have el : lamR (launchContents m' c) = lamK m c := by
    unfold lamR lamK
    exact (congrArg₂ (fun a b => lamOf a b _ _) h3 h4).trans (congrArg₂ (fun a b => lamOf _ _ a b) h5 h6)
  have e0 : ∀ r x, proj (launchContents m' c) r x = (p r x : ℝ) := fun r x => (congrFun h0 (ix2 r x)).trans (hp r x)
  have e1 : ∀ h q k, biasOf (launchContents m' c (Proc.devRef .tc Cert.Reference4Ideal.main_arg1)) h q k = (biasR tb h q k : ℝ) :=
    fun h q k => (congrFun h1 _).trans (ht _ _)
  refine array_eq m p tb c hp ht _ fun b h q d => ?_
  rw [result_real (launchContents m' c) p tb e0 e1 (el ▸ hl), el]
  exact congrArg (fun g => normed _ g d) (congrFun h2 (ix3 1 h d))

/-- The value claim. -/
theorem algebraic : Cert.algebraic_Kernel4Ideal_Reference4Ideal_pre_inputs_finite := by
  intro m ρ m' ρ' hpre hag
  refine ⟨fun c => (Cert.Kernel4Ideal.Gen.dats m 0 c).arrAt 6 Cert.Kernel4Ideal.cfg0.N, Cert.Kernel4Ideal.Value.run_blocks m ρ, ?_⟩
  refine (θ_run Cert.Reference4Ideal.defs _ _).mono (fun _ h c => ⟨(h c).1.trans ?_, (h c).2⟩) (Cert.Reference4Ideal.Value.run (F := Ideal) m' ρ')
  obtain ⟨h0, h1, h2, h3, h4, h5, h6⟩ := hag c
  exact (value_eq m m' c hpre h0 h1 h2 h3 h4 h5 h6).symm

/-- The reference runs, keeps its arguments and declares no semaphore. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.DiffAttn.Second

end
-- ==== Proof.OutProj.lean ====
/- The first layer's out projection: the kernel's residual stream and its norm are the reference's. -/
module

public import proofs.«01_k».proof.Defs
public import proofs.«01_k».proof.Proof.Rms
public import proofs.«01_k».proof.Proof.Gen.Kernel5Ideal.Value
public import proofs.«01_k».proof.Proof.Gen.Reference5Ideal.Run
public import Idealize.ShloMosaic.Lib.Pipeline.ValueKit
public import Idealize.ShloMosaic.Lib.Claim
public import Idealize.ShloMosaic.Lib.Quiescent
public import Idealize.ShloMosaic.Lib.VecWindow

@[expose] public section

set_option maxRecDepth 16384

noncomputable section

namespace Cert.OutProj

open Cert.Kernel5Ideal Cert.Kernel5Ideal.Gen Idealize.ShloMosaic Idealize.ShloMosaic.TcCoe Idealize.ShloMosaic.StableHlo Idealize.SL.Sem
open Cert.Kernel5Ideal.Facts

section
variable {F : FTy → Type} [FloatOps F]

/-- The two halves of the rows of an output block. -/
abbrev topR : Rect S512x2048 := Rect.unit (s := S512x2048) ![0, 0] S256x2048.size inb_S512x2048_S256x2048_0_0
abbrev lowR : Rect S512x2048 := Rect.unit (s := S512x2048) ![256, 0] S256x2048.size inb_S512x2048_S256x2048_256_0

variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S1x2048x2048 .bf16) (harg4 : arg4.IsWhole) (arg5 : Memref sig .tc .vmem S1x2048 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x128 .f32) (harg10 : arg10.IsWhole) (arg11 : Memref sig .tc .vmem S1x128 .f32) (harg11 : arg11.IsWhole)
  (x0 : Vec F S512x1024 .bf16) (x1 : Vec F S512x1024 .bf16) (x2 : Vec F S512x2048 .f32) (x3 : Vec F S1x2048x2048 .bf16) (x4 : Vec F S1x2048 .f32) (x5 : Vec F S2048x128 .bf16) (x6 : Vec F S2048x128 .bf16) (xp10 : Vec F S1x128 .f32)

def ldA0 : FVec F S256x1024 .bf16 := View.readAt (Elt F) arg1.view (Rect.unit (s := S512x1024) ![0, 0] S256x1024.size inb_S512x1024_S256x1024_0_0).toLoadRect (harg1.unread x0)
def ldA1 : FVec F S256x1024 .bf16 := View.readAt (Elt F) arg1.view (Rect.unit (s := S512x1024) ![256, 0] S256x1024.size inb_S512x1024_S256x1024_256_0).toLoadRect (harg1.unread x0)
def ldX0 : FVec F S256x2048 .f32 := View.readAt (Elt F) arg3.view topR.toLoadRect (harg3.unread x2)
def ldX1 : FVec F S256x2048 .f32 := View.readAt (Elt F) arg3.view lowR.toLoadRect (harg3.unread x2)
def ldW0 : FVec F S1x1024x2048 .bf16 := View.readAt (Elt F) arg4.view (Rect.unit (s := S1x2048x2048) ![0, 0, 0] S1x1024x2048.size inb_S1x2048x2048_S1x1024x2048_0_0_0).toLoadRect (harg4.unread x3)
def ldW1 : FVec F S1x1024x2048 .bf16 := View.readAt (Elt F) arg4.view (Rect.unit (s := S1x2048x2048) ![0, 1024, 0] S1x1024x2048.size inb_S1x2048x2048_S1x1024x2048_0_1024_0).toLoadRect (harg4.unread x3)
def ldG : FVec F S1x2048 .f32 := View.readAt (Elt F) arg5.view (Rect.unit (s := S1x2048) ![0, 0] S1x2048.size inb_S1x2048_S1x2048_0_0).toLoadRect (harg5.unread x4)

/-- The loads, at an index. -/
theorem ldA0_apply (R : Fin 256) (e : Fin 1024) : ldA0 arg1 harg1 x0 (ix2 R e) = x0 (ix2 ⟨R.val, by omega⟩ e) := by
  unfold ldA0; rw [View.readAt_eq_ld, Memref.IsWhole.read_unread]; pointwise
theorem ldA1_apply (R : Fin 256) (e : Fin 1024) : ldA1 arg1 harg1 x0 (ix2 R e) = x0 (ix2 ⟨256 + R.val, by omega⟩ e) := by
  unfold ldA1; rw [View.readAt_eq_ld, Memref.IsWhole.read_unread]; pointwise
theorem ldX0_apply (R : Fin 256) (d : Fin 2048) : ldX0 arg3 harg3 x2 (ix2 R d) = x2 (ix2 ⟨R.val, by omega⟩ d) := by
  unfold ldX0; rw [View.readAt_eq_ld, Memref.IsWhole.read_unread]; pointwise
theorem ldX1_apply (R : Fin 256) (d : Fin 2048) : ldX1 arg3 harg3 x2 (ix2 R d) = x2 (ix2 ⟨256 + R.val, by omega⟩ d) := by
  unfold ldX1; rw [View.readAt_eq_ld, Memref.IsWhole.read_unread]; pointwise
theorem ldW0_apply (e : Fin 1024) (d : Fin 2048) : ldW0 arg4 harg4 x3 (ix3 0 e d) = x3 (ix3 0 ⟨e.val, by omega⟩ d) := by
  unfold ldW0; rw [View.readAt_eq_ld, Memref.IsWhole.read_unread]; pointwise
theorem ldW1_apply (e : Fin 1024) (d : Fin 2048) : ldW1 arg4 harg4 x3 (ix3 0 e d) = x3 (ix3 0 ⟨1024 + e.val, by omega⟩ d) := by
  unfold ldW1; rw [View.readAt_eq_ld, Memref.IsWhole.read_unread]; pointwise
theorem ldG_apply (d : Fin 2048) : ldG arg5 harg5 x4 (ix2 0 d) = x4 (ix2 0 d) := by
  unfold ldG; rw [View.readAt_eq_ld, Memref.IsWhole.read_unread]; pointwise

/-- The two pieces over a block, read at an index. -/
theorem canon_top (P Q : FVec F S256x2048 .f32) (R : Fin 256) (d : Fin 2048) :
    View.canon [(⟨lowR, Q⟩ : View.Piece (Elt F) S512x2048 .f32), ⟨topR, P⟩] (ix2 ⟨R.val, by omega⟩ d) = P (ix2 R d) := by
  rw [View.canon_cons_of_not_mem]
  · have e : (ix2 ⟨R.val, by omega⟩ d : S512x2048.Idx) = topR.emb (ix2 R d) := by
      funext a
      refine Fin.ext (Eq.trans ?_ (Rect.emb_apply _ _ a).symm)
      fin_cases a <;> simp [ix2, Rect.unit]
    rw [e]
    exact View.canon_cons_emb _ _ _ _
  · intro hm
    have hm' := (Rect.mem_set_unit (inb := inb_S512x2048_S256x2048_256_0)).1 hm 0
    simp [ix2] at hm'
    omega
theorem canon_low (P Q : FVec F S256x2048 .f32) (R : Fin 256) (d : Fin 2048) :
    View.canon [(⟨lowR, Q⟩ : View.Piece (Elt F) S512x2048 .f32), ⟨topR, P⟩] (ix2 ⟨256 + R.val, by omega⟩ d) = Q (ix2 R d) := by
  have e : (ix2 ⟨256 + R.val, by omega⟩ d : S512x2048.Idx) = lowR.emb (ix2 R d) := by
    funext a
    refine Fin.ext (Eq.trans ?_ (Rect.emb_apply _ _ a).symm)
    fin_cases a <;> simp [ix2, Rect.unit]
  rw [e]
  exact View.canon_cons_emb _ _ _ _

/-- What a step stores of the residual stream and of its norm. -/
def xPieces : List (View.Piece (Elt F) S512x2048 .f32) :=
  [⟨lowR, k0_pay6 (ldA1 arg1 harg1 x0) (ldW0 arg4 harg4 x3) (ldA1 arg2 harg2 x1) (ldW1 arg4 harg4 x3) (ldX1 arg3 harg3 x2)⟩,
    ⟨topR, k0_pay3 (ldA0 arg1 harg1 x0) (ldW0 arg4 harg4 x3) (ldA0 arg2 harg2 x1) (ldW1 arg4 harg4 x3) (ldX0 arg3 harg3 x2)⟩]
def nPieces : List (View.Piece (Elt F) S512x2048 .f32) :=
  [⟨lowR, k0_pay8 (k0_pay6 (ldA1 arg1 harg1 x0) (ldW0 arg4 harg4 x3) (ldA1 arg2 harg2 x1) (ldW1 arg4 harg4 x3) (ldX1 arg3 harg3 x2))
      (k0_pay7 (ldA1 arg1 harg1 x0) (ldW0 arg4 harg4 x3) (ldA1 arg2 harg2 x1) (ldW1 arg4 harg4 x3) (ldX1 arg3 harg3 x2)) (ldG arg5 harg5 x4)⟩,
    ⟨topR, k0_pay4 (ldA0 arg1 harg1 x0) (ldW0 arg4 harg4 x3) (ldA0 arg2 harg2 x1) (ldW1 arg4 harg4 x3) (ldX0 arg3 harg3 x2) (ldG arg5 harg5 x4)⟩]

theorem runX_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5 x6).1
      = xPieces arg1 harg1 arg2 harg2 arg3 harg3 arg4 harg4 x0 x1 x2 x3 := by
  sl_kernel_rfl

theorem runN_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.1
      = nPieces arg1 harg1 arg2 harg2 arg3 harg3 arg4 harg4 arg5 harg5 x0 x1 x2 x3 x4 := by
  sl_kernel_rfl

theorem runX_B (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xp10).1
      = xPieces arg1 harg1 arg2 harg2 arg3 harg3 arg4 harg4 x0 x1 x2 x3 := by
  sl_kernel_rfl

theorem runN_B (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xp10).2.1
      = nPieces arg1 harg1 arg2 harg2 arg3 harg3 arg4 harg4 arg5 harg5 x0 x1 x2 x3 x4 := by
  sl_kernel_rfl

end

/-- The stored rows, at an index. -/
theorem pay3_apply (a b : FVec Ideal S256x1024 .bf16) (w w' : FVec Ideal S1x1024x2048 .bf16) (x : FVec Ideal S256x2048 .f32) (R : Fin 256) (d : Fin 2048) :
    (k0_pay3 (F := Ideal) a w b w' x (ix2 R d) : EReal)
      = x (ix2 R d) + (∑ e, (a (ix2 R e) : EReal) * w (ix3 0 e d) + ∑ e, (b (ix2 R e) : EReal) * w' (ix3 0 e d)) := by
  unfold k0_pay3
  pointwise

theorem pay6_eq : @k0_pay6 Ideal _ = k0_pay3 (F := Ideal) := rfl

theorem pay4_apply (a b : FVec Ideal S256x1024 .bf16) (w w' : FVec Ideal S1x1024x2048 .bf16) (x : FVec Ideal S256x2048 .f32) (g : FVec Ideal S1x2048 .f32) (R : Fin 256) (d : Fin 2048) :
    (k0_pay4 (F := Ideal) a w b w' x g (ix2 R d) : EReal) = rms (fun e => k0_pay3 (F := Ideal) a w b w' x (ix2 R e)) (g (ix2 0 d)) d := by
  unfold k0_pay4 rms
  generalize k0_pay3 (F := Ideal) a w b w' x = z
  pointwise

theorem pay8_apply (a b : FVec Ideal S256x1024 .bf16) (w w' : FVec Ideal S1x1024x2048 .bf16) (x : FVec Ideal S256x2048 .f32) (g : FVec Ideal S1x2048 .f32) (R : Fin 256) (d : Fin 2048) :
    (k0_pay8 (F := Ideal) (k0_pay6 (F := Ideal) a w b w' x) (k0_pay7 (F := Ideal) a w b w' x) g (ix2 R d) : EReal) = rms (fun e => k0_pay3 (F := Ideal) a w b w' x (ix2 R e)) (g (ix2 0 d)) d := by
  unfold k0_pay8 k0_pay7 rms
  rw [pay6_eq]
  generalize k0_pay3 (F := Ideal) a w b w' x = z
  pointwise

/-- The residual stream's new rows. -/
def summed (a b : FVec Ideal S8192x1024 .bf16) (x : FVec Ideal S8192x2048 .f32) (w : FVec Ideal S2x2048x2048 .f32) : FVec Ideal S8192x2048 .f32 :=
  fun y => (x y : EReal) + (∑ e : Fin 1024, (a (ix2 (y 0) e) : EReal) * w (ix3 0 (⟨e.val, by omega⟩ : Fin 2048) (y 1))
    + ∑ e : Fin 1024, (b (ix2 (y 0) e) : EReal) * w (ix3 0 (⟨1024 + e.val, by omega⟩ : Fin 2048) (y 1)))

/-- A sum of 2048 terms as two sums of 1024. -/
theorem sum_split (f : Fin 2048 → EReal) :
    ∑ e, f e = ∑ e : Fin 1024, f ⟨e.val, by omega⟩ + ∑ e : Fin 1024, f ⟨1024 + e.val, by omega⟩ :=
  Fin.sum_univ_add (a := 1024) (b := 1024) f

/-- The reference's residual stream. -/
theorem ref_sum (a b : FVec Ideal S8192x1024 .bf16) (x : FVec Ideal S8192x2048 .f32) (w : FVec Ideal S2x2048x2048 .f32) :
    addf x (Host.dotGeneral Cert.Reference5Ideal.dot_S8192x2048_S2048x2048_S8192x2048_1_0_0_1_n_n none (concatenate Cert.Reference5Ideal.S8192x2048 1 [⟨Cert.Reference5Ideal.S8192x1024, (extf .f32 a Cert.Reference5Ideal.Facts₀.bitsLt_bf16_f32)⟩, ⟨Cert.Reference5Ideal.S8192x1024, (extf .f32 b Cert.Reference5Ideal.Facts₀.bitsLt_bf16_f32)⟩] Cert.Reference5Ideal.Facts₀.concatenates_S8192x1024_S8192x1024_S8192x2048_d1) (shapeCast _ (extractStridedSlice Cert.Reference5Ideal.S1x2048x2048 ![0, 0, 0] w Cert.Reference5Ideal.Facts₀.slices_S2x2048x2048_S1x2048x2048_0_0_0) Cert.Reference5Ideal.Facts₀.shapeCasts_S1x2048x2048_S2048x2048))
      = summed a b x w := by
  funext y
  idx_vars y
  show (x (ix2 _ _) : EReal) + _ = _
  unfold summed
  refine congrArg₂ (fun a b : EReal => a + b) rfl ?_
  refine Eq.trans ?_ (sum_split (fun e => (if h : e.val < 1024 then a (ix2 y0 ⟨e.val, h⟩) else b (ix2 y0 ⟨e.val - 1024, by omega⟩)) * w (ix3 0 e y1))) |>.trans ?_
  · pointwise
  · refine congrArg₂ (fun a b : EReal => a + b) (Finset.sum_congr rfl fun e _ => ?_) (Finset.sum_congr rfl fun e _ => ?_)
    · simp
    · simp

/-- The residual stream's new rows, at an index. -/
theorem summed_apply (a b : FVec Ideal S8192x1024 .bf16) (x : FVec Ideal S8192x2048 .f32) (w : FVec Ideal S2x2048x2048 .f32) (r : Fin 8192) (d : Fin 2048) :
    (summed a b x w (ix2 r d) : EReal) = (x (ix2 r d) : EReal) + (∑ e : Fin 1024, (a (ix2 r e) : EReal) * w (ix3 0 (⟨e.val, by omega⟩ : Fin 2048) d)
      + ∑ e : Fin 1024, (b (ix2 r e) : EReal) * w (ix3 0 (⟨1024 + e.val, by omega⟩ : Fin 2048) d)) := rfl

/-- The norm of the new rows. -/
def normedArr (a b : FVec Ideal S8192x1024 .bf16) (x : FVec Ideal S8192x2048 .f32) (w : FVec Ideal S2x2048x2048 .f32) (g : FVec Ideal S2x2048 .f32) : FVec Ideal S8192x2048 .f32 :=
  fun y => rms (fun e => summed a b x w (ix2 (y 0) e)) (g (ix2 0 (y 1))) (y 1)

variable (m : (ℓ : Loc nD τ sig) → Buf (Elt Ideal) ℓ)

theorem lt16 (t : Fin cfg0.N) : t.val < 16 := t.isLt.trans_eq N_0

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, 0, 0] := by decide +kernel
theorem index4 : ∀ t : Fin grid0.N, win0_4.index t = ![0, 0] := by decide +kernel
theorem index7 : ∀ t : Fin grid0.N, win0_7.index t = ![t.val, 0] := by decide +kernel
theorem index8 : ∀ t : Fin grid0.N, win0_8.index t = ![t.val, 0] := by decide +kernel

theorem entry0 (c : Dev nD) : V m c main_arg0 = m ((c : Thread nD τ).loc main_arg0) := by
  unfold V
  simp only [hostOps0, hostOps0_1, hostOps0_2, List.flatten_cons, List.flatten_nil, List.append_nil, List.cons_append, List.nil_append]
  after_results <;> rfl
theorem entry1 (c : Dev nD) : V m c main_arg1 = m ((c : Thread nD τ).loc main_arg1) := by
  unfold V
  simp only [hostOps0, hostOps0_1, hostOps0_2, List.flatten_cons, List.flatten_nil, List.append_nil, List.cons_append, List.nil_append]
  after_results <;> rfl
theorem entry2 (c : Dev nD) : V m c main_arg2 = m ((c : Thread nD τ).loc main_arg2) := by
  unfold V
  simp only [hostOps0, hostOps0_1, hostOps0_2, List.flatten_cons, List.flatten_nil, List.append_nil, List.cons_append, List.nil_append]
  after_results <;> rfl
theorem entry3 (c : Dev nD) (e d : Fin 2048) :
    V m c main_v0 (ix3 0 e d) = m ((c : Thread nD τ).loc main_arg3) (ix3 0 e d) := by
  unfold V
  simp only [hostOps0, hostOps0_1, hostOps0_2, List.flatten_cons, List.flatten_nil, List.append_nil, List.cons_append, List.nil_append]
  after_results
  pointwise
theorem entry4 (c : Dev nD) (d : Fin 2048) :
    V m c main_v15 (ix2 0 d) = m ((c : Thread nD τ).loc main_arg4) (ix2 0 d) := by
  unfold V
  simp only [hostOps0, hostOps0_1, hostOps0_2, List.flatten_cons, List.flatten_nil, List.append_nil, List.cons_append, List.nil_append]
  after_results
  pointwise

theorem iblk0 (c : Dev nD) (t : Fin cfg0.N) (R : Fin 512) (e : Fin 1024) :
    iblk m c 0 t (ix2 R e) = V m c main_arg0 (ix2 ⟨512 * t.val + R.val, by have := lt16 t; omega⟩ e) := by
  blk_point [iblk, index0 t]
theorem iblk1 (c : Dev nD) (t : Fin cfg0.N) (R : Fin 512) (e : Fin 1024) :
    iblk m c 1 t (ix2 R e) = V m c main_arg1 (ix2 ⟨512 * t.val + R.val, by have := lt16 t; omega⟩ e) := by
  blk_point [iblk, index1 t]
theorem iblk2 (c : Dev nD) (t : Fin cfg0.N) (R : Fin 512) (d : Fin 2048) :
    iblk m c 2 t (ix2 R d) = V m c main_arg2 (ix2 ⟨512 * t.val + R.val, by have := lt16 t; omega⟩ d) := by
  blk_point [iblk, index2 t]
theorem iblk3 (c : Dev nD) (t : Fin cfg0.N) (e d : Fin 2048) :
    iblk m c 3 t (ix3 0 e d) = V m c main_v0 (ix3 0 e d) := by
  blk_point [iblk, index3 t]
theorem iblk4 (c : Dev nD) (t : Fin cfg0.N) (d : Fin 2048) :
    iblk m c 4 t (ix2 0 d) = V m c main_v15 (ix2 0 d) := by
  blk_point [iblk, index4 t]

def argA (c : Dev nD) : FVec Ideal S8192x1024 .bf16 := m ((c : Thread nD τ).loc main_arg0)
def argB (c : Dev nD) : FVec Ideal S8192x1024 .bf16 := m ((c : Thread nD τ).loc main_arg1)
def argX (c : Dev nD) : FVec Ideal S8192x2048 .f32 := m ((c : Thread nD τ).loc main_arg2)
def argW (c : Dev nD) : FVec Ideal S2x2048x2048 .f32 := m ((c : Thread nD τ).loc main_arg3)
def argG (c : Dev nD) : FVec Ideal S2x2048 .f32 := m ((c : Thread nD τ).loc main_arg4)

/-- What a step leaves in its two output blocks. -/
def blockX (c : Dev nD) (t : Fin cfg0.N) : FVec Ideal S512x2048 .f32 :=
  View.canon (xPieces (ms0_0 t) (hs0_0 t) (ms0_1 t) (hs0_1 t) (ms0_2 t) (hs0_2 t) (ms0_3 t) (hs0_3 t) (iblk m c 0 t) (iblk m c 1 t) (iblk m c 2 t) (iblk m c 3 t))
def blockN (c : Dev nD) (t : Fin cfg0.N) : FVec Ideal S512x2048 .f32 :=
  View.canon (nPieces (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t))

theorem flushedX (c : Dev nD) (t : Fin cfg0.N) :
    (dats m 0 c).flushed 7 t = (cfg0.win 7).cut (grid0.coords t) (blockX m c t) := by
  by_cases h0 : t.val % 16 = 0
  · rw [Value.flushed7_A m c t h0]
    refine congrArg _ ?_
    unfold out0_A_7
    rw [runX_A]
    exact View.read_writes_junk_eq_canon _ _
  · rw [Value.flushed7_B m c t h0]
    refine congrArg _ ?_
    unfold out0_B_7
    rw [runX_B]
    exact View.read_writes_junk_eq_canon _ _

theorem flushedN (c : Dev nD) (t : Fin cfg0.N) :
    (dats m 0 c).flushed 8 t = (cfg0.win 8).cut (grid0.coords t) (blockN m c t) := by
  by_cases h0 : t.val % 16 = 0
  · rw [Value.flushed8_A m c t h0]
    refine congrArg _ ?_
    unfold out0_A_8
    rw [runN_A]
    exact View.read_writes_junk_eq_canon _ _
  · rw [Value.flushed8_B m c t h0]
    refine congrArg _ ?_
    unfold out0_B_8
    rw [runN_B]
    exact View.read_writes_junk_eq_canon _ _

theorem blkA (c : Dev nD) (t : Fin cfg0.N) (R : Fin 512) (e : Fin 1024) :
    iblk m c 0 t (ix2 R e) = argA m c (ix2 ⟨512 * t.val + R.val, by have := lt16 t; omega⟩ e) :=
  (iblk0 m c t R e).trans (congrFun (entry0 m c) _)
theorem blkB (c : Dev nD) (t : Fin cfg0.N) (R : Fin 512) (e : Fin 1024) :
    iblk m c 1 t (ix2 R e) = argB m c (ix2 ⟨512 * t.val + R.val, by have := lt16 t; omega⟩ e) :=
  (iblk1 m c t R e).trans (congrFun (entry1 m c) _)
theorem blkX (c : Dev nD) (t : Fin cfg0.N) (R : Fin 512) (d : Fin 2048) :
    iblk m c 2 t (ix2 R d) = argX m c (ix2 ⟨512 * t.val + R.val, by have := lt16 t; omega⟩ d) :=
  (iblk2 m c t R d).trans (congrFun (entry2 m c) _)
theorem blkW (c : Dev nD) (t : Fin cfg0.N) (e d : Fin 2048) :
    iblk m c 3 t (ix3 0 e d) = argW m c (ix3 0 e d) :=
  (iblk3 m c t e d).trans (entry3 m c e d)
theorem blkG (c : Dev nD) (t : Fin cfg0.N) (d : Fin 2048) :
    iblk m c 4 t (ix2 0 d) = argG m c (ix2 0 d) :=
  (iblk4 m c t d).trans (entry4 m c d)

/-- The upper and the lower half of a step's rows. -/
theorem rows_top (c : Dev nD) (t : Fin cfg0.N) (R : Fin 256) (d : Fin 2048) :
    (k0_pay3 (F := Ideal) (ldA0 (ms0_0 t) (hs0_0 t) (iblk m c 0 t)) (ldW0 (ms0_3 t) (hs0_3 t) (iblk m c 3 t)) (ldA0 (ms0_1 t) (hs0_1 t) (iblk m c 1 t)) (ldW1 (ms0_3 t) (hs0_3 t) (iblk m c 3 t)) (ldX0 (ms0_2 t) (hs0_2 t) (iblk m c 2 t)) (ix2 R d) : EReal)
      = summed (argA m c) (argB m c) (argX m c) (argW m c) (ix2 ⟨512 * t.val + R.val, by have := lt16 t; omega⟩ d) := by
  refine (pay3_apply _ _ _ _ _ R d).trans (Eq.trans ?_ (summed_apply _ _ _ _ _ _).symm)
  refine congrArg₂ (fun a b : EReal => a + b) ((ldX0_apply _ _ _ R d).trans (blkX m c t _ d)) (congrArg₂ (fun a b : EReal => a + b) (Finset.sum_congr rfl fun e _ => ?_) (Finset.sum_congr rfl fun e _ => ?_))
  · exact congrArg₂ (fun a b : EReal => a * b) ((ldA0_apply _ _ _ R e).trans (blkA m c t _ e)) ((ldW0_apply _ _ _ e d).trans (blkW m c t _ d))
  · exact congrArg₂ (fun a b : EReal => a * b) ((ldA0_apply _ _ _ R e).trans (blkB m c t _ e)) ((ldW1_apply _ _ _ e d).trans (blkW m c t _ d))

theorem rows_low (c : Dev nD) (t : Fin cfg0.N) (R : Fin 256) (d : Fin 2048) :
    (k0_pay3 (F := Ideal) (ldA1 (ms0_0 t) (hs0_0 t) (iblk m c 0 t)) (ldW0 (ms0_3 t) (hs0_3 t) (iblk m c 3 t)) (ldA1 (ms0_1 t) (hs0_1 t) (iblk m c 1 t)) (ldW1 (ms0_3 t) (hs0_3 t) (iblk m c 3 t)) (ldX1 (ms0_2 t) (hs0_2 t) (iblk m c 2 t)) (ix2 R d) : EReal)
      = summed (argA m c) (argB m c) (argX m c) (argW m c) (ix2 ⟨512 * t.val + (256 + R.val), by have := lt16 t; omega⟩ d) := by
  refine (pay3_apply _ _ _ _ _ R d).trans (Eq.trans ?_ (summed_apply _ _ _ _ _ _).symm)
  refine congrArg₂ (fun a b : EReal => a + b) ((ldX1_apply _ _ _ R d).trans (blkX m c t _ d)) (congrArg₂ (fun a b : EReal => a + b) (Finset.sum_congr rfl fun e _ => ?_) (Finset.sum_congr rfl fun e _ => ?_))
  · exact congrArg₂ (fun a b : EReal => a * b) ((ldA1_apply _ _ _ R e).trans (blkA m c t _ e)) ((ldW0_apply _ _ _ e d).trans (blkW m c t _ d))
  · exact congrArg₂ (fun a b : EReal => a * b) ((ldA1_apply _ _ _ R e).trans (blkB m c t _ e)) ((ldW1_apply _ _ _ e d).trans (blkW m c t _ d))

/-- A step's block of the residual stream. -/
theorem blockX_apply (c : Dev nD) (t : Fin cfg0.N) (R : Fin 512) (d : Fin 2048) :
    blockX m c t (ix2 R d) = summed (argA m c) (argB m c) (argX m c) (argW m c) (ix2 ⟨512 * t.val + R.val, by have := lt16 t; omega⟩ d) := by
  unfold blockX xPieces
  by_cases h : R.val < 256
  · exact (canon_top _ _ ⟨R.val, h⟩ d).trans (rows_top m c t ⟨R.val, h⟩ d)
  · have e : R = ⟨256 + (⟨R.val - 256, by omega⟩ : Fin 256).val, by simp only; omega⟩ := Fin.ext (by simp only; omega)
    rw [e]
    refine (canon_low _ _ _ d).trans ?_
    rw [pay6_eq]
    exact rows_low m c t _ d

/-- A step's block of the norm. -/
theorem blockN_apply (c : Dev nD) (t : Fin cfg0.N) (R : Fin 512) (d : Fin 2048) :
    blockN m c t (ix2 R d) = normedArr (argA m c) (argB m c) (argX m c) (argW m c) (argG m c) (ix2 ⟨512 * t.val + R.val, by have := lt16 t; omega⟩ d) := by
  unfold blockN nPieces normedArr
  by_cases h : R.val < 256
  · refine (canon_top _ _ ⟨R.val, h⟩ d).trans ((pay4_apply _ _ _ _ _ _ _ d).trans ?_)
    exact congrArg₂ (fun f g => rms f g d) (funext fun e => rows_top m c t ⟨R.val, h⟩ e) ((ldG_apply _ _ _ d).trans (blkG m c t d))
  · have e : R = ⟨256 + (⟨R.val - 256, by omega⟩ : Fin 256).val, by simp only; omega⟩ := Fin.ext (by simp only; omega)
    rw [e]
    refine (canon_low _ _ _ d).trans ((pay8_apply _ _ _ _ _ _ _ d).trans ?_)
    exact congrArg₂ (fun f g => rms f g d) (funext fun e => rows_low m c t _ e) ((ldG_apply _ _ _ d).trans (blkG m c t d))

/-- The kernel's two result arrays, everywhere. -/
theorem arrayX_eq (c : Dev nD) :
    (dats m 0 c).arrAt 7 cfg0.N = summed (argA m c) (argB m c) (argX m c) (argW m c) := by
  refine (dats m 0 c).arrAt_eq_of_covers 7 _ (by decide +kernel) fun t hf y => ?_
  have hN := lt16 t
  refine (congrFun (flushedX m c t) y).trans ?_
  show blockX m c t y = _
  rw [show y = ix2 (y 0) (y 1) from eq_ix2 y]
  refine (blockX_apply m c t (y 0) (y 1)).trans (congrArg (summed _ _ _ _) ?_)
  refine Eq.symm ?_
  blk_simp
  simp only [index7 t]
  funext a
  refine Fin.ext ?_
  fin_cases a
  · have e : win0_7.index t 0 = t.val := congrFun (index7 t) 0
    show win0_7.index t 0 * 512 + 1 * (y 0).val = 512 * t.val + (y 0).val
    generalize (y 0).val = z
    omega
  · have e : win0_7.index t 1 = 0 := congrFun (index7 t) 1
    show win0_7.index t 1 * 2048 + 1 * (y 1).val = (y 1).val
    generalize (y 1).val = z
    omega

theorem arrayN_eq (c : Dev nD) :
    (dats m 0 c).arrAt 8 cfg0.N = normedArr (argA m c) (argB m c) (argX m c) (argW m c) (argG m c) := by
  refine (dats m 0 c).arrAt_eq_of_covers 8 _ (by decide +kernel) fun t hf y => ?_
  have hN := lt16 t
  refine (congrFun (flushedN m c t) y).trans ?_
  show blockN m c t y = _
  rw [show y = ix2 (y 0) (y 1) from eq_ix2 y]
  refine (blockN_apply m c t (y 0) (y 1)).trans (congrArg (normedArr _ _ _ _ _) ?_)
  refine Eq.symm ?_
  blk_simp
  simp only [index8 t]
  funext a
  refine Fin.ext ?_
  fin_cases a
  · have e : win0_8.index t 0 = t.val := congrFun (index8 t) 0
    show win0_8.index t 0 * 512 + 1 * (y 0).val = 512 * t.val + (y 0).val
    generalize (y 0).val = z
    omega
  · have e : win0_8.index t 1 = 0 := congrFun (index8 t) 1
    show win0_8.index t 1 * 2048 + 1 * (y 1).val = (y 1).val
    generalize (y 1).val = z
    omega

/-- The value claim. -/
theorem algebraic : Cert.algebraic_Kernel5Ideal_Reference5Ideal := by
  intro m ρ m' ρ' _ hag
  refine ⟨fun c => (Cert.Kernel5Ideal.Gen.dats m 0 c).arrAt 7 Cert.Kernel5Ideal.cfg0.N, fun c => (Cert.Kernel5Ideal.Gen.dats m 0 c).arrAt 8 Cert.Kernel5Ideal.cfg0.N,
    (θ_run Cert.Kernel5Ideal.defs _ _).mono (fun _ h c => ⟨(h c).1, (h c).2.1, (h c).2.2.2.2⟩) (Cert.Kernel5Ideal.Value.run_blocks m ρ), ?_⟩
  refine (θ_run Cert.Reference5Ideal.defs _ _).mono (fun _ h c => ⟨(h c).1.trans ?_, (h c).2.1.trans ?_, (h c).2.2⟩) (Cert.Reference5Ideal.Value.run (F := Ideal) m' ρ')
  · obtain ⟨h0, h1, h2, h3, h4, h5, h6⟩ := hag c
    exact (ref_sum _ _ _ _).trans ((congr (congr (congr (congrArg summed h0) h1) h2) h3).trans (arrayX_eq m c).symm)
  · obtain ⟨h0, h1, h2, h3, h4, h5, h6⟩ := hag c
    refine Eq.trans ?_ ((congr (congr (congr (congr (congrArg normedArr h0) h1) h2) h3) h4).trans (arrayN_eq m c).symm)
    rw [ref_sum]
    funext y
    unfold normedArr
    generalize summed _ _ _ _ = z
    idx_vars y
    unfold rms
    pointwise

/-- The reference runs, keeps its arguments and declares no semaphore. -/
theorem frame_ref : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

end Cert.OutProj

end
-- ==== Proof.SecondOutProj.lean ====
/- The second layer's out projection: the kernel's residual stream and its norm are the reference's. -/
module

public import proofs.«01_k».proof.Defs
public import proofs.«01_k».proof.Proof.Rms
public import proofs.«01_k».proof.Proof.Gen.Kernel6Ideal.Value
public import proofs.«01_k».proof.Proof.Gen.Reference6Ideal.Run
public import Idealize.ShloMosaic.Lib.Pipeline.ValueKit
public import Idealize.ShloMosaic.Lib.Claim
public import Idealize.ShloMosaic.Lib.Quiescent
public import Idealize.ShloMosaic.Lib.VecWindow

@[expose] public section

set_option maxRecDepth 16384

noncomputable section

namespace Cert.SecondOutProj

open Cert.Kernel6Ideal Cert.Kernel6Ideal.Gen Idealize.ShloMosaic Idealize.ShloMosaic.TcCoe Idealize.ShloMosaic.StableHlo Idealize.SL.Sem
open Cert.Kernel6Ideal.Facts

section
variable {F : FTy → Type} [FloatOps F]

/-- The two halves of the rows of an output block. -/
abbrev topR : Rect S512x2048 := Rect.unit (s := S512x2048) ![0, 0] S256x2048.size inb_S512x2048_S256x2048_0_0
abbrev lowR : Rect S512x2048 := Rect.unit (s := S512x2048) ![256, 0] S256x2048.size inb_S512x2048_S256x2048_256_0

variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .f32) (harg3 : arg3.IsWhole) (arg4 : Memref sig .tc .vmem S1x2048x2048 .bf16) (harg4 : arg4.IsWhole) (arg5 : Memref sig .tc .vmem S1x2048 .f32) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x128 .f32) (harg10 : arg10.IsWhole) (arg11 : Memref sig .tc .vmem S1x128 .f32) (harg11 : arg11.IsWhole)
  (x0 : Vec F S512x1024 .bf16) (x1 : Vec F S512x1024 .bf16) (x2 : Vec F S512x2048 .f32) (x3 : Vec F S1x2048x2048 .bf16) (x4 : Vec F S1x2048 .f32) (x5 : Vec F S2048x128 .bf16) (x6 : Vec F S2048x128 .bf16) (xp10 : Vec F S1x128 .f32)

def ldA0 : FVec F S256x1024 .bf16 := View.readAt (Elt F) arg1.view (Rect.unit (s := S512x1024) ![0, 0] S256x1024.size inb_S512x1024_S256x1024_0_0).toLoadRect (harg1.unread x0)
def ldA1 : FVec F S256x1024 .bf16 := View.readAt (Elt F) arg1.view (Rect.unit (s := S512x1024) ![256, 0] S256x1024.size inb_S512x1024_S256x1024_256_0).toLoadRect (harg1.unread x0)
def ldX0 : FVec F S256x2048 .f32 := View.readAt (Elt F) arg3.view topR.toLoadRect (harg3.unread x2)
def ldX1 : FVec F S256x2048 .f32 := View.readAt (Elt F) arg3.view lowR.toLoadRect (harg3.unread x2)
def ldW0 : FVec F S1x1024x2048 .bf16 := View.readAt (Elt F) arg4.view (Rect.unit (s := S1x2048x2048) ![0, 0, 0] S1x1024x2048.size inb_S1x2048x2048_S1x1024x2048_0_0_0).toLoadRect (harg4.unread x3)
def ldW1 : FVec F S1x1024x2048 .bf16 := View.readAt (Elt F) arg4.view (Rect.unit (s := S1x2048x2048) ![0, 1024, 0] S1x1024x2048.size inb_S1x2048x2048_S1x1024x2048_0_1024_0).toLoadRect (harg4.unread x3)
def ldG : FVec F S1x2048 .f32 := View.readAt (Elt F) arg5.view (Rect.unit (s := S1x2048) ![0, 0] S1x2048.size inb_S1x2048_S1x2048_0_0).toLoadRect (harg5.unread x4)

/-- The loads, at an index. -/
theorem ldA0_apply (R : Fin 256) (e : Fin 1024) : ldA0 arg1 harg1 x0 (ix2 R e) = x0 (ix2 ⟨R.val, by omega⟩ e) := by
  unfold ldA0; rw [View.readAt_eq_ld, Memref.IsWhole.read_unread]; pointwise
theorem ldA1_apply (R : Fin 256) (e : Fin 1024) : ldA1 arg1 harg1 x0 (ix2 R e) = x0 (ix2 ⟨256 + R.val, by omega⟩ e) := by
  unfold ldA1; rw [View.readAt_eq_ld, Memref.IsWhole.read_unread]; pointwise
theorem ldX0_apply (R : Fin 256) (d : Fin 2048) : ldX0 arg3 harg3 x2 (ix2 R d) = x2 (ix2 ⟨R.val, by omega⟩ d) := by
  unfold ldX0; rw [View.readAt_eq_ld, Memref.IsWhole.read_unread]; pointwise
theorem ldX1_apply (R : Fin 256) (d : Fin 2048) : ldX1 arg3 harg3 x2 (ix2 R d) = x2 (ix2 ⟨256 + R.val, by omega⟩ d) := by
  unfold ldX1; rw [View.readAt_eq_ld, Memref.IsWhole.read_unread]; pointwise
theorem ldW0_apply (e : Fin 1024) (d : Fin 2048) : ldW0 arg4 harg4 x3 (ix3 0 e d) = x3 (ix3 0 ⟨e.val, by omega⟩ d) := by
  unfold ldW0; rw [View.readAt_eq_ld, Memref.IsWhole.read_unread]; pointwise
theorem ldW1_apply (e : Fin 1024) (d : Fin 2048) : ldW1 arg4 harg4 x3 (ix3 0 e d) = x3 (ix3 0 ⟨1024 + e.val, by omega⟩ d) := by
  unfold ldW1; rw [View.readAt_eq_ld, Memref.IsWhole.read_unread]; pointwise
theorem ldG_apply (d : Fin 2048) : ldG arg5 harg5 x4 (ix2 0 d) = x4 (ix2 0 d) := by
  unfold ldG; rw [View.readAt_eq_ld, Memref.IsWhole.read_unread]; pointwise

/-- The two pieces over a block, read at an index. -/
theorem canon_top (P Q : FVec F S256x2048 .f32) (R : Fin 256) (d : Fin 2048) :
    View.canon [(⟨lowR, Q⟩ : View.Piece (Elt F) S512x2048 .f32), ⟨topR, P⟩] (ix2 ⟨R.val, by omega⟩ d) = P (ix2 R d) := by
  rw [View.canon_cons_of_not_mem]
  · have e : (ix2 ⟨R.val, by omega⟩ d : S512x2048.Idx) = topR.emb (ix2 R d) := by
      funext a
      refine Fin.ext (Eq.trans ?_ (Rect.emb_apply _ _ a).symm)
      fin_cases a <;> simp [ix2, Rect.unit]
    rw [e]
    exact View.canon_cons_emb _ _ _ _
  · intro hm
    have hm' := (Rect.mem_set_unit (inb := inb_S512x2048_S256x2048_256_0)).1 hm 0
    simp [ix2] at hm'
    omega
theorem canon_low (P Q : FVec F S256x2048 .f32) (R : Fin 256) (d : Fin 2048) :
    View.canon [(⟨lowR, Q⟩ : View.Piece (Elt F) S512x2048 .f32), ⟨topR, P⟩] (ix2 ⟨256 + R.val, by omega⟩ d) = Q (ix2 R d) := by
  have e : (ix2 ⟨256 + R.val, by omega⟩ d : S512x2048.Idx) = lowR.emb (ix2 R d) := by
    funext a
    refine Fin.ext (Eq.trans ?_ (Rect.emb_apply _ _ a).symm)
    fin_cases a <;> simp [ix2, Rect.unit]
  rw [e]
  exact View.canon_cons_emb _ _ _ _

/-- What a step stores of the residual stream and of its norm. -/
def xPieces : List (View.Piece (Elt F) S512x2048 .f32) :=
  [⟨lowR, k0_pay6 (ldA1 arg1 harg1 x0) (ldW0 arg4 harg4 x3) (ldA1 arg2 harg2 x1) (ldW1 arg4 harg4 x3) (ldX1 arg3 harg3 x2)⟩,
    ⟨topR, k0_pay3 (ldA0 arg1 harg1 x0) (ldW0 arg4 harg4 x3) (ldA0 arg2 harg2 x1) (ldW1 arg4 harg4 x3) (ldX0 arg3 harg3 x2)⟩]
def nPieces : List (View.Piece (Elt F) S512x2048 .f32) :=
  [⟨lowR, k0_pay8 (k0_pay6 (ldA1 arg1 harg1 x0) (ldW0 arg4 harg4 x3) (ldA1 arg2 harg2 x1) (ldW1 arg4 harg4 x3) (ldX1 arg3 harg3 x2))
      (k0_pay7 (ldA1 arg1 harg1 x0) (ldW0 arg4 harg4 x3) (ldA1 arg2 harg2 x1) (ldW1 arg4 harg4 x3) (ldX1 arg3 harg3 x2)) (ldG arg5 harg5 x4)⟩,
    ⟨topR, k0_pay4 (ldA0 arg1 harg1 x0) (ldW0 arg4 harg4 x3) (ldA0 arg2 harg2 x1) (ldW1 arg4 harg4 x3) (ldX0 arg3 harg3 x2) (ldG arg5 harg5 x4)⟩]

theorem runX_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5 x6).1
      = xPieces arg1 harg1 arg2 harg2 arg3 harg3 arg4 harg4 x0 x1 x2 x3 := by
  sl_kernel_rfl

theorem runN_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5 x6).2.1
      = nPieces arg1 harg1 arg2 harg2 arg3 harg3 arg4 harg4 arg5 harg5 x0 x1 x2 x3 x4 := by
  sl_kernel_rfl

theorem runX_B (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xp10).1
      = xPieces arg1 harg1 arg2 harg2 arg3 harg3 arg4 harg4 x0 x1 x2 x3 := by
  sl_kernel_rfl

theorem runN_B (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 x6 xp10).2.1
      = nPieces arg1 harg1 arg2 harg2 arg3 harg3 arg4 harg4 arg5 harg5 x0 x1 x2 x3 x4 := by
  sl_kernel_rfl

end

/-- The stored rows, at an index. -/
theorem pay3_apply (a b : FVec Ideal S256x1024 .bf16) (w w' : FVec Ideal S1x1024x2048 .bf16) (x : FVec Ideal S256x2048 .f32) (R : Fin 256) (d : Fin 2048) :
    (k0_pay3 (F := Ideal) a w b w' x (ix2 R d) : EReal)
      = x (ix2 R d) + (∑ e, (a (ix2 R e) : EReal) * w (ix3 0 e d) + ∑ e, (b (ix2 R e) : EReal) * w' (ix3 0 e d)) := by
  unfold k0_pay3
  pointwise

theorem pay6_eq : @k0_pay6 Ideal _ = k0_pay3 (F := Ideal) := rfl

theorem pay4_apply (a b : FVec Ideal S256x1024 .bf16) (w w' : FVec Ideal S1x1024x2048 .bf16) (x : FVec Ideal S256x2048 .f32) (g : FVec Ideal S1x2048 .f32) (R : Fin 256) (d : Fin 2048) :
    (k0_pay4 (F := Ideal) a w b w' x g (ix2 R d) : EReal) = rms (fun e => k0_pay3 (F := Ideal) a w b w' x (ix2 R e)) (g (ix2 0 d)) d := by
  unfold k0_pay4 rms
  generalize k0_pay3 (F := Ideal) a w b w' x = z
  pointwise

theorem pay8_apply (a b : FVec Ideal S256x1024 .bf16) (w w' : FVec Ideal S1x1024x2048 .bf16) (x : FVec Ideal S256x2048 .f32) (g : FVec Ideal S1x2048 .f32) (R : Fin 256) (d : Fin 2048) :
    (k0_pay8 (F := Ideal) (k0_pay6 (F := Ideal) a w b w' x) (k0_pay7 (F := Ideal) a w b w' x) g (ix2 R d) : EReal) = rms (fun e => k0_pay3 (F := Ideal) a w b w' x (ix2 R e)) (g (ix2 0 d)) d := by
  unfold k0_pay8 k0_pay7 rms
  rw [pay6_eq]
  generalize k0_pay3 (F := Ideal) a w b w' x = z
  pointwise

/-- The residual stream's new rows. -/
def summed (a b : FVec Ideal S8192x1024 .bf16) (x : FVec Ideal S8192x2048 .f32) (w : FVec Ideal S2x2048x2048 .f32) : FVec Ideal S8192x2048 .f32 :=
  fun y => (x y : EReal) + (∑ e : Fin 1024, (a (ix2 (y 0) e) : EReal) * w (ix3 1 (⟨e.val, by omega⟩ : Fin 2048) (y 1))
    + ∑ e : Fin 1024, (b (ix2 (y 0) e) : EReal) * w (ix3 1 (⟨1024 + e.val, by omega⟩ : Fin 2048) (y 1)))

/-- A sum of 2048 terms as two sums of 1024. -/
theorem sum_split (f : Fin 2048 → EReal) :
    ∑ e, f e = ∑ e : Fin 1024, f ⟨e.val, by omega⟩ + ∑ e : Fin 1024, f ⟨1024 + e.val, by omega⟩ :=
  Fin.sum_univ_add (a := 1024) (b := 1024) f

/-- The reference's residual stream. -/
theorem ref_sum (a b : FVec Ideal S8192x1024 .bf16) (x : FVec Ideal S8192x2048 .f32) (w : FVec Ideal S2x2048x2048 .f32) :
    addf x (Host.dotGeneral Cert.Reference6Ideal.dot_S8192x2048_S2048x2048_S8192x2048_1_0_0_1_n_n none (concatenate Cert.Reference6Ideal.S8192x2048 1 [⟨Cert.Reference6Ideal.S8192x1024, (extf .f32 a Cert.Reference6Ideal.Facts₀.bitsLt_bf16_f32)⟩, ⟨Cert.Reference6Ideal.S8192x1024, (extf .f32 b Cert.Reference6Ideal.Facts₀.bitsLt_bf16_f32)⟩] Cert.Reference6Ideal.Facts₀.concatenates_S8192x1024_S8192x1024_S8192x2048_d1) (shapeCast _ (extractStridedSlice Cert.Reference6Ideal.S1x2048x2048 ![1, 0, 0] w Cert.Reference6Ideal.Facts₀.slices_S2x2048x2048_S1x2048x2048_1_0_0) Cert.Reference6Ideal.Facts₀.shapeCasts_S1x2048x2048_S2048x2048))
      = summed a b x w := by
  funext y
  idx_vars y
  show (x (ix2 _ _) : EReal) + _ = _
  unfold summed
  refine congrArg₂ (fun a b : EReal => a + b) rfl ?_
  refine Eq.trans ?_ (sum_split (fun e => (if h : e.val < 1024 then a (ix2 y0 ⟨e.val, h⟩) else b (ix2 y0 ⟨e.val - 1024, by omega⟩)) * w (ix3 1 e y1))) |>.trans ?_
  · pointwise
  · refine congrArg₂ (fun a b : EReal => a + b) (Finset.sum_congr rfl fun e _ => ?_) (Finset.sum_congr rfl fun e _ => ?_)
    · simp
    · simp

/-- The residual stream's new rows, at an index. -/
theorem summed_apply (a b : FVec Ideal S8192x1024 .bf16) (x : FVec Ideal S8192x2048 .f32) (w : FVec Ideal S2x2048x2048 .f32) (r : Fin 8192) (d : Fin 2048) :
    (summed a b x w (ix2 r d) : EReal) = (x (ix2 r d) : EReal) + (∑ e : Fin 1024, (a (ix2 r e) : EReal) * w (ix3 1 (⟨e.val, by omega⟩ : Fin 2048) d)
      + ∑ e : Fin 1024, (b (ix2 r e) : EReal) * w (ix3 1 (⟨1024 + e.val, by omega⟩ : Fin 2048) d)) := rfl

/-- The norm of the new rows. -/
def normedArr (a b : FVec Ideal S8192x1024 .bf16) (x : FVec Ideal S8192x2048 .f32) (w : FVec Ideal S2x2048x2048 .f32) (g : FVec Ideal S2x2048 .f32) : FVec Ideal S8192x2048 .f32 :=
  fun y => rms (fun e => summed a b x w (ix2 (y 0) e)) (g (ix2 1 (y 1))) (y 1)

variable (m : (ℓ : Loc nD τ sig) → Buf (Elt Ideal) ℓ)

theorem lt16 (t : Fin cfg0.N) : t.val < 16 := t.isLt.trans_eq N_0

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![1, 0, 0] := by decide +kernel
theorem index4 : ∀ t : Fin grid0.N, win0_4.index t = ![0, 0] := by decide +kernel
theorem index7 : ∀ t : Fin grid0.N, win0_7.index t = ![t.val, 0] := by decide +kernel
theorem index8 : ∀ t : Fin grid0.N, win0_8.index t = ![t.val, 0] := by decide +kernel

theorem entry0 (c : Dev nD) : V m c main_arg0 = m ((c : Thread nD τ).loc main_arg0) := by
  unfold V
  simp only [hostOps0, hostOps0_1, hostOps0_2, List.flatten_cons, List.flatten_nil, List.append_nil, List.cons_append, List.nil_append]
  after_results <;> rfl
theorem entry1 (c : Dev nD) : V m c main_arg1 = m ((c : Thread nD τ).loc main_arg1) := by
  unfold V
  simp only [hostOps0, hostOps0_1, hostOps0_2, List.flatten_cons, List.flatten_nil, List.append_nil, List.cons_append, List.nil_append]
  after_results <;> rfl
theorem entry2 (c : Dev nD) : V m c main_arg2 = m ((c : Thread nD τ).loc main_arg2) := by
  unfold V
  simp only [hostOps0, hostOps0_1, hostOps0_2, List.flatten_cons, List.flatten_nil, List.append_nil, List.cons_append, List.nil_append]
  after_results <;> rfl
theorem entry3 (c : Dev nD) (e d : Fin 2048) :
    V m c main_v0 (ix3 1 e d) = m ((c : Thread nD τ).loc main_arg3) (ix3 1 e d) := by
  unfold V
  simp only [hostOps0, hostOps0_1, hostOps0_2, List.flatten_cons, List.flatten_nil, List.append_nil, List.cons_append, List.nil_append]
  after_results
  pointwise
theorem entry4 (c : Dev nD) (d : Fin 2048) :
    V m c main_v15 (ix2 0 d) = m ((c : Thread nD τ).loc main_arg4) (ix2 1 d) := by
  unfold V
  simp only [hostOps0, hostOps0_1, hostOps0_2, List.flatten_cons, List.flatten_nil, List.append_nil, List.cons_append, List.nil_append]
  after_results
  pointwise

theorem iblk0 (c : Dev nD) (t : Fin cfg0.N) (R : Fin 512) (e : Fin 1024) :
    iblk m c 0 t (ix2 R e) = V m c main_arg0 (ix2 ⟨512 * t.val + R.val, by have := lt16 t; omega⟩ e) := by
  blk_point [iblk, index0 t]
theorem iblk1 (c : Dev nD) (t : Fin cfg0.N) (R : Fin 512) (e : Fin 1024) :
    iblk m c 1 t (ix2 R e) = V m c main_arg1 (ix2 ⟨512 * t.val + R.val, by have := lt16 t; omega⟩ e) := by
  blk_point [iblk, index1 t]
theorem iblk2 (c : Dev nD) (t : Fin cfg0.N) (R : Fin 512) (d : Fin 2048) :
    iblk m c 2 t (ix2 R d) = V m c main_arg2 (ix2 ⟨512 * t.val + R.val, by have := lt16 t; omega⟩ d) := by
  blk_point [iblk, index2 t]
theorem iblk3 (c : Dev nD) (t : Fin cfg0.N) (e d : Fin 2048) :
    iblk m c 3 t (ix3 0 e d) = V m c main_v0 (ix3 1 e d) := by
  blk_point [iblk, index3 t]
theorem iblk4 (c : Dev nD) (t : Fin cfg0.N) (d : Fin 2048) :
    iblk m c 4 t (ix2 0 d) = V m c main_v15 (ix2 0 d) := by
  blk_point [iblk, index4 t]

def argA (c : Dev nD) : FVec Ideal S8192x1024 .bf16 := m ((c : Thread nD τ).loc main_arg0)
def argB (c : Dev nD) : FVec Ideal S8192x1024 .bf16 := m ((c : Thread nD τ).loc main_arg1)
def argX (c : Dev nD) : FVec Ideal S8192x2048 .f32 := m ((c : Thread nD τ).loc main_arg2)
def argW (c : Dev nD) : FVec Ideal S2x2048x2048 .f32 := m ((c : Thread nD τ).loc main_arg3)
def argG (c : Dev nD) : FVec Ideal S2x2048 .f32 := m ((c : Thread nD τ).loc main_arg4)

/-- What a step leaves in its two output blocks. -/
def blockX (c : Dev nD) (t : Fin cfg0.N) : FVec Ideal S512x2048 .f32 :=
  View.canon (xPieces (ms0_0 t) (hs0_0 t) (ms0_1 t) (hs0_1 t) (ms0_2 t) (hs0_2 t) (ms0_3 t) (hs0_3 t) (iblk m c 0 t) (iblk m c 1 t) (iblk m c 2 t) (iblk m c 3 t))
def blockN (c : Dev nD) (t : Fin cfg0.N) : FVec Ideal S512x2048 .f32 :=
  View.canon (nPieces (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t))

theorem flushedX (c : Dev nD) (t : Fin cfg0.N) :
    (dats m 0 c).flushed 7 t = (cfg0.win 7).cut (grid0.coords t) (blockX m c t) := by
  by_cases h0 : t.val % 16 = 0
  · rw [Value.flushed7_A m c t h0]
    refine congrArg _ ?_
    unfold out0_A_7
    rw [runX_A]
    exact View.read_writes_junk_eq_canon _ _
  · rw [Value.flushed7_B m c t h0]
    refine congrArg _ ?_
    unfold out0_B_7
    rw [runX_B]
    exact View.read_writes_junk_eq_canon _ _

theorem flushedN (c : Dev nD) (t : Fin cfg0.N) :
    (dats m 0 c).flushed 8 t = (cfg0.win 8).cut (grid0.coords t) (blockN m c t) := by
  by_cases h0 : t.val % 16 = 0
  · rw [Value.flushed8_A m c t h0]
    refine congrArg _ ?_
    unfold out0_A_8
    rw [runN_A]
    exact View.read_writes_junk_eq_canon _ _
  · rw [Value.flushed8_B m c t h0]
    refine congrArg _ ?_
    unfold out0_B_8
    rw [runN_B]
    exact View.read_writes_junk_eq_canon _ _

theorem blkA (c : Dev nD) (t : Fin cfg0.N) (R : Fin 512) (e : Fin 1024) :
    iblk m c 0 t (ix2 R e) = argA m c (ix2 ⟨512 * t.val + R.val, by have := lt16 t; omega⟩ e) :=
  (iblk0 m c t R e).trans (congrFun (entry0 m c) _)
theorem blkB (c : Dev nD) (t : Fin cfg0.N) (R : Fin 512) (e : Fin 1024) :
    iblk m c 1 t (ix2 R e) = argB m c (ix2 ⟨512 * t.val + R.val, by have := lt16 t; omega⟩ e) :=
  (iblk1 m c t R e).trans (congrFun (entry1 m c) _)
theorem blkX (c : Dev nD) (t : Fin cfg0.N) (R : Fin 512) (d : Fin 2048) :
    iblk m c 2 t (ix2 R d) = argX m c (ix2 ⟨512 * t.val + R.val, by have := lt16 t; omega⟩ d) :=
  (iblk2 m c t R d).trans (congrFun (entry2 m c) _)
theorem blkW (c : Dev nD) (t : Fin cfg0.N) (e d : Fin 2048) :
    iblk m c 3 t (ix3 0 e d) = argW m c (ix3 1 e d) :=
  (iblk3 m c t e d).trans (entry3 m c e d)
theorem blkG (c : Dev nD) (t : Fin cfg0.N) (d : Fin 2048) :
    iblk m c 4 t (ix2 0 d) = argG m c (ix2 1 d) :=
  (iblk4 m c t d).trans (entry4 m c d)

/-- The upper and the lower half of a step's rows. -/
theorem rows_top (c : Dev nD) (t : Fin cfg0.N) (R : Fin 256) (d : Fin 2048) :
    (k0_pay3 (F := Ideal) (ldA0 (ms0_0 t) (hs0_0 t) (iblk m c 0 t)) (ldW0 (ms0_3 t) (hs0_3 t) (iblk m c 3 t)) (ldA0 (ms0_1 t) (hs0_1 t) (iblk m c 1 t)) (ldW1 (ms0_3 t) (hs0_3 t) (iblk m c 3 t)) (ldX0 (ms0_2 t) (hs0_2 t) (iblk m c 2 t)) (ix2 R d) : EReal)
      = summed (argA m c) (argB m c) (argX m c) (argW m c) (ix2 ⟨512 * t.val + R.val, by have := lt16 t; omega⟩ d) := by
  refine (pay3_apply _ _ _ _ _ R d).trans (Eq.trans ?_ (summed_apply _ _ _ _ _ _).symm)
  refine congrArg₂ (fun a b : EReal => a + b) ((ldX0_apply _ _ _ R d).trans (blkX m c t _ d)) (congrArg₂ (fun a b : EReal => a + b) (Finset.sum_congr rfl fun e _ => ?_) (Finset.sum_congr rfl fun e _ => ?_))
  · exact congrArg₂ (fun a b : EReal => a * b) ((ldA0_apply _ _ _ R e).trans (blkA m c t _ e)) ((ldW0_apply _ _ _ e d).trans (blkW m c t _ d))
  · exact congrArg₂ (fun a b : EReal => a * b) ((ldA0_apply _ _ _ R e).trans (blkB m c t _ e)) ((ldW1_apply _ _ _ e d).trans (blkW m c t _ d))

theorem rows_low (c : Dev nD) (t : Fin cfg0.N) (R : Fin 256) (d : Fin 2048) :
    (k0_pay3 (F := Ideal) (ldA1 (ms0_0 t) (hs0_0 t) (iblk m c 0 t)) (ldW0 (ms0_3 t) (hs0_3 t) (iblk m c 3 t)) (ldA1 (ms0_1 t) (hs0_1 t) (iblk m c 1 t)) (ldW1 (ms0_3 t) (hs0_3 t) (iblk m c 3 t)) (ldX1 (ms0_2 t) (hs0_2 t) (iblk m c 2 t)) (ix2 R d) : EReal)
      = summed (argA m c) (argB m c) (argX m c) (argW m c) (ix2 ⟨512 * t.val + (256 + R.val), by have := lt16 t; omega⟩ d) := by
  refine (pay3_apply _ _ _ _ _ R d).trans (Eq.trans ?_ (summed_apply _ _ _ _ _ _).symm)
  refine congrArg₂ (fun a b : EReal => a + b) ((ldX1_apply _ _ _ R d).trans (blkX m c t _ d)) (congrArg₂ (fun a b : EReal => a + b) (Finset.sum_congr rfl fun e _ => ?_) (Finset.sum_congr rfl fun e _ => ?_))
  · exact congrArg₂ (fun a b : EReal => a * b) ((ldA1_apply _ _ _ R e).trans (blkA m c t _ e)) ((ldW0_apply _ _ _ e d).trans (blkW m c t _ d))
  · exact congrArg₂ (fun a b : EReal => a * b) ((ldA1_apply _ _ _ R e).trans (blkB m c t _ e)) ((ldW1_apply _ _ _ e d).trans (blkW m c t _ d))

/-- A step's block of the residual stream. -/
theorem blockX_apply (c : Dev nD) (t : Fin cfg0.N) (R : Fin 512) (d : Fin 2048) :
    blockX m c t (ix2 R d) = summed (argA m c) (argB m c) (argX m c) (argW m c) (ix2 ⟨512 * t.val + R.val, by have := lt16 t; omega⟩ d) := by
  unfold blockX xPieces
  by_cases h : R.val < 256
  · exact (canon_top _ _ ⟨R.val, h⟩ d).trans (rows_top m c t ⟨R.val, h⟩ d)
  · have e : R = ⟨256 + (⟨R.val - 256, by omega⟩ : Fin 256).val, by simp only; omega⟩ := Fin.ext (by simp only; omega)
    rw [e]
    refine (canon_low _ _ _ d).trans ?_
    rw [pay6_eq]
    exact rows_low m c t _ d

/-- A step's block of the norm. -/
theorem blockN_apply (c : Dev nD) (t : Fin cfg0.N) (R : Fin 512) (d : Fin 2048) :
    blockN m c t (ix2 R d) = normedArr (argA m c) (argB m c) (argX m c) (argW m c) (argG m c) (ix2 ⟨512 * t.val + R.val, by have := lt16 t; omega⟩ d) := by
  unfold blockN nPieces normedArr
  by_cases h : R.val < 256
  · refine (canon_top _ _ ⟨R.val, h⟩ d).trans ((pay4_apply _ _ _ _ _ _ _ d).trans ?_)
    exact congrArg₂ (fun f g => rms f g d) (funext fun e => rows_top m c t ⟨R.val, h⟩ e) ((ldG_apply _ _ _ d).trans (blkG m c t d))
  · have e : R = ⟨256 + (⟨R.val - 256, by omega⟩ : Fin 256).val, by simp only; omega⟩ := Fin.ext (by simp only; omega)
    rw [e]
    refine (canon_low _ _ _ d).trans ((pay8_apply _ _ _ _ _ _ _ d).trans ?_)
    exact congrArg₂ (fun f g => rms f g d) (funext fun e => rows_low m c t _ e) ((ldG_apply _ _ _ d).trans (blkG m c t d))

/-- The kernel's two result arrays, everywhere. -/
theorem arrayX_eq (c : Dev nD) :
    (dats m 0 c).arrAt 7 cfg0.N = summed (argA m c) (argB m c) (argX m c) (argW m c) := by
  refine (dats m 0 c).arrAt_eq_of_covers 7 _ (by decide +kernel) fun t hf y => ?_
  have hN := lt16 t
  refine (congrFun (flushedX m c t) y).trans ?_
  show blockX m c t y = _
  rw [show y = ix2 (y 0) (y 1) from eq_ix2 y]
  refine (blockX_apply m c t (y 0) (y 1)).trans (congrArg (summed _ _ _ _) ?_)
  refine Eq.symm ?_
  blk_simp
  simp only [index7 t]
  funext a
  refine Fin.ext ?_
  fin_cases a
  · have e : win0_7.index t 0 = t.val := congrFun (index7 t) 0
    show win0_7.index t 0 * 512 + 1 * (y 0).val = 512 * t.val + (y 0).val
    generalize (y 0).val = z
    omega
  · have e : win0_7.index t 1 = 0 := congrFun (index7 t) 1
    show win0_7.index t 1 * 2048 + 1 * (y 1).val = (y 1).val
    generalize (y 1).val = z
    omega

theorem arrayN_eq (c : Dev nD) :
    (dats m 0 c).arrAt 8 cfg0.N = normedArr (argA m c) (argB m c) (argX m c) (argW m c) (argG m c) := by
  refine (dats m 0 c).arrAt_eq_of_covers 8 _ (by decide +kernel) fun t hf y => ?_
  have hN := lt16 t
  refine (congrFun (flushedN m c t) y).trans ?_
  show blockN m c t y = _
  rw [show y = ix2 (y 0) (y 1) from eq_ix2 y]
  refine (blockN_apply m c t (y 0) (y 1)).trans (congrArg (normedArr _ _ _ _ _) ?_)
  refine Eq.symm ?_
  blk_simp
  simp only [index8 t]
  funext a
  refine Fin.ext ?_
  fin_cases a
  · have e : win0_8.index t 0 = t.val := congrFun (index8 t) 0
    show win0_8.index t 0 * 512 + 1 * (y 0).val = 512 * t.val + (y 0).val
    generalize (y 0).val = z
    omega
  · have e : win0_8.index t 1 = 0 := congrFun (index8 t) 1
    show win0_8.index t 1 * 2048 + 1 * (y 1).val = (y 1).val
    generalize (y 1).val = z
    omega

/-- The value claim. -/
theorem algebraic : Cert.algebraic_Kernel6Ideal_Reference6Ideal := by
  intro m ρ m' ρ' _ hag
  refine ⟨fun c => (Cert.Kernel6Ideal.Gen.dats m 0 c).arrAt 7 Cert.Kernel6Ideal.cfg0.N, fun c => (Cert.Kernel6Ideal.Gen.dats m 0 c).arrAt 8 Cert.Kernel6Ideal.cfg0.N,
    (θ_run Cert.Kernel6Ideal.defs _ _).mono (fun _ h c => ⟨(h c).1, (h c).2.1, (h c).2.2.2.2⟩) (Cert.Kernel6Ideal.Value.run_blocks m ρ), ?_⟩
  refine (θ_run Cert.Reference6Ideal.defs _ _).mono (fun _ h c => ⟨(h c).1.trans ?_, (h c).2.1.trans ?_, (h c).2.2⟩) (Cert.Reference6Ideal.Value.run (F := Ideal) m' ρ')
  · obtain ⟨h0, h1, h2, h3, h4, h5, h6⟩ := hag c
    exact (ref_sum _ _ _ _).trans ((congr (congr (congr (congrArg summed h0) h1) h2) h3).trans (arrayX_eq m c).symm)
  · obtain ⟨h0, h1, h2, h3, h4, h5, h6⟩ := hag c
    refine Eq.trans ?_ ((congr (congr (congr (congr (congrArg normedArr h0) h1) h2) h3) h4).trans (arrayN_eq m c).symm)
    rw [ref_sum]
    funext y
    unfold normedArr
    generalize summed _ _ _ _ = z
    idx_vars y
    unfold rms
    pointwise

/-- The reference runs, keeps its arguments and declares no semaphore. -/
theorem frame_ref : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

end Cert.SecondOutProj

end
-- ==== Proof.SecondNormFrame.lean ====
/- The second layer's norm and combined projection, over any values: what a step reads and leaves, and the run of the
   whole call. The second result's block is stored at a row block's first step only and kept over its other five. -/
module

public import proofs.«01_k».proof.Defs
public import proofs.«01_k».proof.Proof.Gen.Kernel7Ideal.Frame
public import proofs.«01_k».proof.Proof.Gen.Kernel7Ideal.Skeleton
public import Idealize.ShloMosaic.Lib.Pipeline.ValueKit
public import Idealize.ShloMosaic.Lib.Claim
public import Idealize.ShloMosaic.Lib.VecWindow

@[expose] public section

set_option maxRecDepth 16384

noncomputable section

namespace Cert.SecondNormProj

open Cert.Kernel7Ideal Cert.Kernel7Ideal.Gen Cert.Kernel7Ideal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## One step, on any buffers -/

/-- The whole blocks as rectangles, and the two columns of gates. -/
abbrev rowsR : Rect S512x2048 := Rect.unit (s := S512x2048) ![0, 0] S512x2048.size inb_S512x2048_S512x2048_0_0
abbrev gate2R : Rect S512x128 := Rect.unit (s := S512x128) ![0, 2] S512x1.size inb_S512x128_S512x1_0_2
abbrev gate3R : Rect S512x128 := Rect.unit (s := S512x128) ![0, 3] S512x1.size inb_S512x128_S512x1_0_3
abbrev planeR : Rect S1x512x2048 := Rect.unit (s := S1x512x2048) ![0, 0, 0] S1x512x2048.size inb_S1x512x2048_S1x512x2048_0_0_0
abbrev gainR : Rect S1x2048 := Rect.unit (s := S1x2048) ![0, 0] S1x2048.size inb_S1x2048_S1x2048_0_0
abbrev weightR : Rect S2048x1024 := Rect.unit (s := S2048x1024) ![0, 0] S2048x1024.size inb_S2048x1024_S2048x1024_0_0
abbrev outR : Rect S512x1024 := Rect.unit (s := S512x1024) ![0, 0] S512x1024.size inb_S512x1024_S512x1024_0_0

/-- A column of the routing slab. -/
def gate (k : Fin 128) (x : Vec F S512x128 .f32) : Vec F S512x1 .f32 := fun y => x (ix2 (y 0) k)

/-- The rows of the residual stream with the experts' outputs added. -/
def newRows (x0 : Vec F S512x2048 .f32) (x1 : Vec F S512x128 .f32) (x2 x3 : Vec F S1x512x2048 .f32) : FVec F S512x2048 .f32 :=
  k0_pay1 x0 (gate 2 x1) x2 (gate 3 x1) x3

/-- Those rows, normalized. -/
def normRows (x0 : Vec F S512x2048 .f32) (x1 : Vec F S512x128 .f32) (x2 x3 : Vec F S1x512x2048 .f32) (x4 : Vec F S1x2048 .f32) : FVec F S512x2048 .bf16 :=
  k0_pay2 x0 (gate 2 x1) x2 (gate 3 x1) x3 x4

section step

variable (c : Dev nD) (i : grid0.Coords) (arg2 : Memref sig .tc .vmem S512x2048 .f32) (harg2 : arg2.IsWhole) (arg3 : Memref sig .tc .vmem S512x128 .f32) (harg3 : arg3.IsWhole)
  (arg4 : Memref sig .tc .vmem S1x512x2048 .f32) (harg4 : arg4.IsWhole) (arg5 : Memref sig .tc .vmem S1x512x2048 .f32) (harg5 : arg5.IsWhole)
  (arg6 : Memref sig .tc .vmem S1x2048 .f32) (harg6 : arg6.IsWhole) (arg7 : Memref sig .tc .vmem S2048x1024 .bf16) (harg7 : arg7.IsWhole)
  (arg8 : Memref sig .tc .vmem S512x1024 .bf16) (harg8 : arg8.IsWhole) (arg9 : Memref sig .tc .vmem S512x2048 .f32) (harg9 : arg9.IsWhole)
  (arg10 : Memref sig .tc .vmem S512x2048 .bf16) (harg10 : arg10.IsWhole)
  (x0 : Vec F S512x2048 .f32) (x1 : Vec F S512x128 .f32) (x2 x3 : Vec F S1x512x2048 .f32) (x4 : Vec F S1x2048 .f32) (x5 : Vec F S2048x1024 .bf16)
  (xn : Vec F S512x2048 .bf16)

def ldX : FVec F S512x2048 .f32 := View.readAt (Elt F) arg2.view rowsR.toLoadRect (harg2.unread x0)
def ldG2 : FVec F S512x1 .f32 := View.readAt (Elt F) arg3.view gate2R.toLoadRect (harg3.unread x1)
def ldG3 : FVec F S512x1 .f32 := View.readAt (Elt F) arg3.view gate3R.toLoadRect (harg3.unread x1)
def ldP (arg : Memref sig .tc .vmem S1x512x2048 .f32) (harg : arg.IsWhole) (x : Vec F S1x512x2048 .f32) : FVec F S1x512x2048 .f32 :=
  View.readAt (Elt F) arg.view planeR.toLoadRect (harg.unread x)
def ldA : FVec F S1x2048 .f32 := View.readAt (Elt F) arg6.view gainR.toLoadRect (harg6.unread x4)
def ldW : FVec F S2048x1024 .bf16 := View.readAt (Elt F) arg7.view weightR.toLoadRect (harg7.unread x5)
def ldN : FVec F S512x2048 .bf16 := View.readAt (Elt F) arg10.view rowsR.toLoadRect (harg10.unread xn)

/-- A load of a whole block is the block. -/
theorem ldX_eq : ldX arg2 harg2 x0 = x0 := by
  unfold ldX; rw [View.readAt_eq_ld, Memref.IsWhole.read_unread]; funext j; idx_vars j; pointwise
theorem ldG2_eq : ldG2 arg3 harg3 x1 = gate 2 x1 := by
  unfold ldG2 gate; rw [View.readAt_eq_ld, Memref.IsWhole.read_unread]; funext j; idx_vars j
  obtain rfl : j1 = 0 := Subsingleton.elim _ _
  pointwise
theorem ldG3_eq : ldG3 arg3 harg3 x1 = gate 3 x1 := by
  unfold ldG3 gate; rw [View.readAt_eq_ld, Memref.IsWhole.read_unread]; funext j; idx_vars j
  obtain rfl : j1 = 0 := Subsingleton.elim _ _
  pointwise
theorem ldP_eq (arg : Memref sig .tc .vmem S1x512x2048 .f32) (harg : arg.IsWhole) (x : Vec F S1x512x2048 .f32) : ldP arg harg x = x := by
  unfold ldP; rw [View.readAt_eq_ld, Memref.IsWhole.read_unread]; funext j; idx_vars j
  obtain rfl : j0 = 0 := Subsingleton.elim _ _
  pointwise
theorem ldA_eq : ldA arg6 harg6 x4 = x4 := by
  unfold ldA; rw [View.readAt_eq_ld, Memref.IsWhole.read_unread]; funext j; idx_vars j
  obtain rfl : j0 = 0 := Subsingleton.elim _ _
  pointwise
theorem ldW_eq : ldW arg7 harg7 x5 = x5 := by
  unfold ldW; rw [View.readAt_eq_ld, Memref.IsWhole.read_unread]; funext j; idx_vars j; pointwise
theorem ldN_eq : ldN arg10 harg10 xn = xn := by
  unfold ldN; rw [View.readAt_eq_ld, Memref.IsWhole.read_unread]; funext j; idx_vars j; pointwise

/-- One piece over a whole block leaves the piece. -/
theorem emb_rows (y : S512x2048.Idx) : rowsR.emb y = y := by
  funext a
  refine Fin.ext ((Rect.emb_apply rowsR y a).trans ?_)
  fin_cases a <;> simp [Rect.unit]
theorem canon_rows {e : EltTy} (P : Vec F S512x2048 e) : View.canon [(⟨rowsR, P⟩ : View.Piece (Elt F) S512x2048 e)] = P := by
  funext y
  have h := View.canon_cons_emb (Val := Elt F) (e := e) rowsR P [] y
  rw [emb_rows] at h
  exact h
theorem emb_out (y : S512x1024.Idx) : outR.emb y = y := by
  funext a
  refine Fin.ext ((Rect.emb_apply outR y a).trans ?_)
  fin_cases a <;> simp [Rect.unit]
theorem canon_out (P : FVec F S512x1024 .bf16) : View.canon [(⟨outR, P⟩ : View.Piece (Elt F) S512x1024 .bf16)] = P := by
  funext y
  have h := View.canon_cons_emb (Val := Elt F) (e := .bf16) outR P [] y
  rw [emb_out] at h
  exact h
theorem cov_rows {sg : RefSig} {κ : Kind} {sp : Space} (v : View sg κ sp S512x2048 .bf16) (P : FVec F S512x2048 .bf16) :
    v.readCov [(⟨rowsR, P⟩ : View.Piece (Elt F) S512x2048 .bf16)] rowsR.toLoadRect = P := by
  rw [View.readCov_eq_canon', canon_rows]
  funext j
  refine congrArg P ?_
  funext a
  refine Fin.ext ((Rect.idx_unit_val _ _ _ _ a).trans ?_)
  fin_cases a <;> simp

/-- A row block's first step: the pieces it stores, and its run. -/
noncomputable def runA (hc : k0_cond1 i = 1#1) :
    Σ' (L6 : List (View.Piece (Elt F) S512x1024 .bf16)) (L7 : List (View.Piece (Elt F) S512x2048 .f32)), { LS : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS)) -∗ K ⟨⟩))
          ⊢ wp frame (wpE (defs₀ (F := F)) Variants.none c none) E (cc0__norm_proj_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__norm_proj_kernel_eq_skeleton]; unfold cc0__norm_proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS

/-- Another step: the piece it stores, and its run; the second result's block and the scratch stay as they are. -/
noncomputable def runB (x7 : Vec F S512x2048 .f32) (hc : ¬ k0_cond1 i = 1#1) :
    { L6 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5
            ∗ (∃ d, owns (c : Thread nD τ) arg8 fullShare d) ∗ owns (c : Thread nD τ) arg9 fullShare x7 ∗ owns (c : Thread nD τ) arg10 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ owns (c : Thread nD τ) arg9 fullShare x7 ∗ owns (c : Thread nD τ) arg10 fullShare xn) -∗ K ⟨⟩))
          ⊢ wp frame (wpE (defs₀ (F := F)) Variants.none c none) E (cc0__norm_proj_kernel i arg2 harg2 arg3 harg3 arg4 harg4 arg5 harg5 arg6 harg6 arg7 harg7 arg8 harg8 arg9 harg9 arg10 harg10) K } := by
  refine ⟨?_, fun E K => ?run⟩
  case run =>
    simp only [cc0__norm_proj_kernel_eq_skeleton]; unfold cc0__norm_proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hf7; obtain rfl := harg10.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS

/-- The pieces, spelled out. -/
theorem piecesA (hc : k0_cond1 i = 1#1) :
    (runA c i arg2 harg2 arg3 harg3 arg4 harg4 arg5 harg5 arg6 harg6 arg7 harg7 arg8 harg8 arg9 harg9 arg10 harg10 x0 x1 x2 x3 x4 x5 hc).1
      = [⟨outR, k0_pay3 (arg10.view.readCov [⟨rowsR, k0_pay2 (ldX arg2 harg2 x0) (ldG2 arg3 harg3 x1) (ldP arg4 harg4 x2) (ldG3 arg3 harg3 x1) (ldP arg5 harg5 x3) (ldA arg6 harg6 x4)⟩] rowsR.toLoadRect) (ldW arg7 harg7 x5)⟩] := by
  sl_kernel_rfl
theorem piecesA7 (hc : k0_cond1 i = 1#1) :
    (runA c i arg2 harg2 arg3 harg3 arg4 harg4 arg5 harg5 arg6 harg6 arg7 harg7 arg8 harg8 arg9 harg9 arg10 harg10 x0 x1 x2 x3 x4 x5 hc).2.1
      = [⟨rowsR, k0_pay1 (ldX arg2 harg2 x0) (ldG2 arg3 harg3 x1) (ldP arg4 harg4 x2) (ldG3 arg3 harg3 x1) (ldP arg5 harg5 x3)⟩] := by
  sl_kernel_rfl
theorem piecesAS (hc : k0_cond1 i = 1#1) :
    (runA c i arg2 harg2 arg3 harg3 arg4 harg4 arg5 harg5 arg6 harg6 arg7 harg7 arg8 harg8 arg9 harg9 arg10 harg10 x0 x1 x2 x3 x4 x5 hc).2.2.1
      = [⟨rowsR, k0_pay2 (ldX arg2 harg2 x0) (ldG2 arg3 harg3 x1) (ldP arg4 harg4 x2) (ldG3 arg3 harg3 x1) (ldP arg5 harg5 x3) (ldA arg6 harg6 x4)⟩] := by
  sl_kernel_rfl
theorem piecesB (x7 : Vec F S512x2048 .f32) (hc : ¬ k0_cond1 i = 1#1) :
    (runB c i arg2 harg2 arg3 harg3 arg4 harg4 arg5 harg5 arg6 harg6 arg7 harg7 arg8 harg8 arg9 harg9 arg10 harg10 x0 x1 x2 x3 x4 x5 xn x7 hc).1
      = [⟨outR, k0_pay3 (ldN arg10 harg10 xn) (ldW arg7 harg7 x5)⟩] := by
  sl_kernel_rfl

end step

end Cert.SecondNormProj

end
-- ==== Proof.SecondNormBlocks.lean ====
/- The second layer's norm and combined projection, over any values: what each step's blocks hold, and that a row
   block's six steps read the same rows. -/
module

public import proofs.«01_k».proof.Proof.SecondNormFrame

@[expose] public section

set_option maxRecDepth 16384

noncomputable section

namespace Cert.SecondNormProj

open Cert.Kernel7Ideal Cert.Kernel7Ideal.Gen Cert.Kernel7Ideal.Facts
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

variable (m : (ℓ : Loc nD τ sig) → Buf (Elt F) ℓ)

theorem lt96 (t : Fin cfg0.N) : t.val < 96 := t.isLt.trans_eq N_0

theorem cond_iff : ∀ t : Fin grid0.N, k0_cond1 (grid0.coords t) = 1#1 ↔ t.val % 6 = 0 := by decide +kernel

theorem index0 : ∀ t : Fin grid0.N, win0_0.index t = ![t.val / 6, 0] := by decide +kernel
theorem index1 : ∀ t : Fin grid0.N, win0_1.index t = ![t.val / 6, 0] := by decide +kernel
theorem index2 : ∀ t : Fin grid0.N, win0_2.index t = ![0, t.val / 6, 0] := by decide +kernel
theorem index3 : ∀ t : Fin grid0.N, win0_3.index t = ![1, t.val / 6, 0] := by decide +kernel
theorem index4 : ∀ t : Fin grid0.N, win0_4.index t = ![0, 0] := by decide +kernel
theorem index5 : ∀ t : Fin grid0.N, win0_5.index t = ![0, t.val % 6] := by decide +kernel
theorem index6 : ∀ t : Fin grid0.N, win0_6.index t = ![t.val / 6, t.val % 6] := by decide +kernel
theorem index7 : ∀ t : Fin grid0.N, win0_7.index t = ![t.val / 6, 0] := by decide +kernel

theorem iblk0 (c : Dev nD) (t : Fin cfg0.N) (R : Fin 512) (d : Fin 2048) :
    iblk m c 0 t (ix2 R d) = V m c main_arg0 (ix2 ⟨512 * (t.val / 6) + R.val, by have := lt96 t; omega⟩ d) := by
  blk_point [iblk, index0 t]

theorem iblk1 (c : Dev nD) (t : Fin cfg0.N) (R : Fin 512) (k : Fin 128) :
    iblk m c 1 t (ix2 R k) = V m c main_arg1 (ix2 ⟨512 * (t.val / 6) + R.val, by have := lt96 t; omega⟩ k) := by
  blk_point [iblk, index1 t]

theorem iblk4 (c : Dev nD) (t : Fin cfg0.N) (d : Fin 2048) :
    iblk m c 4 t (ix2 0 d) = V m c main_v5 (ix2 0 d) := by
  blk_point [iblk, index4 t]

theorem iblk5 (c : Dev nD) (t : Fin cfg0.N) (e : Fin 2048) (d : Fin 1024) :
    iblk m c 5 t (ix2 e d) = V m c main_v4 (ix2 e ⟨1024 * (t.val % 6) + d.val, by omega⟩) := by
  blk_point [iblk, index5 t]

/-- The two planes' blocks. -/
theorem plane0 (c : Dev nD) (t : Fin cfg0.N) (R : Fin 512) (d : Fin 2048) :
    X0_2 m c t (ix3 0 R d) = V m c main_arg2 (ix3 0 ⟨512 * (t.val / 6) + R.val, by have := lt96 t; omega⟩ d) := by
  unfold X0_2 Pipeline.Window.fill
  rw [dif_pos (moved0_2 t _)]
  have h := index2 t
  have e0 : win0_2.index t 0 = 0 := congrFun h 0
  have e1 : win0_2.index t 1 = t.val / 6 := congrFun h 1
  have e2 : win0_2.index t 2 = 0 := congrFun h 2
  refine congrArg (V m c main_arg2) ?_
  funext a
  refine Fin.ext ?_
  fin_cases a
  · show win0_2.index t 0 * 1 + 1 * 0 = 0
    rw [e0]
  · show win0_2.index t 1 * 512 + 1 * R.val = 512 * (t.val / 6) + R.val
    omega
  · show win0_2.index t 2 * 2048 + 1 * d.val = d.val
    omega

theorem plane1 (c : Dev nD) (t : Fin cfg0.N) (R : Fin 512) (d : Fin 2048) :
    X0_3 m c t (ix3 0 R d) = V m c main_arg2 (ix3 1 ⟨512 * (t.val / 6) + R.val, by have := lt96 t; omega⟩ d) := by
  unfold X0_3 Pipeline.Window.fill
  rw [dif_pos (moved0_3 t _)]
  have h := index3 t
  have e0 : win0_3.index t 0 = 1 := congrFun h 0
  have e1 : win0_3.index t 1 = t.val / 6 := congrFun h 1
  have e2 : win0_3.index t 2 = 0 := congrFun h 2
  refine congrArg (V m c main_arg2) ?_
  funext a
  refine Fin.ext ?_
  fin_cases a
  · show win0_3.index t 0 * 1 + 1 * 0 = 1
    omega
  · show win0_3.index t 1 * 512 + 1 * R.val = 512 * (t.val / 6) + R.val
    omega
  · show win0_3.index t 2 * 2048 + 1 * d.val = d.val
    omega

/-- The residual stream's block at a step, and its rows normalized. -/
def stream (c : Dev nD) (t : Fin cfg0.N) : FVec F S512x2048 .f32 :=
  newRows (iblk m c 0 t) (iblk m c 1 t) (X0_2 m c t) (X0_3 m c t)
def norms (c : Dev nD) (t : Fin cfg0.N) : FVec F S512x2048 .bf16 :=
  normRows (iblk m c 0 t) (iblk m c 1 t) (X0_2 m c t) (X0_3 m c t) (iblk m c 4 t)

section keep
variable (c : Dev nD) (n : ℕ) (h : n + 1 < cfg0.N) (h6 : ¬ (n + 1) % 6 = 0)
include h6

theorem keep0 : (iblk m c 0 ⟨n, Nat.lt_of_succ_lt h⟩ : Vec F S512x2048 .f32) = iblk m c 0 ⟨n + 1, h⟩ := by
  have a : n / 6 = (n + 1) / 6 := by omega
  funext y
  rw [show y = ix2 (y 0) (y 1) from eq_ix2 y]
  refine (iblk0 m c _ _ _).trans (Eq.trans ?_ (iblk0 m c _ _ _).symm)
  simp only [a]
theorem keep1 : (iblk m c 1 ⟨n, Nat.lt_of_succ_lt h⟩ : Vec F S512x128 .f32) = iblk m c 1 ⟨n + 1, h⟩ := by
  have a : n / 6 = (n + 1) / 6 := by omega
  funext y
  rw [show y = ix2 (y 0) (y 1) from eq_ix2 y]
  refine (iblk1 m c _ _ _).trans (Eq.trans ?_ (iblk1 m c _ _ _).symm)
  simp only [a]
theorem keep2 : (X0_2 m c ⟨n, Nat.lt_of_succ_lt h⟩ : Vec F S1x512x2048 .f32) = X0_2 m c ⟨n + 1, h⟩ := by
  have a : n / 6 = (n + 1) / 6 := by omega
  funext y
  rw [show y = ix3 (0 : Fin 1) (y 1) (y 2) from (eq_ix3 y).trans (congrArg (ix3 · (y 1) (y 2)) (Subsingleton.elim (α := Fin 1) _ _))]
  refine (plane0 m c _ _ _).trans (Eq.trans ?_ (plane0 m c _ _ _).symm)
  simp only [a]
theorem keep3 : (X0_3 m c ⟨n, Nat.lt_of_succ_lt h⟩ : Vec F S1x512x2048 .f32) = X0_3 m c ⟨n + 1, h⟩ := by
  have a : n / 6 = (n + 1) / 6 := by omega
  funext y
  rw [show y = ix3 (0 : Fin 1) (y 1) (y 2) from (eq_ix3 y).trans (congrArg (ix3 · (y 1) (y 2)) (Subsingleton.elim (α := Fin 1) _ _))]
  refine (plane1 m c _ _ _).trans (Eq.trans ?_ (plane1 m c _ _ _).symm)
  simp only [a]
omit h6 in
theorem keep4 : (iblk m c 4 ⟨n, Nat.lt_of_succ_lt h⟩ : Vec F S1x2048 .f32) = iblk m c 4 ⟨n + 1, h⟩ := by
  funext y
  rw [show y = ix2 (0 : Fin 1) (y 1) from (eq_ix2 y).trans (congrArg (ix2 · (y 1)) (Subsingleton.elim (α := Fin 1) _ _))]
  exact (iblk4 m c _ _).trans (iblk4 m c _ _).symm

/-- Within a row block's six steps neither changes. -/
theorem stream_keep : stream m c ⟨n, Nat.lt_of_succ_lt h⟩ = stream m c ⟨n + 1, h⟩ := by
  unfold stream
  rw [keep0 m c n h h6, keep1 m c n h h6, keep2 m c n h h6, keep3 m c n h h6]
theorem norms_keep : norms m c ⟨n, Nat.lt_of_succ_lt h⟩ = norms m c ⟨n + 1, h⟩ := by
  unfold norms
  rw [keep0 m c n h h6, keep1 m c n h h6, keep2 m c n h h6, keep3 m c n h h6, keep4 m c n h]
end keep

end Cert.SecondNormProj

end
-- ==== Proof.SecondNormRun.lean ====
/- The second layer's norm and combined projection, over any values: the run of the whole call, and what it leaves in
   every array. -/
module

public import proofs.«01_k».proof.Proof.SecondNormBlocks

@[expose] public section

set_option maxRecDepth 16384

noncomputable section

namespace Cert.SecondNormProj

open Cert.Kernel7Ideal Cert.Kernel7Ideal.Gen Cert.Kernel7Ideal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a step's stores leave -/

/-- One whole-block piece read back, over whatever was there. -/
theorem read_rows {e : EltTy} {sg : RefSig} {κ : Kind} {sp : Space} (v : View sg κ sp S512x2048 e) (f : v.ty.Contents (Elt F)) (P : Vec F S512x2048 e) :
    v.read (Elt F) (v.writes (Elt F) f [⟨rowsR, P⟩]) = P :=
  (View.read_writes_of_cover v f v v.junk _ (View.cover_of_tiledL _ S512x2048.size (by sl_kernel_rfl))).trans
    ((View.read_writes_junk_eq_canon v _).trans (canon_rows P))
theorem read_out {sg : RefSig} {κ : Kind} {sp : Space} (v : View sg κ sp S512x1024 .bf16) (f : v.ty.Contents (Elt F)) (P : FVec F S512x1024 .bf16) :
    v.read (Elt F) (v.writes (Elt F) f [⟨outR, P⟩]) = P :=
  (View.read_writes_of_cover v f v v.junk _ (View.cover_of_tiledL _ S512x1024.size (by sl_kernel_rfl))).trans
    ((View.read_writes_junk_eq_canon v _).trans (canon_out P))

/-! ## The memrefs at a point -/

abbrev a2 (t : Fin cfg0.N) : Memref sig .tc .vmem S512x2048 .f32 := win0_0.stage (cfg0.slots t 0)
abbrev h2 (t : Fin cfg0.N) : (a2 t).IsWhole := hstage0_0 ((cfg0.slots t 0).cast nbuf0_0)
abbrev a3 (t : Fin cfg0.N) : Memref sig .tc .vmem S512x128 .f32 := win0_1.stage (cfg0.slots t 1)
abbrev h3 (t : Fin cfg0.N) : (a3 t).IsWhole := hstage0_1 ((cfg0.slots t 1).cast nbuf0_1)
abbrev a4 (t : Fin cfg0.N) : Memref sig .tc .vmem S1x512x2048 .f32 := win0_2.stage (cfg0.slots t 2)
abbrev h4 (t : Fin cfg0.N) : (a4 t).IsWhole := hstage0_2 ((cfg0.slots t 2).cast nbuf0_2)
abbrev a5 (t : Fin cfg0.N) : Memref sig .tc .vmem S1x512x2048 .f32 := win0_3.stage (cfg0.slots t 3)
abbrev h5 (t : Fin cfg0.N) : (a5 t).IsWhole := hstage0_3 ((cfg0.slots t 3).cast nbuf0_3)
abbrev a6 (t : Fin cfg0.N) : Memref sig .tc .vmem S1x2048 .f32 := win0_4.stage (cfg0.slots t 4)
abbrev h6 (t : Fin cfg0.N) : (a6 t).IsWhole := hstage0_4 ((cfg0.slots t 4).cast nbuf0_4)
abbrev a7 (t : Fin cfg0.N) : Memref sig .tc .vmem S2048x1024 .bf16 := win0_5.stage (cfg0.slots t 5)
abbrev h7 (t : Fin cfg0.N) : (a7 t).IsWhole := hstage0_5 ((cfg0.slots t 5).cast nbuf0_5)
abbrev a8 (t : Fin cfg0.N) : Memref sig .tc .vmem S512x1024 .bf16 := win0_6.stage (cfg0.slots t 6)
abbrev h8 (t : Fin cfg0.N) : (a8 t).IsWhole := hstage0_6 ((cfg0.slots t 6).cast nbuf0_6)
abbrev a9 (t : Fin cfg0.N) : Memref sig .tc .vmem S512x2048 .f32 := win0_7.stage (cfg0.slots t 7)
abbrev h9 (t : Fin cfg0.N) : (a9 t).IsWhole := hstage0_7 ((cfg0.slots t 7).cast nbuf0_7)
abbrev scr : Memref sig .tc .vmem S512x2048 .bf16 := Memref.whole cc0_scratch0

/-- The invariant the launch hands over: the scratch at anything and the generator register at some state. -/
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-! ## The proof data -/

/-- Before a step: at the first, what the launch hands over; afterwards the scratch holds the rows the step before
    normalized or kept. -/
def Inv (c : Dev nD) : (n : ℕ) → n ≤ cfg0.N → sProp 𝕄
  | 0, _ => Pipeline.ΦA spec0 c
  | n + 1, hn => iprop(iprop(owns (c : Thread nD τ) scr fullShare (norms m c ⟨n, hn⟩)) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) scr fullShare (norms m c ⟨n, hn⟩)) ∗ (∃ r, prngReg c r)) := rfl
theorem Inv_pos (c : Dev nD) (n : ℕ) (h : n ≤ cfg0.N) (hz : n ≠ 0) :
    Inv m c n h = iprop(iprop(owns (c : Thread nD τ) scr fullShare (norms m c ⟨n - 1, by omega⟩)) ∗ (∃ r, prngReg c r)) := by
  cases n with
  | zero => exact absurd rfl hz
  | succ n => rfl

/-- The arrays as the call finds them; after a step each input's buffer at its block, the first result's at the product,
    the second's at the residual stream's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => iblk m c 4 t
    | ⟨5, _⟩ => iblk m c 5 t
    | ⟨6, _⟩ => k0_pay3 (norms m c t) (iblk m c 5 t)
    | ⟨7, _⟩ => stream m c t
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = X0_3 m c t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay3 (norms m c t) (iblk m c 5 t) := by dsimp only [dats]
theorem after7 (c : Dev nD) (t : Fin cfg0.N) : (dats m 0 c).after 7 t = stream m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = X0_3 m c t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- A step is idle for the second result exactly when it is not its row block's first. -/
theorem idle_of (t : Fin cfg0.N) (h : ¬ t.val % 6 = 0) : cfg0.idle 7 (cfg0.grid.coords t) = true := by
  show (!(k0_cond1 (grid0.coords t) == 1#1)) = true
  rw [beq_false_of_ne fun e => h ((cond_iff t).mp e)]; rfl
theorem live_of (t : Fin cfg0.N) (h : t.val % 6 = 0) : cfg0.idle 7 (cfg0.grid.coords t) = false := by
  show (!(k0_cond1 (grid0.coords t) == 1#1)) = false
  rw [(cond_iff t).mpr h]; rfl

/-- Past a row block's first step the second result's buffer holds the residual stream's block. -/
theorem before7 (c : Dev nD) : (n : ℕ) → (h : n < cfg0.N) → ¬ n % 6 = 0 → ∀ d, (dats m 0 c).before 7 ⟨n, h⟩ d = stream m c ⟨n, h⟩ := by
  intro n
  induction n with
  | zero => intro _ h; exact absurd rfl h
  | succ n ih =>
    intro h h6 d
    have hn := Nat.lt_of_succ_lt h
    have hfl : (cfg0.win 7).flush ⟨n, hn⟩ = false := Bool.eq_false_iff.mpr fun e => by
      have := (flush0_7 _).mp e; dsimp only at this; omega
    rw [(dats m 0 c).before_of_pos 7 ⟨n + 1, h⟩ (Nat.succ_ne_zero n) ((cfg0.win 7).fetch_out rfl _) d]
    rw [show (⟨(⟨n + 1, h⟩ : Fin cfg0.N).val - 1, Nat.lt_of_le_of_lt (Nat.sub_le _ _) h⟩ : Fin cfg0.N) = ⟨n, hn⟩ from rfl, hfl, if_neg Bool.false_ne_true]
    refine Eq.trans ?_ (stream_keep m c n h h6)
    unfold Dat.left
    by_cases hz : n % 6 = 0
    · rw [live_of ⟨n, hn⟩ hz]
      exact (after7 m c ⟨n, hn⟩ : _)
    · rw [idle_of ⟨n, hn⟩ hz]
      exact ih hn hz d

/-! ## The body obligation -/

def Pre (c : Dev nD) (t : Fin cfg0.N) : sProp 𝕄 :=
  iprop((dats m 0 c).Φ t.castSucc ∗ (dats m 0 c).owesAt () t.castSucc
    ∗ (∃ d, owns (c : Thread nD τ) (a2 t) fullShare ((dats m 0 c).before 0 t d))
    ∗ (∃ d, owns (c : Thread nD τ) (a3 t) fullShare ((dats m 0 c).before 1 t d))
    ∗ (∃ d, owns (c : Thread nD τ) (a4 t) fullShare ((dats m 0 c).before 2 t d))
    ∗ (∃ d, owns (c : Thread nD τ) (a5 t) fullShare ((dats m 0 c).before 3 t d))
    ∗ (∃ d, owns (c : Thread nD τ) (a6 t) fullShare ((dats m 0 c).before 4 t d))
    ∗ (∃ d, owns (c : Thread nD τ) (a7 t) fullShare ((dats m 0 c).before 5 t d))
    ∗ (∃ d, owns (c : Thread nD τ) (a8 t) fullShare ((dats m 0 c).before 6 t d))
    ∗ (∃ d, owns (c : Thread nD τ) (a9 t) fullShare ((dats m 0 c).before 7 t d)))

def Post (c : Dev nD) (t : Fin cfg0.N) : sProp 𝕄 :=
  iprop((dats m 0 c).Φ t.succ ∗ (dats m 0 c).owesAt () t.succ
    ∗ owns (c : Thread nD τ) (a2 t) fullShare ((dats m 0 c).after 0 t)
    ∗ owns (c : Thread nD τ) (a3 t) fullShare ((dats m 0 c).after 1 t)
    ∗ owns (c : Thread nD τ) (a4 t) fullShare ((dats m 0 c).after 2 t)
    ∗ owns (c : Thread nD τ) (a5 t) fullShare ((dats m 0 c).after 3 t)
    ∗ owns (c : Thread nD τ) (a6 t) fullShare ((dats m 0 c).after 4 t)
    ∗ owns (c : Thread nD τ) (a7 t) fullShare ((dats m 0 c).after 5 t)
    ∗ owns (c : Thread nD τ) (a8 t) fullShare ((dats m 0 c).after 6 t)
    ∗ (dats m 0 c).leavesExact 7 t)

/-- The second result's buffer at the residual stream's block is what a step has to leave there, stored or kept. -/
theorem leaves7 (c : Dev nD) (t : Fin cfg0.N) :
    (owns (c : Thread nD τ) (a9 t) fullShare (stream m c t) : sProp 𝕄) ⊢ (dats m 0 c).leavesExact 7 t := by
  by_cases h0 : t.val % 6 = 0
  · unfold Dat.leavesExact
    rw [live_of t h0, after7]
  · cases hf : (cfg0.win 7).flush t
    · rw [(dats m 0 c).leavesExact_idle 7 t (idle_of t h0) hf]
      iintro H
      iexists (stream m c t)
      rw [before7 m c t.val t.isLt h0]
      iexact H
    · unfold Dat.leavesExact
      rw [idle_of t h0, hf, after7]

/-- What the stores of a row block's first step leave. -/
theorem leftA6 (c : Dev nD) (t : Fin cfg0.N) (hc : k0_cond1 (grid0.coords t) = 1#1) (f) :
    (a8 t).view.read (Elt F) ((a8 t).view.writes (Elt F) f (runA c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) hc).1)
      = k0_pay3 (norms m c t) (iblk m c 5 t) := by
  rw [piecesA, ldX_eq, ldG2_eq, ldG3_eq, ldP_eq, ldP_eq, ldA_eq, ldW_eq, cov_rows]
  exact read_out _ _ _
theorem leftA7 (c : Dev nD) (t : Fin cfg0.N) (hc : k0_cond1 (grid0.coords t) = 1#1) (f) :
    (a9 t).view.read (Elt F) ((a9 t).view.writes (Elt F) f (runA c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) hc).2.1)
      = stream m c t := by
  rw [piecesA7, ldX_eq, ldG2_eq, ldG3_eq, ldP_eq, ldP_eq]
  exact read_rows _ _ _
theorem leftAS (c : Dev nD) (t : Fin cfg0.N) (hc : k0_cond1 (grid0.coords t) = 1#1) (f) :
    scr.view.read (Elt F) (scr.view.writes (Elt F) f (runA c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) hc).2.2.1)
      = norms m c t := by
  rw [piecesAS, ldX_eq, ldG2_eq, ldG3_eq, ldP_eq, ldP_eq, ldA_eq]
  exact read_rows _ _ _
theorem leftB6 (c : Dev nD) (t : Fin cfg0.N) (hc : ¬ k0_cond1 (grid0.coords t) = 1#1) (f) :
    (a8 t).view.read (Elt F) ((a8 t).view.writes (Elt F) f (runB c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) (norms m c t) (stream m c t) hc).1)
      = k0_pay3 (norms m c t) (iblk m c 5 t) := by
  rw [piecesB, ldN_eq, ldW_eq]
  exact read_out _ _ _

set_option maxHeartbeats 3200000 in
theorem sound_body (c : Dev nD) (t : Fin cfg0.N) :
    Pre m c t ⊢ wp frame (wpE (defs₀ (F := F)) Variants.none c none) Set.univ (bodyAt0 t) (fun _ => Post m c t) := by
  have l7 := leaves7 m c t
  unfold Pre Post bodyAt0
  simp only [before0, before1, before2, before3, before4, before5]
  rw [show (dats m 0 c).owesAt () t.succ = (dats m 0 c).owesAt () t.castSucc from rfl, after0, after1, after2, after3, after4, after5, after6]
  rw [show (dats m 0 c).Φ t.succ = Inv m c (t.val + 1) t.isLt from rfl, Inv_succ]
  by_cases h0 : t.val % 6 = 0
  · have hc := (cond_iff t).mpr h0
    by_cases hz : t.val = 0
    · rw [Phi_castSucc m c t, Inv_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) hc).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hg]
      · isplitl [HS]
        · unfold owns; iexists _; isplitr
          swap; · iexact HS
          ipureintro; exact leftAS m c t hc es
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact leftA6 m c t hc e6
      iapply l7
      unfold owns; iexists _; isplitr
      swap; · iexact H7
      ipureintro; exact leftA7 m c t hc e7
    · rw [Phi_castSucc m c t, Inv_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) hc).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexists _; iexact HS
      iintro ⟨H0, H1, H2, H3, H4, H5, ⟨%e6, H6⟩, ⟨%e7, H7⟩, ⟨%es, HS⟩⟩
      isplitl [HS Hg]
      · isplitl [HS]
        · unfold owns; iexists _; isplitr
          swap; · iexact HS
          ipureintro; exact leftAS m c t hc es
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact leftA6 m c t hc e6
      iapply l7
      unfold owns; iexists _; isplitr
      swap; · iexact H7
      ipureintro; exact leftA7 m c t hc e7
  · have hc : ¬ k0_cond1 (grid0.coords t) = 1#1 := fun e => h0 ((cond_iff t).mp e)
    have hz : t.val ≠ 0 := fun e => h0 (by rw [e])
    have hk : norms m c ⟨t.val - 1, by omega⟩ = norms m c t := by
      obtain ⟨n, hn⟩ := t
      cases n with
      | zero => exact absurd rfl hz
      | succ n => exact norms_keep m c n hn h0
    rw [Phi_castSucc m c t, Inv_pos m c _ _ hz, hk]
    simp only [before7 m c t.val t.isLt h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) (norms m c t) (stream m c t) hc).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, ⟨%e6, H6⟩, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact leftB6 m c t hc e6
    iapply l7
    iexact H7

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]

theorem hout (c : Dev nD) : (dats m 0 c).Φ (Fin.last cfg0.N) ⊢ Pipeline.ΦA spec0 c := by
  rw [show (dats m 0 c).Φ (Fin.last cfg0.N) = Inv m c cfg0.N (Nat.le_refl _) from rfl, Inv_pos m c _ _ (by have : cfg0.N = 96 := N_0; omega), PhiA_eq]
  iintro ⟨HS, Hg⟩
  isplitl [HS]
  · iexists _; iexact HS
  iexact Hg

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.SecondNormProj

end
-- ==== Proof.SecondNormWords.lean ====
/- The second layer's norm and combined projection in the machine's own words: the run of the whole call, as
   `SecondNormFrame`, `SecondNormBlocks` and `SecondNormRun` give it for the idealized program. -/
module

public import proofs.«01_k».proof.Defs
public import proofs.«01_k».proof.Proof.Gen.Kernel7.Frame
public import proofs.«01_k».proof.Proof.Gen.Kernel7.Skeleton
public import Idealize.ShloMosaic.Lib.Pipeline.ValueKit
public import Idealize.ShloMosaic.Lib.Claim
public import Idealize.ShloMosaic.Lib.VecWindow

@[expose] public section

set_option maxRecDepth 16384

noncomputable section

namespace Cert.SecondNormProj.Words

open Cert.Kernel7 Cert.Kernel7.Gen Cert.Kernel7.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## One step, on any buffers -/

/-- The whole blocks as rectangles, and the two columns of gates. -/
abbrev rowsR : Rect S512x2048 := Rect.unit (s := S512x2048) ![0, 0] S512x2048.size inb_S512x2048_S512x2048_0_0
abbrev gate2R : Rect S512x128 := Rect.unit (s := S512x128) ![0, 2] S512x1.size inb_S512x128_S512x1_0_2
abbrev gate3R : Rect S512x128 := Rect.unit (s := S512x128) ![0, 3] S512x1.size inb_S512x128_S512x1_0_3
abbrev planeR : Rect S1x512x2048 := Rect.unit (s := S1x512x2048) ![0, 0, 0] S1x512x2048.size inb_S1x512x2048_S1x512x2048_0_0_0
abbrev gainR : Rect S1x2048 := Rect.unit (s := S1x2048) ![0, 0] S1x2048.size inb_S1x2048_S1x2048_0_0
abbrev weightR : Rect S2048x1024 := Rect.unit (s := S2048x1024) ![0, 0] S2048x1024.size inb_S2048x1024_S2048x1024_0_0
abbrev outR : Rect S512x1024 := Rect.unit (s := S512x1024) ![0, 0] S512x1024.size inb_S512x1024_S512x1024_0_0

/-- A column of the routing slab. -/
def gate (k : Fin 128) (x : Vec F S512x128 .f32) : Vec F S512x1 .f32 := fun y => x (ix2 (y 0) k)

/-- The rows of the residual stream with the experts' outputs added. -/
def newRows (x0 : Vec F S512x2048 .f32) (x1 : Vec F S512x128 .f32) (x2 x3 : Vec F S1x512x2048 .f32) : FVec F S512x2048 .f32 :=
  k0_pay1 x0 (gate 2 x1) x2 (gate 3 x1) x3

/-- Those rows, normalized. -/
def normRows (x0 : Vec F S512x2048 .f32) (x1 : Vec F S512x128 .f32) (x2 x3 : Vec F S1x512x2048 .f32) (x4 : Vec F S1x2048 .f32) : FVec F S512x2048 .bf16 :=
  k0_pay2 x0 (gate 2 x1) x2 (gate 3 x1) x3 x4

section step

variable (c : Dev nD) (i : grid0.Coords) (arg2 : Memref sig .tc .vmem S512x2048 .f32) (harg2 : arg2.IsWhole) (arg3 : Memref sig .tc .vmem S512x128 .f32) (harg3 : arg3.IsWhole)
  (arg4 : Memref sig .tc .vmem S1x512x2048 .f32) (harg4 : arg4.IsWhole) (arg5 : Memref sig .tc .vmem S1x512x2048 .f32) (harg5 : arg5.IsWhole)
  (arg6 : Memref sig .tc .vmem S1x2048 .f32) (harg6 : arg6.IsWhole) (arg7 : Memref sig .tc .vmem S2048x1024 .bf16) (harg7 : arg7.IsWhole)
  (arg8 : Memref sig .tc .vmem S512x1024 .bf16) (harg8 : arg8.IsWhole) (arg9 : Memref sig .tc .vmem S512x2048 .f32) (harg9 : arg9.IsWhole)
  (arg10 : Memref sig .tc .vmem S512x2048 .bf16) (harg10 : arg10.IsWhole)
  (x0 : Vec F S512x2048 .f32) (x1 : Vec F S512x128 .f32) (x2 x3 : Vec F S1x512x2048 .f32) (x4 : Vec F S1x2048 .f32) (x5 : Vec F S2048x1024 .bf16)
  (xn : Vec F S512x2048 .bf16)

def ldX : FVec F S512x2048 .f32 := View.readAt (Elt F) arg2.view rowsR.toLoadRect (harg2.unread x0)
def ldG2 : FVec F S512x1 .f32 := View.readAt (Elt F) arg3.view gate2R.toLoadRect (harg3.unread x1)
def ldG3 : FVec F S512x1 .f32 := View.readAt (Elt F) arg3.view gate3R.toLoadRect (harg3.unread x1)
def ldP (arg : Memref sig .tc .vmem S1x512x2048 .f32) (harg : arg.IsWhole) (x : Vec F S1x512x2048 .f32) : FVec F S1x512x2048 .f32 :=
  View.readAt (Elt F) arg.view planeR.toLoadRect (harg.unread x)
def ldA : FVec F S1x2048 .f32 := View.readAt (Elt F) arg6.view gainR.toLoadRect (harg6.unread x4)
def ldW : FVec F S2048x1024 .bf16 := View.readAt (Elt F) arg7.view weightR.toLoadRect (harg7.unread x5)
def ldN : FVec F S512x2048 .bf16 := View.readAt (Elt F) arg10.view rowsR.toLoadRect (harg10.unread xn)

/-- A load of a whole block is the block. -/
theorem ldX_eq : ldX arg2 harg2 x0 = x0 := by
  unfold ldX; rw [View.readAt_eq_ld, Memref.IsWhole.read_unread]; funext j; idx_vars j; pointwise
theorem ldG2_eq : ldG2 arg3 harg3 x1 = gate 2 x1 := by
  unfold ldG2 gate; rw [View.readAt_eq_ld, Memref.IsWhole.read_unread]; funext j; idx_vars j
  obtain rfl : j1 = 0 := Subsingleton.elim _ _
  pointwise
theorem ldG3_eq : ldG3 arg3 harg3 x1 = gate 3 x1 := by
  unfold ldG3 gate; rw [View.readAt_eq_ld, Memref.IsWhole.read_unread]; funext j; idx_vars j
  obtain rfl : j1 = 0 := Subsingleton.elim _ _
  pointwise
theorem ldP_eq (arg : Memref sig .tc .vmem S1x512x2048 .f32) (harg : arg.IsWhole) (x : Vec F S1x512x2048 .f32) : ldP arg harg x = x := by
  unfold ldP; rw [View.readAt_eq_ld, Memref.IsWhole.read_unread]; funext j; idx_vars j
  obtain rfl : j0 = 0 := Subsingleton.elim _ _
  pointwise
theorem ldA_eq : ldA arg6 harg6 x4 = x4 := by
  unfold ldA; rw [View.readAt_eq_ld, Memref.IsWhole.read_unread]; funext j; idx_vars j
  obtain rfl : j0 = 0 := Subsingleton.elim _ _
  pointwise
theorem ldW_eq : ldW arg7 harg7 x5 = x5 := by
  unfold ldW; rw [View.readAt_eq_ld, Memref.IsWhole.read_unread]; funext j; idx_vars j; pointwise
theorem ldN_eq : ldN arg10 harg10 xn = xn := by
  unfold ldN; rw [View.readAt_eq_ld, Memref.IsWhole.read_unread]; funext j; idx_vars j; pointwise

/-- One piece over a whole block leaves the piece. -/
theorem emb_rows (y : S512x2048.Idx) : rowsR.emb y = y := by
  funext a
  refine Fin.ext ((Rect.emb_apply rowsR y a).trans ?_)
  fin_cases a <;> simp [Rect.unit]
theorem canon_rows {e : EltTy} (P : Vec F S512x2048 e) : View.canon [(⟨rowsR, P⟩ : View.Piece (Elt F) S512x2048 e)] = P := by
  funext y
  have h := View.canon_cons_emb (Val := Elt F) (e := e) rowsR P [] y
  rw [emb_rows] at h
  exact h
theorem emb_out (y : S512x1024.Idx) : outR.emb y = y := by
  funext a
  refine Fin.ext ((Rect.emb_apply outR y a).trans ?_)
  fin_cases a <;> simp [Rect.unit]
theorem canon_out (P : FVec F S512x1024 .bf16) : View.canon [(⟨outR, P⟩ : View.Piece (Elt F) S512x1024 .bf16)] = P := by
  funext y
  have h := View.canon_cons_emb (Val := Elt F) (e := .bf16) outR P [] y
  rw [emb_out] at h
  exact h
theorem cov_rows {sg : RefSig} {κ : Kind} {sp : Space} (v : View sg κ sp S512x2048 .bf16) (P : FVec F S512x2048 .bf16) :
    v.readCov [(⟨rowsR, P⟩ : View.Piece (Elt F) S512x2048 .bf16)] rowsR.toLoadRect = P := by
  rw [View.readCov_eq_canon', canon_rows]
  funext j
  refine congrArg P ?_
  funext a
  refine Fin.ext ((Rect.idx_unit_val _ _ _ _ a).trans ?_)
  fin_cases a <;> simp

/-- A row block's first step: the pieces it stores, and its run. -/
noncomputable def runA (hc : k0_cond1 i = 1#1) :
    Σ' (L6 : List (View.Piece (Elt F) S512x1024 .bf16)) (L7 : List (View.Piece (Elt F) S512x2048 .f32)), { LS : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS)) -∗ K ⟨⟩))
          ⊢ wp frame (wpE (defs₀ (F := F)) Variants.none c none) E (cc0__norm_proj_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__norm_proj_kernel_eq_skeleton]; unfold cc0__norm_proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS

/-- Another step: the piece it stores, and its run; the second result's block and the scratch stay as they are. -/
noncomputable def runB (x7 : Vec F S512x2048 .f32) (hc : ¬ k0_cond1 i = 1#1) :
    { L6 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5
            ∗ (∃ d, owns (c : Thread nD τ) arg8 fullShare d) ∗ owns (c : Thread nD τ) arg9 fullShare x7 ∗ owns (c : Thread nD τ) arg10 fullShare xn
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ owns (c : Thread nD τ) arg9 fullShare x7 ∗ owns (c : Thread nD τ) arg10 fullShare xn) -∗ K ⟨⟩))
          ⊢ wp frame (wpE (defs₀ (F := F)) Variants.none c none) E (cc0__norm_proj_kernel i arg2 harg2 arg3 harg3 arg4 harg4 arg5 harg5 arg6 harg6 arg7 harg7 arg8 harg8 arg9 harg9 arg10 harg10) K } := by
  refine ⟨?_, fun E K => ?run⟩
  case run =>
    simp only [cc0__norm_proj_kernel_eq_skeleton]; unfold cc0__norm_proj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hf7; obtain rfl := harg10.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS

/-- The pieces, spelled out. -/
theorem piecesA (hc : k0_cond1 i = 1#1) :
    (runA c i arg2 harg2 arg3 harg3 arg4 harg4 arg5 harg5 arg6 harg6 arg7 harg7 arg8 harg8 arg9 harg9 arg10 harg10 x0 x1 x2 x3 x4 x5 hc).1
      = [⟨outR, k0_pay3 (arg10.view.readCov [⟨rowsR, k0_pay2 (ldX arg2 harg2 x0) (ldG2 arg3 harg3 x1) (ldP arg4 harg4 x2) (ldG3 arg3 harg3 x1) (ldP arg5 harg5 x3) (ldA arg6 harg6 x4)⟩] rowsR.toLoadRect) (ldW arg7 harg7 x5)⟩] := by
  sl_kernel_rfl
theorem piecesA7 (hc : k0_cond1 i = 1#1) :
    (runA c i arg2 harg2 arg3 harg3 arg4 harg4 arg5 harg5 arg6 harg6 arg7 harg7 arg8 harg8 arg9 harg9 arg10 harg10 x0 x1 x2 x3 x4 x5 hc).2.1
      = [⟨rowsR, k0_pay1 (ldX arg2 harg2 x0) (ldG2 arg3 harg3 x1) (ldP arg4 harg4 x2) (ldG3 arg3 harg3 x1) (ldP arg5 harg5 x3)⟩] := by
  sl_kernel_rfl
theorem piecesAS (hc : k0_cond1 i = 1#1) :
    (runA c i arg2 harg2 arg3 harg3 arg4 harg4 arg5 harg5 arg6 harg6 arg7 harg7 arg8 harg8 arg9 harg9 arg10 harg10 x0 x1 x2 x3 x4 x5 hc).2.2.1
      = [⟨rowsR, k0_pay2 (ldX arg2 harg2 x0) (ldG2 arg3 harg3 x1) (ldP arg4 harg4 x2) (ldG3 arg3 harg3 x1) (ldP arg5 harg5 x3) (ldA arg6 harg6 x4)⟩] := by
  sl_kernel_rfl
theorem piecesB (x7 : Vec F S512x2048 .f32) (hc : ¬ k0_cond1 i = 1#1) :
    (runB c i arg2 harg2 arg3 harg3 arg4 harg4 arg5 harg5 arg6 harg6 arg7 harg7 arg8 harg8 arg9 harg9 arg10 harg10 x0 x1 x2 x3 x4 x5 xn x7 hc).1
      = [⟨outR, k0_pay3 (ldN arg10 harg10 xn) (ldW arg7 harg7 x5)⟩] := by
  sl_kernel_rfl

end step

variable (m : (ℓ : Loc nD τ sig) → Buf (Elt F) ℓ) (ρ : Dev nD → PrngReg)

theorem lt96 (t : Fin cfg0.N) : t.val < 96 := t.isLt.trans_eq N_0

theorem cond_iff : ∀ t : Fin grid0.N, k0_cond1 (grid0.coords t) = 1#1 ↔ t.val % 6 = 0 := by decide +kernel

theorem index0 : ∀ t : Fin grid0.N, win0_0.index t = ![t.val / 6, 0] := by decide +kernel
theorem index1 : ∀ t : Fin grid0.N, win0_1.index t = ![t.val / 6, 0] := by decide +kernel
theorem index2 : ∀ t : Fin grid0.N, win0_2.index t = ![0, t.val / 6, 0] := by decide +kernel
theorem index3 : ∀ t : Fin grid0.N, win0_3.index t = ![1, t.val / 6, 0] := by decide +kernel
theorem index4 : ∀ t : Fin grid0.N, win0_4.index t = ![0, 0] := by decide +kernel
theorem index5 : ∀ t : Fin grid0.N, win0_5.index t = ![0, t.val % 6] := by decide +kernel
theorem index6 : ∀ t : Fin grid0.N, win0_6.index t = ![t.val / 6, t.val % 6] := by decide +kernel
theorem index7 : ∀ t : Fin grid0.N, win0_7.index t = ![t.val / 6, 0] := by decide +kernel

theorem iblk0 (c : Dev nD) (t : Fin cfg0.N) (R : Fin 512) (d : Fin 2048) :
    iblk m c 0 t (ix2 R d) = V m c main_arg0 (ix2 ⟨512 * (t.val / 6) + R.val, by have := lt96 t; omega⟩ d) := by
  blk_point [iblk, index0 t]

theorem iblk1 (c : Dev nD) (t : Fin cfg0.N) (R : Fin 512) (k : Fin 128) :
    iblk m c 1 t (ix2 R k) = V m c main_arg1 (ix2 ⟨512 * (t.val / 6) + R.val, by have := lt96 t; omega⟩ k) := by
  blk_point [iblk, index1 t]

theorem iblk4 (c : Dev nD) (t : Fin cfg0.N) (d : Fin 2048) :
    iblk m c 4 t (ix2 0 d) = V m c main_v5 (ix2 0 d) := by
  blk_point [iblk, index4 t]

theorem iblk5 (c : Dev nD) (t : Fin cfg0.N) (e : Fin 2048) (d : Fin 1024) :
    iblk m c 5 t (ix2 e d) = V m c main_v4 (ix2 e ⟨1024 * (t.val % 6) + d.val, by omega⟩) := by
  blk_point [iblk, index5 t]

/-- The two planes' blocks. -/
theorem plane0 (c : Dev nD) (t : Fin cfg0.N) (R : Fin 512) (d : Fin 2048) :
    X0_2 m c t (ix3 0 R d) = V m c main_arg2 (ix3 0 ⟨512 * (t.val / 6) + R.val, by have := lt96 t; omega⟩ d) := by
  unfold X0_2 Pipeline.Window.fill
  rw [dif_pos (moved0_2 t _)]
  have h := index2 t
  have e0 : win0_2.index t 0 = 0 := congrFun h 0
  have e1 : win0_2.index t 1 = t.val / 6 := congrFun h 1
  have e2 : win0_2.index t 2 = 0 := congrFun h 2
  refine congrArg (V m c main_arg2) ?_
  funext a
  refine Fin.ext ?_
  fin_cases a
  · show win0_2.index t 0 * 1 + 1 * 0 = 0
    rw [e0]
  · show win0_2.index t 1 * 512 + 1 * R.val = 512 * (t.val / 6) + R.val
    omega
  · show win0_2.index t 2 * 2048 + 1 * d.val = d.val
    omega

theorem plane1 (c : Dev nD) (t : Fin cfg0.N) (R : Fin 512) (d : Fin 2048) :
    X0_3 m c t (ix3 0 R d) = V m c main_arg2 (ix3 1 ⟨512 * (t.val / 6) + R.val, by have := lt96 t; omega⟩ d) := by
  unfold X0_3 Pipeline.Window.fill
  rw [dif_pos (moved0_3 t _)]
  have h := index3 t
  have e0 : win0_3.index t 0 = 1 := congrFun h 0
  have e1 : win0_3.index t 1 = t.val / 6 := congrFun h 1
  have e2 : win0_3.index t 2 = 0 := congrFun h 2
  refine congrArg (V m c main_arg2) ?_
  funext a
  refine Fin.ext ?_
  fin_cases a
  · show win0_3.index t 0 * 1 + 1 * 0 = 1
    omega
  · show win0_3.index t 1 * 512 + 1 * R.val = 512 * (t.val / 6) + R.val
    omega
  · show win0_3.index t 2 * 2048 + 1 * d.val = d.val
    omega

/-- The residual stream's block at a step, and its rows normalized. -/
def stream (c : Dev nD) (t : Fin cfg0.N) : FVec F S512x2048 .f32 :=
  newRows (iblk m c 0 t) (iblk m c 1 t) (X0_2 m c t) (X0_3 m c t)
def norms (c : Dev nD) (t : Fin cfg0.N) : FVec F S512x2048 .bf16 :=
  normRows (iblk m c 0 t) (iblk m c 1 t) (X0_2 m c t) (X0_3 m c t) (iblk m c 4 t)

section keep
variable (c : Dev nD) (n : ℕ) (h : n + 1 < cfg0.N) (h6 : ¬ (n + 1) % 6 = 0)
include h6

theorem keep0 : (iblk m c 0 ⟨n, Nat.lt_of_succ_lt h⟩ : Vec F S512x2048 .f32) = iblk m c 0 ⟨n + 1, h⟩ := by
  have a : n / 6 = (n + 1) / 6 := by omega
  funext y
  rw [show y = ix2 (y 0) (y 1) from eq_ix2 y]
  refine (iblk0 m c _ _ _).trans (Eq.trans ?_ (iblk0 m c _ _ _).symm)
  simp only [a]
theorem keep1 : (iblk m c 1 ⟨n, Nat.lt_of_succ_lt h⟩ : Vec F S512x128 .f32) = iblk m c 1 ⟨n + 1, h⟩ := by
  have a : n / 6 = (n + 1) / 6 := by omega
  funext y
  rw [show y = ix2 (y 0) (y 1) from eq_ix2 y]
  refine (iblk1 m c _ _ _).trans (Eq.trans ?_ (iblk1 m c _ _ _).symm)
  simp only [a]
theorem keep2 : (X0_2 m c ⟨n, Nat.lt_of_succ_lt h⟩ : Vec F S1x512x2048 .f32) = X0_2 m c ⟨n + 1, h⟩ := by
  have a : n / 6 = (n + 1) / 6 := by omega
  funext y
  rw [show y = ix3 (0 : Fin 1) (y 1) (y 2) from (eq_ix3 y).trans (congrArg (ix3 · (y 1) (y 2)) (Subsingleton.elim (α := Fin 1) _ _))]
  refine (plane0 m c _ _ _).trans (Eq.trans ?_ (plane0 m c _ _ _).symm)
  simp only [a]
theorem keep3 : (X0_3 m c ⟨n, Nat.lt_of_succ_lt h⟩ : Vec F S1x512x2048 .f32) = X0_3 m c ⟨n + 1, h⟩ := by
  have a : n / 6 = (n + 1) / 6 := by omega
  funext y
  rw [show y = ix3 (0 : Fin 1) (y 1) (y 2) from (eq_ix3 y).trans (congrArg (ix3 · (y 1) (y 2)) (Subsingleton.elim (α := Fin 1) _ _))]
  refine (plane1 m c _ _ _).trans (Eq.trans ?_ (plane1 m c _ _ _).symm)
  simp only [a]
omit h6 in
theorem keep4 : (iblk m c 4 ⟨n, Nat.lt_of_succ_lt h⟩ : Vec F S1x2048 .f32) = iblk m c 4 ⟨n + 1, h⟩ := by
  funext y
  rw [show y = ix2 (0 : Fin 1) (y 1) from (eq_ix2 y).trans (congrArg (ix2 · (y 1)) (Subsingleton.elim (α := Fin 1) _ _))]
  exact (iblk4 m c _ _).trans (iblk4 m c _ _).symm

/-- Within a row block's six steps neither changes. -/
theorem stream_keep : stream m c ⟨n, Nat.lt_of_succ_lt h⟩ = stream m c ⟨n + 1, h⟩ := by
  unfold stream
  rw [keep0 m c n h h6, keep1 m c n h h6, keep2 m c n h h6, keep3 m c n h h6]
theorem norms_keep : norms m c ⟨n, Nat.lt_of_succ_lt h⟩ = norms m c ⟨n + 1, h⟩ := by
  unfold norms
  rw [keep0 m c n h h6, keep1 m c n h h6, keep2 m c n h h6, keep3 m c n h h6, keep4 m c n h]
end keep

/-! ## What a step's stores leave -/

/-- One whole-block piece read back, over whatever was there. -/
theorem read_rows {e : EltTy} {sg : RefSig} {κ : Kind} {sp : Space} (v : View sg κ sp S512x2048 e) (f : v.ty.Contents (Elt F)) (P : Vec F S512x2048 e) :
    v.read (Elt F) (v.writes (Elt F) f [⟨rowsR, P⟩]) = P :=
  (View.read_writes_of_cover v f v v.junk _ (View.cover_of_tiledL _ S512x2048.size (by sl_kernel_rfl))).trans
    ((View.read_writes_junk_eq_canon v _).trans (canon_rows P))
theorem read_out {sg : RefSig} {κ : Kind} {sp : Space} (v : View sg κ sp S512x1024 .bf16) (f : v.ty.Contents (Elt F)) (P : FVec F S512x1024 .bf16) :
    v.read (Elt F) (v.writes (Elt F) f [⟨outR, P⟩]) = P :=
  (View.read_writes_of_cover v f v v.junk _ (View.cover_of_tiledL _ S512x1024.size (by sl_kernel_rfl))).trans
    ((View.read_writes_junk_eq_canon v _).trans (canon_out P))

/-! ## The memrefs at a point -/

abbrev a2 (t : Fin cfg0.N) : Memref sig .tc .vmem S512x2048 .f32 := win0_0.stage (cfg0.slots t 0)
abbrev h2 (t : Fin cfg0.N) : (a2 t).IsWhole := hstage0_0 ((cfg0.slots t 0).cast nbuf0_0)
abbrev a3 (t : Fin cfg0.N) : Memref sig .tc .vmem S512x128 .f32 := win0_1.stage (cfg0.slots t 1)
abbrev h3 (t : Fin cfg0.N) : (a3 t).IsWhole := hstage0_1 ((cfg0.slots t 1).cast nbuf0_1)
abbrev a4 (t : Fin cfg0.N) : Memref sig .tc .vmem S1x512x2048 .f32 := win0_2.stage (cfg0.slots t 2)
abbrev h4 (t : Fin cfg0.N) : (a4 t).IsWhole := hstage0_2 ((cfg0.slots t 2).cast nbuf0_2)
abbrev a5 (t : Fin cfg0.N) : Memref sig .tc .vmem S1x512x2048 .f32 := win0_3.stage (cfg0.slots t 3)
abbrev h5 (t : Fin cfg0.N) : (a5 t).IsWhole := hstage0_3 ((cfg0.slots t 3).cast nbuf0_3)
abbrev a6 (t : Fin cfg0.N) : Memref sig .tc .vmem S1x2048 .f32 := win0_4.stage (cfg0.slots t 4)
abbrev h6 (t : Fin cfg0.N) : (a6 t).IsWhole := hstage0_4 ((cfg0.slots t 4).cast nbuf0_4)
abbrev a7 (t : Fin cfg0.N) : Memref sig .tc .vmem S2048x1024 .bf16 := win0_5.stage (cfg0.slots t 5)
abbrev h7 (t : Fin cfg0.N) : (a7 t).IsWhole := hstage0_5 ((cfg0.slots t 5).cast nbuf0_5)
abbrev a8 (t : Fin cfg0.N) : Memref sig .tc .vmem S512x1024 .bf16 := win0_6.stage (cfg0.slots t 6)
abbrev h8 (t : Fin cfg0.N) : (a8 t).IsWhole := hstage0_6 ((cfg0.slots t 6).cast nbuf0_6)
abbrev a9 (t : Fin cfg0.N) : Memref sig .tc .vmem S512x2048 .f32 := win0_7.stage (cfg0.slots t 7)
abbrev h9 (t : Fin cfg0.N) : (a9 t).IsWhole := hstage0_7 ((cfg0.slots t 7).cast nbuf0_7)
abbrev scr : Memref sig .tc .vmem S512x2048 .bf16 := Memref.whole cc0_scratch0

/-- The invariant the launch hands over: the scratch at anything and the generator register at some state. -/
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-! ## The proof data -/

/-- Before a step: at the first, what the launch hands over; afterwards the scratch holds the rows the step before
    normalized or kept. -/
def Inv (c : Dev nD) : (n : ℕ) → n ≤ cfg0.N → sProp 𝕄
  | 0, _ => Pipeline.ΦA spec0 c
  | n + 1, hn => iprop(iprop(owns (c : Thread nD τ) scr fullShare (norms m c ⟨n, hn⟩)) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) scr fullShare (norms m c ⟨n, hn⟩)) ∗ (∃ r, prngReg c r)) := rfl
theorem Inv_pos (c : Dev nD) (n : ℕ) (h : n ≤ cfg0.N) (hz : n ≠ 0) :
    Inv m c n h = iprop(iprop(owns (c : Thread nD τ) scr fullShare (norms m c ⟨n - 1, by omega⟩)) ∗ (∃ r, prngReg c r)) := by
  cases n with
  | zero => exact absurd rfl hz
  | succ n => rfl

/-- The arrays as the call finds them; after a step each input's buffer at its block, the first result's at the product,
    the second's at the residual stream's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => iblk m c 4 t
    | ⟨5, _⟩ => iblk m c 5 t
    | ⟨6, _⟩ => k0_pay3 (norms m c t) (iblk m c 5 t)
    | ⟨7, _⟩ => stream m c t
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = X0_3 m c t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay3 (norms m c t) (iblk m c 5 t) := by dsimp only [dats]
theorem after7 (c : Dev nD) (t : Fin cfg0.N) : (dats m 0 c).after 7 t = stream m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = X0_3 m c t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- A step is idle for the second result exactly when it is not its row block's first. -/
theorem idle_of (t : Fin cfg0.N) (h : ¬ t.val % 6 = 0) : cfg0.idle 7 (cfg0.grid.coords t) = true := by
  show (!(k0_cond1 (grid0.coords t) == 1#1)) = true
  rw [beq_false_of_ne fun e => h ((cond_iff t).mp e)]; rfl
theorem live_of (t : Fin cfg0.N) (h : t.val % 6 = 0) : cfg0.idle 7 (cfg0.grid.coords t) = false := by
  show (!(k0_cond1 (grid0.coords t) == 1#1)) = false
  rw [(cond_iff t).mpr h]; rfl

/-- Past a row block's first step the second result's buffer holds the residual stream's block. -/
theorem before7 (c : Dev nD) : (n : ℕ) → (h : n < cfg0.N) → ¬ n % 6 = 0 → ∀ d, (dats m 0 c).before 7 ⟨n, h⟩ d = stream m c ⟨n, h⟩ := by
  intro n
  induction n with
  | zero => intro _ h; exact absurd rfl h
  | succ n ih =>
    intro h h6 d
    have hn := Nat.lt_of_succ_lt h
    have hfl : (cfg0.win 7).flush ⟨n, hn⟩ = false := Bool.eq_false_iff.mpr fun e => by
      have := (flush0_7 _).mp e; dsimp only at this; omega
    rw [(dats m 0 c).before_of_pos 7 ⟨n + 1, h⟩ (Nat.succ_ne_zero n) ((cfg0.win 7).fetch_out rfl _) d]
    rw [show (⟨(⟨n + 1, h⟩ : Fin cfg0.N).val - 1, Nat.lt_of_le_of_lt (Nat.sub_le _ _) h⟩ : Fin cfg0.N) = ⟨n, hn⟩ from rfl, hfl, if_neg Bool.false_ne_true]
    refine Eq.trans ?_ (stream_keep m c n h h6)
    unfold Dat.left
    by_cases hz : n % 6 = 0
    · rw [live_of ⟨n, hn⟩ hz]
      exact (after7 m c ⟨n, hn⟩ : _)
    · rw [idle_of ⟨n, hn⟩ hz]
      exact ih hn hz d

/-! ## The body obligation -/

def Pre (c : Dev nD) (t : Fin cfg0.N) : sProp 𝕄 :=
  iprop((dats m 0 c).Φ t.castSucc ∗ (dats m 0 c).owesAt () t.castSucc
    ∗ (∃ d, owns (c : Thread nD τ) (a2 t) fullShare ((dats m 0 c).before 0 t d))
    ∗ (∃ d, owns (c : Thread nD τ) (a3 t) fullShare ((dats m 0 c).before 1 t d))
    ∗ (∃ d, owns (c : Thread nD τ) (a4 t) fullShare ((dats m 0 c).before 2 t d))
    ∗ (∃ d, owns (c : Thread nD τ) (a5 t) fullShare ((dats m 0 c).before 3 t d))
    ∗ (∃ d, owns (c : Thread nD τ) (a6 t) fullShare ((dats m 0 c).before 4 t d))
    ∗ (∃ d, owns (c : Thread nD τ) (a7 t) fullShare ((dats m 0 c).before 5 t d))
    ∗ (∃ d, owns (c : Thread nD τ) (a8 t) fullShare ((dats m 0 c).before 6 t d))
    ∗ (∃ d, owns (c : Thread nD τ) (a9 t) fullShare ((dats m 0 c).before 7 t d)))

def Post (c : Dev nD) (t : Fin cfg0.N) : sProp 𝕄 :=
  iprop((dats m 0 c).Φ t.succ ∗ (dats m 0 c).owesAt () t.succ
    ∗ owns (c : Thread nD τ) (a2 t) fullShare ((dats m 0 c).after 0 t)
    ∗ owns (c : Thread nD τ) (a3 t) fullShare ((dats m 0 c).after 1 t)
    ∗ owns (c : Thread nD τ) (a4 t) fullShare ((dats m 0 c).after 2 t)
    ∗ owns (c : Thread nD τ) (a5 t) fullShare ((dats m 0 c).after 3 t)
    ∗ owns (c : Thread nD τ) (a6 t) fullShare ((dats m 0 c).after 4 t)
    ∗ owns (c : Thread nD τ) (a7 t) fullShare ((dats m 0 c).after 5 t)
    ∗ owns (c : Thread nD τ) (a8 t) fullShare ((dats m 0 c).after 6 t)
    ∗ (dats m 0 c).leavesExact 7 t)

/-- The second result's buffer at the residual stream's block is what a step has to leave there, stored or kept. -/
theorem leaves7 (c : Dev nD) (t : Fin cfg0.N) :
    (owns (c : Thread nD τ) (a9 t) fullShare (stream m c t) : sProp 𝕄) ⊢ (dats m 0 c).leavesExact 7 t := by
  by_cases h0 : t.val % 6 = 0
  · unfold Dat.leavesExact
    rw [live_of t h0, after7]
  · cases hf : (cfg0.win 7).flush t
    · rw [(dats m 0 c).leavesExact_idle 7 t (idle_of t h0) hf]
      iintro H
      iexists (stream m c t)
      rw [before7 m c t.val t.isLt h0]
      iexact H
    · unfold Dat.leavesExact
      rw [idle_of t h0, hf, after7]

/-- What the stores of a row block's first step leave. -/
theorem leftA6 (c : Dev nD) (t : Fin cfg0.N) (hc : k0_cond1 (grid0.coords t) = 1#1) (f) :
    (a8 t).view.read (Elt F) ((a8 t).view.writes (Elt F) f (runA c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) hc).1)
      = k0_pay3 (norms m c t) (iblk m c 5 t) := by
  rw [piecesA, ldX_eq, ldG2_eq, ldG3_eq, ldP_eq, ldP_eq, ldA_eq, ldW_eq, cov_rows]
  exact read_out _ _ _
theorem leftA7 (c : Dev nD) (t : Fin cfg0.N) (hc : k0_cond1 (grid0.coords t) = 1#1) (f) :
    (a9 t).view.read (Elt F) ((a9 t).view.writes (Elt F) f (runA c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) hc).2.1)
      = stream m c t := by
  rw [piecesA7, ldX_eq, ldG2_eq, ldG3_eq, ldP_eq, ldP_eq]
  exact read_rows _ _ _
theorem leftAS (c : Dev nD) (t : Fin cfg0.N) (hc : k0_cond1 (grid0.coords t) = 1#1) (f) :
    scr.view.read (Elt F) (scr.view.writes (Elt F) f (runA c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) hc).2.2.1)
      = norms m c t := by
  rw [piecesAS, ldX_eq, ldG2_eq, ldG3_eq, ldP_eq, ldP_eq, ldA_eq]
  exact read_rows _ _ _
theorem leftB6 (c : Dev nD) (t : Fin cfg0.N) (hc : ¬ k0_cond1 (grid0.coords t) = 1#1) (f) :
    (a8 t).view.read (Elt F) ((a8 t).view.writes (Elt F) f (runB c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) (norms m c t) (stream m c t) hc).1)
      = k0_pay3 (norms m c t) (iblk m c 5 t) := by
  rw [piecesB, ldN_eq, ldW_eq]
  exact read_out _ _ _

set_option maxHeartbeats 3200000 in
theorem sound_body (c : Dev nD) (t : Fin cfg0.N) :
    Pre m c t ⊢ wp frame (wpE (defs₀ (F := F)) Variants.none c none) Set.univ (bodyAt0 t) (fun _ => Post m c t) := by
  have l7 := leaves7 m c t
  unfold Pre Post bodyAt0
  simp only [before0, before1, before2, before3, before4, before5]
  rw [show (dats m 0 c).owesAt () t.succ = (dats m 0 c).owesAt () t.castSucc from rfl, after0, after1, after2, after3, after4, after5, after6]
  rw [show (dats m 0 c).Φ t.succ = Inv m c (t.val + 1) t.isLt from rfl, Inv_succ]
  by_cases h0 : t.val % 6 = 0
  · have hc := (cond_iff t).mpr h0
    by_cases hz : t.val = 0
    · rw [Phi_castSucc m c t, Inv_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) hc).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hg]
      · isplitl [HS]
        · unfold owns; iexists _; isplitr
          swap; · iexact HS
          ipureintro; exact leftAS m c t hc es
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact leftA6 m c t hc e6
      iapply l7
      unfold owns; iexists _; isplitr
      swap; · iexact H7
      ipureintro; exact leftA7 m c t hc e7
    · rw [Phi_castSucc m c t, Inv_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) hc).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexists _; iexact HS
      iintro ⟨H0, H1, H2, H3, H4, H5, ⟨%e6, H6⟩, ⟨%e7, H7⟩, ⟨%es, HS⟩⟩
      isplitl [HS Hg]
      · isplitl [HS]
        · unfold owns; iexists _; isplitr
          swap; · iexact HS
          ipureintro; exact leftAS m c t hc es
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact leftA6 m c t hc e6
      iapply l7
      unfold owns; iexists _; isplitr
      swap; · iexact H7
      ipureintro; exact leftA7 m c t hc e7
  · have hc : ¬ k0_cond1 (grid0.coords t) = 1#1 := fun e => h0 ((cond_iff t).mp e)
    have hz : t.val ≠ 0 := fun e => h0 (by rw [e])
    have hk : norms m c ⟨t.val - 1, by omega⟩ = norms m c t := by
      obtain ⟨n, hn⟩ := t
      cases n with
      | zero => exact absurd rfl hz
      | succ n => exact norms_keep m c n hn h0
    rw [Phi_castSucc m c t, Inv_pos m c _ _ hz, hk]
    simp only [before7 m c t.val t.isLt h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) (a2 t) (h2 t) (a3 t) (h3 t) (a4 t) (h4 t) (a5 t) (h5 t) (a6 t) (h6 t) (a7 t) (h7 t) (a8 t) (h8 t) (a9 t) (h9 t) scr (Memref.isWhole_whole _) (iblk m c 0 t) (iblk m c 1 t) (X0_2 m c t) (X0_3 m c t) (iblk m c 4 t) (iblk m c 5 t) (norms m c t) (stream m c t) hc).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, ⟨%e6, H6⟩, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact leftB6 m c t hc e6
    iapply l7
    iexact H7

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]

theorem hout (c : Dev nD) : (dats m 0 c).Φ (Fin.last cfg0.N) ⊢ Pipeline.ΦA spec0 c := by
  rw [show (dats m 0 c).Φ (Fin.last cfg0.N) = Inv m c cfg0.N (Nat.le_refl _) from rfl, Inv_pos m c _ _ (by have : cfg0.N = 96 := N_0; omega), PhiA_eq]
  iintro ⟨HS, Hg⟩
  isplitl [HS]
  · iexists _; iexact HS
  iexact Hg

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.SecondNormProj.Words

end
-- ==== Proof.SecondNormProj.lean ====
/- The second layer's norm and combined projection, the experts' outputs added: the kernel's projection and residual
   stream are the reference's. -/
module

public import proofs.«01_k».proof.Proof.Rms
public import proofs.«01_k».proof.Proof.SecondNormRun
public import proofs.«01_k».proof.Proof.SecondNormWords
public import proofs.«01_k».proof.Proof.Gen.Reference7Ideal.Run
public import Idealize.ShloMosaic.Lib.Quiescent

@[expose] public section

set_option maxRecDepth 16384

noncomputable section

namespace Cert.SecondNormProj

open Cert.Kernel7Ideal Cert.Kernel7Ideal.Gen Cert.Kernel7Ideal.Facts
open Idealize.ShloMosaic Idealize.ShloMosaic.TcCoe Idealize.ShloMosaic.StableHlo Idealize.SL.Sem

/-- A row of the residual stream with its two weighted expert outputs added. -/
def mixed (a0 : FVec Ideal S8192x2048 .f32) (a1 : FVec Ideal S8192x128 .f32) (a2 : FVec Ideal S2x8448x2048 .f32) (r : Fin 8192) (d : Fin 2048) : EReal :=
  a0 (ix2 r d) + (a1 (ix2 r 2) * a2 (ix3 0 ⟨r.val, by omega⟩ d) + a1 (ix2 r 3) * a2 (ix3 1 ⟨r.val, by omega⟩ d))

/-- The two results, index by index. -/
def mixedArr (a0 : FVec Ideal S8192x2048 .f32) (a1 : FVec Ideal S8192x128 .f32) (a2 : FVec Ideal S2x8448x2048 .f32) : FVec Ideal S8192x2048 .f32 :=
  fun y => mixed a0 a1 a2 (y 0) (y 1)
def projected (a0 : FVec Ideal S8192x2048 .f32) (a1 : FVec Ideal S8192x128 .f32) (a2 : FVec Ideal S2x8448x2048 .f32) (a3 : FVec Ideal S2x2048 .f32)
    (a4 : FVec Ideal S2x2048x6144 .f32) : FVec Ideal S8192x6144 .bf16 :=
  fun y => ∑ e : Fin 2048, rms (mixed a0 a1 a2 (y 0)) (a3 (ix2 1 e)) e * a4 (ix3 1 e (y 1))

theorem mixedArr_apply (a0 : FVec Ideal S8192x2048 .f32) (a1 : FVec Ideal S8192x128 .f32) (a2 : FVec Ideal S2x8448x2048 .f32) (r : Fin 8192) (d : Fin 2048) :
    (mixedArr a0 a1 a2 (ix2 r d) : EReal) = mixed a0 a1 a2 r d := rfl
theorem projected_apply (a0 : FVec Ideal S8192x2048 .f32) (a1 : FVec Ideal S8192x128 .f32) (a2 : FVec Ideal S2x8448x2048 .f32) (a3 : FVec Ideal S2x2048 .f32)
    (a4 : FVec Ideal S2x2048x6144 .f32) (r : Fin 8192) (n : Fin 6144) :
    (projected a0 a1 a2 a3 a4 (ix2 r n) : EReal) = ∑ e : Fin 2048, rms (mixed a0 a1 a2 r) (a3 (ix2 1 e)) e * a4 (ix3 1 e n) := rfl

/-- A step's blocks, at an index. -/
theorem newRows_apply (x0 : FVec Ideal S512x2048 .f32) (x1 : FVec Ideal S512x128 .f32) (x2 x3 : FVec Ideal S1x512x2048 .f32) (R : Fin 512) (d : Fin 2048) :
    (newRows (F := Ideal) x0 x1 x2 x3 (ix2 R d) : EReal) = x0 (ix2 R d) + x1 (ix2 R 2) * x2 (ix3 0 R d) + x1 (ix2 R 3) * x3 (ix3 0 R d) := by
  unfold newRows k0_pay1 gate
  pointwise

theorem pay2_apply (x0 : FVec Ideal S512x2048 .f32) (g2 : FVec Ideal S512x1 .f32) (x2 : FVec Ideal S1x512x2048 .f32) (g3 : FVec Ideal S512x1 .f32)
    (x3 : FVec Ideal S1x512x2048 .f32) (x4 : FVec Ideal S1x2048 .f32) (R : Fin 512) (e : Fin 2048) :
    (k0_pay2 (F := Ideal) x0 g2 x2 g3 x3 x4 (ix2 R e) : EReal) = rms (fun e => k0_pay1 (F := Ideal) x0 g2 x2 g3 x3 (ix2 R e)) (x4 (ix2 0 e)) e := by
  unfold k0_pay2 rms
  generalize k0_pay1 (F := Ideal) x0 g2 x2 g3 x3 = z
  pointwise

theorem pay3_apply (n : FVec Ideal S512x2048 .bf16) (w : FVec Ideal S2048x1024 .bf16) (R : Fin 512) (d : Fin 1024) :
    (k0_pay3 (F := Ideal) n w (ix2 R d) : EReal) = ∑ e, (n (ix2 R e) : EReal) * w (ix2 e d) := by
  unfold k0_pay3
  pointwise

variable (m : (ℓ : Loc nD τ sig) → Buf (Elt Ideal) ℓ)

theorem entry4 (c : Dev nD) (d : Fin 2048) :
    V m c main_v5 (ix2 0 d) = m ((c : Thread nD τ).loc main_arg3) (ix2 1 d) := by
  unfold V
  simp only [hostOps0]
  after_results
  pointwise

theorem entry5 (c : Dev nD) (e : Fin 2048) (d : Fin 6144) :
    V m c main_v4 (ix2 e d) = m ((c : Thread nD τ).loc main_arg4) (ix3 1 e d) := by
  unfold V
  simp only [hostOps0]
  after_results
  pointwise

/-- The residual stream's block at a step is its rows of the new residual stream. -/
theorem stream_apply (c : Dev nD) (t : Fin cfg0.N) (R : Fin 512) (d : Fin 2048) :
    (stream m c t (ix2 R d) : EReal)
      = mixed (m ((c : Thread nD τ).loc main_arg0)) (m ((c : Thread nD τ).loc main_arg1)) (m ((c : Thread nD τ).loc main_arg2)) ⟨512 * (t.val / 6) + R.val, by have := lt96 t; omega⟩ d := by
  unfold stream
  refine (newRows_apply _ _ _ _ R d).trans ((add_assoc (_ : EReal) _ _).trans ?_)
  unfold mixed
  exact congrArg₂ (fun a b : EReal => a + b) ((iblk0 m c t R d).trans (congrFun (V_main_arg0 m c) _))
    (congrArg₂ (fun a b : EReal => a + b)
      (congrArg₂ (fun a b : EReal => a * b) ((iblk1 m c t R 2).trans (congrFun (V_main_arg1 m c) _)) ((plane0 m c t R d).trans (congrFun (V_main_arg2 m c) _)))
      (congrArg₂ (fun a b : EReal => a * b) ((iblk1 m c t R 3).trans (congrFun (V_main_arg1 m c) _)) ((plane1 m c t R d).trans (congrFun (V_main_arg2 m c) _))))

theorem norms_apply (c : Dev nD) (t : Fin cfg0.N) (R : Fin 512) (e : Fin 2048) :
    (norms m c t (ix2 R e) : EReal)
      = rms (mixed (m ((c : Thread nD τ).loc main_arg0)) (m ((c : Thread nD τ).loc main_arg1)) (m ((c : Thread nD τ).loc main_arg2)) ⟨512 * (t.val / 6) + R.val, by have := lt96 t; omega⟩)
          (m ((c : Thread nD τ).loc main_arg3) (ix2 1 e)) e := by
  unfold norms normRows
  refine (pay2_apply _ _ _ _ _ _ R e).trans ?_
  exact congrArg₂ (fun f g => rms f g e) (funext fun e => stream_apply m c t R e) ((iblk4 m c t e).trans (entry4 m c e))

/-- The kernel's result arrays. -/
theorem arrayX_eq (c : Dev nD) :
    (dats m 0 c).arrAt 7 cfg0.N
      = mixedArr (m ((c : Thread nD τ).loc main_arg0)) (m ((c : Thread nD τ).loc main_arg1)) (m ((c : Thread nD τ).loc main_arg2)) := by
  refine (dats m 0 c).arrAt_eq_of_covers 7 _ (by decide +kernel) fun t hf y => ?_
  have hN := lt96 t
  refine (congrFun (congrArg ((cfg0.win 7).cut (cfg0.grid.coords t)) (after7 m c t)) y).trans ?_
  show stream m c t y = _
  rw [show y = ix2 (y 0) (y 1) from eq_ix2 y]
  refine (stream_apply m c t (y 0) (y 1)).trans ?_
  refine Eq.trans ?_ (congrArg (mixedArr _ _ _) (?_ : ix2 (⟨512 * (t.val / 6) + (y 0).val, by have : (y 0).val < 512 := (y 0).isLt; omega⟩ : Fin 8192) (y 1) = _))
  · exact (mixedArr_apply _ _ _ _ _).symm
  · refine Eq.symm ?_
    blk_simp
    simp only [index7 t]
    funext a
    refine Fin.ext ?_
    fin_cases a
    · have e : win0_7.index t 0 = t.val / 6 := congrFun (index7 t) 0
      show win0_7.index t 0 * 512 + 1 * (y 0).val = 512 * (t.val / 6) + (y 0).val
      generalize (y 0).val = z
      omega
    · have e : win0_7.index t 1 = 0 := congrFun (index7 t) 1
      show win0_7.index t 1 * 2048 + 1 * (y 1).val = (y 1).val
      generalize (y 1).val = z
      omega

theorem arrayP_eq (c : Dev nD) :
    (dats m 0 c).arrAt 6 cfg0.N
      = projected (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN := lt96 t
  refine (congrFun (congrArg ((cfg0.win 6).cut (cfg0.grid.coords t)) (after6 m c t)) y).trans ?_
  show k0_pay3 (F := Ideal) (norms m c t) (iblk m c 5 t) y = _
  rw [show y = ix2 (y 0) (y 1) from eq_ix2 y]
  refine (pay3_apply _ _ (y 0) (y 1)).trans ?_
  refine Eq.trans ?_ (congrArg (projected _ _ _ _ _) (?_ : ix2 (⟨512 * (t.val / 6) + (y 0).val, by have : (y 0).val < 512 := (y 0).isLt; omega⟩ : Fin 8192) (⟨1024 * (t.val % 6) + (y 1).val, by have : (y 1).val < 1024 := (y 1).isLt; omega⟩ : Fin 6144) = _))
  · refine Eq.trans ?_ (projected_apply _ _ _ _ _ _ _).symm
    refine Finset.sum_congr rfl fun e _ => ?_
    exact congrArg₂ (fun a b : EReal => a * b) (norms_apply m c t (y 0) e) ((iblk5 m c t e (y 1)).trans (entry5 m c e _))
  · refine Eq.symm ?_
    blk_simp
    simp only [index6 t]
    funext a
    refine Fin.ext ?_
    fin_cases a
    · have e : win0_6.index t 0 = t.val / 6 := congrFun (index6 t) 0
      show win0_6.index t 0 * 512 + 1 * (y 0).val = 512 * (t.val / 6) + (y 0).val
      generalize (y 0).val = z
      omega
    · have e : win0_6.index t 1 = t.val % 6 := congrFun (index6 t) 1
      show win0_6.index t 1 * 1024 + 1 * (y 1).val = 1024 * (t.val % 6) + (y 1).val
      generalize (y 1).val = z
      omega

/-- The value claim. -/
theorem algebraic : Cert.algebraic_Kernel7Ideal_Reference7Ideal := by
  intro m ρ m' ρ' _ hag
  refine ⟨fun c => (dats m 0 c).arrAt 6 Cert.Kernel7Ideal.cfg0.N, fun c => (dats m 0 c).arrAt 7 Cert.Kernel7Ideal.cfg0.N,
    (θ_run Cert.Kernel7Ideal.defs _ _).mono (fun _ h c => ⟨(h.1 c).1 6, (h.1 c).1 7, h.2 c⟩)
      (θ_run_and (run_main m ρ) (frame_of m ρ (dats m) (A_eq m) (run_main m ρ))), ?_⟩
  refine (θ_run Cert.Reference7Ideal.defs _ _).mono (fun _ h c => ⟨(h c).1.trans ?_, (h c).2.1.trans ?_, (h c).2.2⟩) (Cert.Reference7Ideal.Value.run (F := Ideal) m' ρ')
  · obtain ⟨h0, h1, h2, h3, h4⟩ := hag c
    refine Eq.trans ?_ ((congr (congr (congr (congr (congrArg projected h0) h1) h2) h3) h4).trans (arrayP_eq m c).symm)
    funext y
    idx_vars y
    rw [projected_apply]
    unfold rms mixed
    pointwise
  · obtain ⟨h0, h1, h2, h3, h4⟩ := hag c
    refine Eq.trans ?_ ((congr (congr (congrArg mixedArr h0) h1) h2).trans (arrayX_eq m c).symm)
    funext y
    idx_vars y
    rw [mixedArr_apply]
    unfold mixed
    pointwise

/-- The reference runs, keeps its arguments and declares no semaphore. -/
theorem frame_ref : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

end Cert.SecondNormProj

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Close
public import proofs.«01_k».proof.Proof.NormProj
public import proofs.«01_k».proof.Proof.FinalNorm
public import proofs.«01_k».proof.Proof.SecondClose
public import proofs.«01_k».proof.Proof.OutProj
public import proofs.«01_k».proof.Proof.SecondOutProj
public import proofs.«01_k».proof.Proof.SecondNormProj

@[expose] public section

noncomputable section

namespace Cert.Proof

open Idealize.ShloMosaic

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.DiffAttn.preFacts,
    fun m ρ _ => Cert.Kernel.Gen.frame m ρ, fun m ρ _ => Cert.KernelIdeal.Gen.frame m ρ, fun m ρ _ => Cert.KernelIdeal.Gen.frame m ρ,
    Cert.DiffAttn.frame_ref, fun m ρ _ => Cert.DiffAttn.frame_ref m ρ trivial,
    fun m ρ _ => Cert.Kernel2.Gen.frame m ρ, fun m ρ _ => Cert.Kernel2Ideal.Gen.frame m ρ, Cert.NormProj.frame_ref,
    fun m ρ _ => Cert.Kernel3.Gen.frame m ρ, fun m ρ _ => Cert.Kernel3Ideal.Gen.frame m ρ, Cert.FinalNorm.frame_ref,
    fun m ρ _ => Cert.Kernel4.Gen.frame m ρ, fun m ρ _ => Cert.Kernel4Ideal.Gen.frame m ρ, fun m ρ _ => Cert.Kernel4Ideal.Gen.frame m ρ,
    Cert.DiffAttn.Second.frame_ref, fun m ρ _ => Cert.DiffAttn.Second.frame_ref m ρ trivial,
    fun m ρ _ => Cert.Kernel5.Gen.frame m ρ, fun m ρ _ => Cert.Kernel5Ideal.Gen.frame m ρ, Cert.OutProj.frame_ref,
    fun m ρ _ => Cert.Kernel6.Gen.frame m ρ, fun m ρ _ => Cert.Kernel6Ideal.Gen.frame m ρ, Cert.SecondOutProj.frame_ref,
    fun m ρ _ => Cert.SecondNormProj.Words.frame m ρ, fun m ρ _ => Cert.SecondNormProj.frame m ρ, Cert.SecondNormProj.frame_ref,
    trivial, Cert.DiffAttn.algebraic, trivial, Cert.NormProj.algebraic, trivial, Cert.FinalNorm.algebraic,
    trivial, Cert.DiffAttn.Second.algebraic, trivial, Cert.OutProj.algebraic, trivial, Cert.SecondOutProj.algebraic,
    trivial, Cert.SecondNormProj.algebraic⟩

end Cert.Proof

end
